-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_RnnIn (m : (ℓ : Loc Cert.RnnIn.nD Cert.RnnIn.τ Cert.RnnIn.sig) → Buf (Elt Bits) ℓ) : Prop :=
  True

def Pre_RnnInIdeal (m : (ℓ : Loc Cert.RnnInIdeal.nD Cert.RnnInIdeal.τ Cert.RnnInIdeal.sig) → Buf (Elt Ideal) ℓ) : Prop :=
  True

def Pre_RnnInReferenceIdeal (m : (ℓ : Loc Cert.RnnInReferenceIdeal.nD Cert.RnnInReferenceIdeal.τ Cert.RnnInReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_SampleIn (m : (ℓ : Loc Cert.SampleIn.nD Cert.SampleIn.τ Cert.SampleIn.sig) → Buf (Elt Bits) ℓ) : Prop :=
  True

def Pre_SampleInIdeal (m : (ℓ : Loc Cert.SampleInIdeal.nD Cert.SampleInIdeal.τ Cert.SampleInIdeal.sig) → Buf (Elt Ideal) ℓ) : Prop :=
  True

def Pre_SampleInReferenceIdeal (m : (ℓ : Loc Cert.SampleInReferenceIdeal.nD Cert.SampleInReferenceIdeal.τ Cert.SampleInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_RnnIn [hRnnIn : Cert.RnnIn.Facts] : Prop :=
  ∀ (m : (ℓ : Loc Cert.RnnIn.nD Cert.RnnIn.τ Cert.RnnIn.sig) → Buf (Elt Bits) ℓ) (g : Dev Cert.RnnIn.nD → PrngReg), Pre_RnnIn m →
    θ_run (Cert.RnnIn.defs (F := Bits)) (onTc (τ := Cert.RnnIn.τ) (Cert.RnnIn.main (F := Bits))) ⟨m, fun _ => 0, g⟩ (fun r => (∀ c : Dev Cert.RnnIn.nD,
      r.2.mem ((c.tc : Thread Cert.RnnIn.nD Cert.RnnIn.τ).loc Cert.RnnIn.main_arg0) = m ((c.tc : Thread Cert.RnnIn.nD Cert.RnnIn.τ).loc Cert.RnnIn.main_arg0)
      ∧ r.2.mem ((c.tc : Thread Cert.RnnIn.nD Cert.RnnIn.τ).loc Cert.RnnIn.main_arg1) = m ((c.tc : Thread Cert.RnnIn.nD Cert.RnnIn.τ).loc Cert.RnnIn.main_arg1)
      ∧ r.2.mem ((c.tc : Thread Cert.RnnIn.nD Cert.RnnIn.τ).loc Cert.RnnIn.main_arg2) = m ((c.tc : Thread Cert.RnnIn.nD Cert.RnnIn.τ).loc Cert.RnnIn.main_arg2))
      ∧ r.2.sem = fun _ => 0)

def quiescent_RnnInIdeal [hRnnInIdeal : Cert.RnnInIdeal.Facts] : Prop :=
  ∀ (m : (ℓ : Loc Cert.RnnInIdeal.nD Cert.RnnInIdeal.τ Cert.RnnInIdeal.sig) → Buf (Elt Ideal) ℓ) (g : Dev Cert.RnnInIdeal.nD → PrngReg), Pre_RnnInIdeal m →
    θ_run (Cert.RnnInIdeal.defs (F := Ideal)) (onTc (τ := Cert.RnnInIdeal.τ) (Cert.RnnInIdeal.main (F := Ideal))) ⟨m, fun _ => 0, g⟩ (fun r => (∀ c : Dev Cert.RnnInIdeal.nD,
      r.2.mem ((c.tc : Thread Cert.RnnInIdeal.nD Cert.RnnInIdeal.τ).loc Cert.RnnInIdeal.main_arg0) = m ((c.tc : Thread Cert.RnnInIdeal.nD Cert.RnnInIdeal.τ).loc Cert.RnnInIdeal.main_arg0)
      ∧ r.2.mem ((c.tc : Thread Cert.RnnInIdeal.nD Cert.RnnInIdeal.τ).loc Cert.RnnInIdeal.main_arg1) = m ((c.tc : Thread Cert.RnnInIdeal.nD Cert.RnnInIdeal.τ).loc Cert.RnnInIdeal.main_arg1)
      ∧ r.2.mem ((c.tc : Thread Cert.RnnInIdeal.nD Cert.RnnInIdeal.τ).loc Cert.RnnInIdeal.main_arg2) = m ((c.tc : Thread Cert.RnnInIdeal.nD Cert.RnnInIdeal.τ).loc Cert.RnnInIdeal.main_arg2))
      ∧ r.2.sem = fun _ => 0)

def quiescent_RnnInReferenceIdeal [hRnnInReferenceIdeal : Cert.RnnInReferenceIdeal.Facts] : Prop :=
  ∀ (m : (ℓ : Loc Cert.RnnInReferenceIdeal.nD Cert.RnnInReferenceIdeal.τ Cert.RnnInReferenceIdeal.sig) → Buf (Elt Ideal) ℓ) (g : Dev Cert.RnnInReferenceIdeal.nD → PrngReg), Pre_RnnInReferenceIdeal m →
    θ_run (Cert.RnnInReferenceIdeal.defs (F := Ideal)) (onTc (τ := Cert.RnnInReferenceIdeal.τ) (Cert.RnnInReferenceIdeal.main (F := Ideal))) ⟨m, fun _ => 0, g⟩ (fun r => (∀ c : Dev Cert.RnnInReferenceIdeal.nD,
      r.2.mem ((c.tc : Thread Cert.RnnInReferenceIdeal.nD Cert.RnnInReferenceIdeal.τ).loc Cert.RnnInReferenceIdeal.main_arg0) = m ((c.tc : Thread Cert.RnnInReferenceIdeal.nD Cert.RnnInReferenceIdeal.τ).loc Cert.RnnInReferenceIdeal.main_arg0)
      ∧ r.2.mem ((c.tc : Thread Cert.RnnInReferenceIdeal.nD Cert.RnnInReferenceIdeal.τ).loc Cert.RnnInReferenceIdeal.main_arg1) = m ((c.tc : Thread Cert.RnnInReferenceIdeal.nD Cert.RnnInReferenceIdeal.τ).loc Cert.RnnInReferenceIdeal.main_arg1)
      ∧ r.2.mem ((c.tc : Thread Cert.RnnInReferenceIdeal.nD Cert.RnnInReferenceIdeal.τ).loc Cert.RnnInReferenceIdeal.main_arg2) = m ((c.tc : Thread Cert.RnnInReferenceIdeal.nD Cert.RnnInReferenceIdeal.τ).loc Cert.RnnInReferenceIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4))
      ∧ r.2.sem = fun _ => 0)

def quiescent_SampleIn [hSampleIn : Cert.SampleIn.Facts] : Prop :=
  ∀ (m : (ℓ : Loc Cert.SampleIn.nD Cert.SampleIn.τ Cert.SampleIn.sig) → Buf (Elt Bits) ℓ) (g : Dev Cert.SampleIn.nD → PrngReg), Pre_SampleIn m →
    θ_run (Cert.SampleIn.defs (F := Bits)) (onTc (τ := Cert.SampleIn.τ) (Cert.SampleIn.main (F := Bits))) ⟨m, fun _ => 0, g⟩ (fun r => (∀ c : Dev Cert.SampleIn.nD,
      r.2.mem ((c.tc : Thread Cert.SampleIn.nD Cert.SampleIn.τ).loc Cert.SampleIn.main_arg0) = m ((c.tc : Thread Cert.SampleIn.nD Cert.SampleIn.τ).loc Cert.SampleIn.main_arg0)
      ∧ r.2.mem ((c.tc : Thread Cert.SampleIn.nD Cert.SampleIn.τ).loc Cert.SampleIn.main_arg1) = m ((c.tc : Thread Cert.SampleIn.nD Cert.SampleIn.τ).loc Cert.SampleIn.main_arg1)
      ∧ r.2.mem ((c.tc : Thread Cert.SampleIn.nD Cert.SampleIn.τ).loc Cert.SampleIn.main_arg2) = m ((c.tc : Thread Cert.SampleIn.nD Cert.SampleIn.τ).loc Cert.SampleIn.main_arg2))
      ∧ r.2.sem = fun _ => 0)

def quiescent_SampleInIdeal [hSampleInIdeal : Cert.SampleInIdeal.Facts] : Prop :=
  ∀ (m : (ℓ : Loc Cert.SampleInIdeal.nD Cert.SampleInIdeal.τ Cert.SampleInIdeal.sig) → Buf (Elt Ideal) ℓ) (g : Dev Cert.SampleInIdeal.nD → PrngReg), Pre_SampleInIdeal m →
    θ_run (Cert.SampleInIdeal.defs (F := Ideal)) (onTc (τ := Cert.SampleInIdeal.τ) (Cert.SampleInIdeal.main (F := Ideal))) ⟨m, fun _ => 0, g⟩ (fun r => (∀ c : Dev Cert.SampleInIdeal.nD,
      r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
      ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
      ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2))
      ∧ r.2.sem = fun _ => 0)

def quiescent_SampleInReferenceIdeal [hSampleInReferenceIdeal : Cert.SampleInReferenceIdeal.Facts] : Prop :=
  ∀ (m : (ℓ : Loc Cert.SampleInReferenceIdeal.nD Cert.SampleInReferenceIdeal.τ Cert.SampleInReferenceIdeal.sig) → Buf (Elt Ideal) ℓ) (g : Dev Cert.SampleInReferenceIdeal.nD → PrngReg), Pre_SampleInReferenceIdeal m →
    θ_run (Cert.SampleInReferenceIdeal.defs (F := Ideal)) (onTc (τ := Cert.SampleInReferenceIdeal.τ) (Cert.SampleInReferenceIdeal.main (F := Ideal))) ⟨m, fun _ => 0, g⟩ (fun r => (∀ c : Dev Cert.SampleInReferenceIdeal.nD,
      r.2.mem ((c.tc : Thread Cert.SampleInReferenceIdeal.nD Cert.SampleInReferenceIdeal.τ).loc Cert.SampleInReferenceIdeal.main_arg0) = m ((c.tc : Thread Cert.SampleInReferenceIdeal.nD Cert.SampleInReferenceIdeal.τ).loc Cert.SampleInReferenceIdeal.main_arg0)
      ∧ r.2.mem ((c.tc : Thread Cert.SampleInReferenceIdeal.nD Cert.SampleInReferenceIdeal.τ).loc Cert.SampleInReferenceIdeal.main_arg1) = m ((c.tc : Thread Cert.SampleInReferenceIdeal.nD Cert.SampleInReferenceIdeal.τ).loc Cert.SampleInReferenceIdeal.main_arg1)
      ∧ r.2.mem ((c.tc : Thread Cert.SampleInReferenceIdeal.nD Cert.SampleInReferenceIdeal.τ).loc Cert.SampleInReferenceIdeal.main_arg2) = m ((c.tc : Thread Cert.SampleInReferenceIdeal.nD Cert.SampleInReferenceIdeal.τ).loc Cert.SampleInReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v92_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v30) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v36_0)) (v1 : (c : Dev Cert.InProjIdeal.nD) → Buf (Elt Ideal) ((c.tc : Thread Cert.InProjIdeal.nD Cert.InProjIdeal.τ).loc Cert.InProjIdeal.main_v36_1)) (v2 : (c : Dev Cert.InProjIdeal.nD) → Buf (Elt Ideal) ((c.tc : Thread Cert.InProjIdeal.nD Cert.InProjIdeal.τ).loc Cert.InProjIdeal.main_v36_2)) (v3 : (c : Dev Cert.InProjIdeal.nD) → Buf (Elt Ideal) ((c.tc : Thread Cert.InProjIdeal.nD Cert.InProjIdeal.τ).loc Cert.InProjIdeal.main_v36_3)) (v4 : (c : Dev Cert.InProjIdeal.nD) → Buf (Elt Ideal) ((c.tc : Thread Cert.InProjIdeal.nD Cert.InProjIdeal.τ).loc Cert.InProjIdeal.main_v36_4)) (v5 : (c : Dev Cert.InProjIdeal.nD) → Buf (Elt Ideal) ((c.tc : Thread Cert.InProjIdeal.nD Cert.InProjIdeal.τ).loc Cert.InProjIdeal.main_v36_5)) (v6 : (c : Dev Cert.InProjIdeal.nD) → Buf (Elt Ideal) ((c.tc : Thread Cert.InProjIdeal.nD Cert.InProjIdeal.τ).loc Cert.InProjIdeal.main_v36_6)) (v7 : (c : Dev Cert.InProjIdeal.nD) → Buf (Elt Ideal) ((c.tc : Thread Cert.InProjIdeal.nD Cert.InProjIdeal.τ).loc Cert.InProjIdeal.main_v36_7)) (v8 : (c : Dev Cert.InProjIdeal.nD) → Buf (Elt Ideal) ((c.tc : Thread Cert.InProjIdeal.nD Cert.InProjIdeal.τ).loc Cert.InProjIdeal.main_v36_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v36_0) = v0 c
          ∧ r.2.mem ((c.tc : Thread Cert.InProjIdeal.nD Cert.InProjIdeal.τ).loc Cert.InProjIdeal.main_v36_1) = v1 c
          ∧ r.2.mem ((c.tc : Thread Cert.InProjIdeal.nD Cert.InProjIdeal.τ).loc Cert.InProjIdeal.main_v36_2) = v2 c
          ∧ r.2.mem ((c.tc : Thread Cert.InProjIdeal.nD Cert.InProjIdeal.τ).loc Cert.InProjIdeal.main_v36_3) = v3 c
          ∧ r.2.mem ((c.tc : Thread Cert.InProjIdeal.nD Cert.InProjIdeal.τ).loc Cert.InProjIdeal.main_v36_4) = v4 c
          ∧ r.2.mem ((c.tc : Thread Cert.InProjIdeal.nD Cert.InProjIdeal.τ).loc Cert.InProjIdeal.main_v36_5) = v5 c
          ∧ r.2.mem ((c.tc : Thread Cert.InProjIdeal.nD Cert.InProjIdeal.τ).loc Cert.InProjIdeal.main_v36_6) = v6 c
          ∧ r.2.mem ((c.tc : Thread Cert.InProjIdeal.nD Cert.InProjIdeal.τ).loc Cert.InProjIdeal.main_v36_7) = v7 c
          ∧ r.2.mem ((c.tc : Thread Cert.InProjIdeal.nD Cert.InProjIdeal.τ).loc Cert.InProjIdeal.main_v36_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v116) = v0 c
          ∧ r.2.mem ((c.tc : Thread Cert.InProjReferenceIdeal.nD Cert.InProjReferenceIdeal.τ).loc Cert.InProjReferenceIdeal.main_v117) = v1 c
          ∧ r.2.mem ((c.tc : Thread Cert.InProjReferenceIdeal.nD Cert.InProjReferenceIdeal.τ).loc Cert.InProjReferenceIdeal.main_v118) = v2 c
          ∧ r.2.mem ((c.tc : Thread Cert.InProjReferenceIdeal.nD Cert.InProjReferenceIdeal.τ).loc Cert.InProjReferenceIdeal.main_v119) = v3 c
          ∧ r.2.mem ((c.tc : Thread Cert.InProjReferenceIdeal.nD Cert.InProjReferenceIdeal.τ).loc Cert.InProjReferenceIdeal.main_v120) = v4 c
          ∧ r.2.mem ((c.tc : Thread Cert.InProjReferenceIdeal.nD Cert.InProjReferenceIdeal.τ).loc Cert.InProjReferenceIdeal.main_v121) = v5 c
          ∧ r.2.mem ((c.tc : Thread Cert.InProjReferenceIdeal.nD Cert.InProjReferenceIdeal.τ).loc Cert.InProjReferenceIdeal.main_v122) = v6 c
          ∧ r.2.mem ((c.tc : Thread Cert.InProjReferenceIdeal.nD Cert.InProjReferenceIdeal.τ).loc Cert.InProjReferenceIdeal.main_v123) = v7 c
          ∧ r.2.mem ((c.tc : Thread Cert.InProjReferenceIdeal.nD Cert.InProjReferenceIdeal.τ).loc Cert.InProjReferenceIdeal.main_v124) = v8 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_RnnIn_RnnInIdeal : Prop :=
  True

def algebraic_RnnInIdeal_RnnInReferenceIdeal [hRnnInIdeal : Cert.RnnInIdeal.Facts] [hRnnInReferenceIdeal : Cert.RnnInReferenceIdeal.Facts] : Prop :=
  ∀ (m : (ℓ : Loc Cert.RnnInIdeal.nD Cert.RnnInIdeal.τ Cert.RnnInIdeal.sig) → Buf (Elt Ideal) ℓ) (g : Dev Cert.RnnInIdeal.nD → PrngReg)
    (m' : (ℓ : Loc Cert.RnnInReferenceIdeal.nD Cert.RnnInReferenceIdeal.τ Cert.RnnInReferenceIdeal.sig) → Buf (Elt Ideal) ℓ) (g' : Dev Cert.RnnInReferenceIdeal.nD → PrngReg), Pre_RnnInIdeal m →
    (∀ c : Dev Cert.RnnInIdeal.nD,
      m' ((c.tc : Thread Cert.RnnInReferenceIdeal.nD Cert.RnnInReferenceIdeal.τ).loc Cert.RnnInReferenceIdeal.main_arg0) = m ((c.tc : Thread Cert.RnnInIdeal.nD Cert.RnnInIdeal.τ).loc Cert.RnnInIdeal.main_arg0)
      ∧ m' ((c.tc : Thread Cert.RnnInReferenceIdeal.nD Cert.RnnInReferenceIdeal.τ).loc Cert.RnnInReferenceIdeal.main_arg1) = m ((c.tc : Thread Cert.RnnInIdeal.nD Cert.RnnInIdeal.τ).loc Cert.RnnInIdeal.main_arg1)
      ∧ m' ((c.tc : Thread Cert.RnnInReferenceIdeal.nD Cert.RnnInReferenceIdeal.τ).loc Cert.RnnInReferenceIdeal.main_arg2) = m ((c.tc : Thread Cert.RnnInIdeal.nD Cert.RnnInIdeal.τ).loc Cert.RnnInIdeal.main_arg2)) →
    ∃ (v0 : (c : Dev Cert.RnnInIdeal.nD) → Buf (Elt Ideal) ((c.tc : Thread Cert.RnnInIdeal.nD Cert.RnnInIdeal.τ).loc Cert.RnnInIdeal.main_v35_0)) (v1 : (c : Dev Cert.RnnInIdeal.nD) → Buf (Elt Ideal) ((c.tc : Thread Cert.RnnInIdeal.nD Cert.RnnInIdeal.τ).loc Cert.RnnInIdeal.main_v35_1)),
      θ_run (Cert.RnnInIdeal.defs (F := Ideal)) (onTc (τ := Cert.RnnInIdeal.τ) (Cert.RnnInIdeal.main (F := Ideal))) ⟨m, fun _ => 0, g⟩ (fun r => ∀ c : Dev Cert.RnnInIdeal.nD,
          r.2.mem ((c.tc : Thread Cert.RnnInIdeal.nD Cert.RnnInIdeal.τ).loc Cert.RnnInIdeal.main_v35_0) = v0 c
          ∧ r.2.mem ((c.tc : Thread Cert.RnnInIdeal.nD Cert.RnnInIdeal.τ).loc Cert.RnnInIdeal.main_v35_1) = v1 c
          ∧ r.2.mem ((c.tc : Thread Cert.RnnInIdeal.nD Cert.RnnInIdeal.τ).loc Cert.RnnInIdeal.main_arg0) = m ((c.tc : Thread Cert.RnnInIdeal.nD Cert.RnnInIdeal.τ).loc Cert.RnnInIdeal.main_arg0)
          ∧ r.2.mem ((c.tc : Thread Cert.RnnInIdeal.nD Cert.RnnInIdeal.τ).loc Cert.RnnInIdeal.main_arg1) = m ((c.tc : Thread Cert.RnnInIdeal.nD Cert.RnnInIdeal.τ).loc Cert.RnnInIdeal.main_arg1)
          ∧ r.2.mem ((c.tc : Thread Cert.RnnInIdeal.nD Cert.RnnInIdeal.τ).loc Cert.RnnInIdeal.main_arg2) = m ((c.tc : Thread Cert.RnnInIdeal.nD Cert.RnnInIdeal.τ).loc Cert.RnnInIdeal.main_arg2))
      ∧ θ_run (Cert.RnnInReferenceIdeal.defs (F := Ideal)) (onTc (τ := Cert.RnnInReferenceIdeal.τ) (Cert.RnnInReferenceIdeal.main (F := Ideal))) ⟨m', fun _ => 0, g'⟩ (fun r => ∀ c : Dev Cert.RnnInReferenceIdeal.nD,
          r.2.mem ((c.tc : Thread Cert.RnnInReferenceIdeal.nD Cert.RnnInReferenceIdeal.τ).loc Cert.RnnInReferenceIdeal.main_v14) = v0 c
          ∧ r.2.mem ((c.tc : Thread Cert.RnnInReferenceIdeal.nD Cert.RnnInReferenceIdeal.τ).loc Cert.RnnInReferenceIdeal.main_v15) = v1 c
          ∧ r.2.mem ((c.tc : Thread Cert.RnnInReferenceIdeal.nD Cert.RnnInReferenceIdeal.τ).loc Cert.RnnInReferenceIdeal.main_arg0) = m' ((c.tc : Thread Cert.RnnInReferenceIdeal.nD Cert.RnnInReferenceIdeal.τ).loc Cert.RnnInReferenceIdeal.main_arg0)
          ∧ r.2.mem ((c.tc : Thread Cert.RnnInReferenceIdeal.nD Cert.RnnInReferenceIdeal.τ).loc Cert.RnnInReferenceIdeal.main_arg1) = m' ((c.tc : Thread Cert.RnnInReferenceIdeal.nD Cert.RnnInReferenceIdeal.τ).loc Cert.RnnInReferenceIdeal.main_arg1)
          ∧ r.2.mem ((c.tc : Thread Cert.RnnInReferenceIdeal.nD Cert.RnnInReferenceIdeal.τ).loc Cert.RnnInReferenceIdeal.main_arg2) = m' ((c.tc : Thread Cert.RnnInReferenceIdeal.nD Cert.RnnInReferenceIdeal.τ).loc Cert.RnnInReferenceIdeal.main_arg2))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)
      ∧ m' ((c.tc : Thread Cert.AttnOutReferenceIdeal.nD Cert.AttnOutReferenceIdeal.τ).loc Cert.AttnOutReferenceIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v15) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3)
          ∧ r.2.mem ((c.tc : Thread Cert.AttnOutReferenceIdeal.nD Cert.AttnOutReferenceIdeal.τ).loc Cert.AttnOutReferenceIdeal.main_arg4) = m' ((c.tc : Thread Cert.AttnOutReferenceIdeal.nD Cert.AttnOutReferenceIdeal.τ).loc Cert.AttnOutReferenceIdeal.main_arg4))

def preserves_SampleIn_SampleInIdeal : Prop :=
  True

def algebraic_SampleInIdeal_SampleInReferenceIdeal [hSampleInIdeal : Cert.SampleInIdeal.Facts] [hSampleInReferenceIdeal : Cert.SampleInReferenceIdeal.Facts] : Prop :=
  ∀ (m : (ℓ : Loc Cert.SampleInIdeal.nD Cert.SampleInIdeal.τ Cert.SampleInIdeal.sig) → Buf (Elt Ideal) ℓ) (g : Dev Cert.SampleInIdeal.nD → PrngReg)
    (m' : (ℓ : Loc Cert.SampleInReferenceIdeal.nD Cert.SampleInReferenceIdeal.τ Cert.SampleInReferenceIdeal.sig) → Buf (Elt Ideal) ℓ) (g' : Dev Cert.SampleInReferenceIdeal.nD → PrngReg), Pre_SampleInIdeal m →
    (∀ c : Dev Cert.SampleInIdeal.nD,
      m' ((c.tc : Thread Cert.SampleInReferenceIdeal.nD Cert.SampleInReferenceIdeal.τ).loc Cert.SampleInReferenceIdeal.main_arg0) = m ((c.tc : Thread Cert.SampleInIdeal.nD Cert.SampleInIdeal.τ).loc Cert.SampleInIdeal.main_arg0)
      ∧ m' ((c.tc : Thread Cert.SampleInReferenceIdeal.nD Cert.SampleInReferenceIdeal.τ).loc Cert.SampleInReferenceIdeal.main_arg1) = m ((c.tc : Thread Cert.SampleInIdeal.nD Cert.SampleInIdeal.τ).loc Cert.SampleInIdeal.main_arg1)
      ∧ m' ((c.tc : Thread Cert.SampleInReferenceIdeal.nD Cert.SampleInReferenceIdeal.τ).loc Cert.SampleInReferenceIdeal.main_arg2) = m ((c.tc : Thread Cert.SampleInIdeal.nD Cert.SampleInIdeal.τ).loc Cert.SampleInIdeal.main_arg2)) →
    ∃ (v0 : (c : Dev Cert.SampleInIdeal.nD) → Buf (Elt Ideal) ((c.tc : Thread Cert.SampleInIdeal.nD Cert.SampleInIdeal.τ).loc Cert.SampleInIdeal.main_v36_0)) (v1 : (c : Dev Cert.SampleInIdeal.nD) → Buf (Elt Ideal) ((c.tc : Thread Cert.SampleInIdeal.nD Cert.SampleInIdeal.τ).loc Cert.SampleInIdeal.main_v36_1)) (v2 : (c : Dev Cert.SampleInIdeal.nD) → Buf (Elt Ideal) ((c.tc : Thread Cert.SampleInIdeal.nD Cert.SampleInIdeal.τ).loc Cert.SampleInIdeal.main_v36_2)) (v3 : (c : Dev Cert.SampleInIdeal.nD) → Buf (Elt Ideal) ((c.tc : Thread Cert.SampleInIdeal.nD Cert.SampleInIdeal.τ).loc Cert.SampleInIdeal.main_v36_3)) (v4 : (c : Dev Cert.SampleInIdeal.nD) → Buf (Elt Ideal) ((c.tc : Thread Cert.SampleInIdeal.nD Cert.SampleInIdeal.τ).loc Cert.SampleInIdeal.main_v36_4)) (v5 : (c : Dev Cert.SampleInIdeal.nD) → Buf (Elt Ideal) ((c.tc : Thread Cert.SampleInIdeal.nD Cert.SampleInIdeal.τ).loc Cert.SampleInIdeal.main_v36_5)),
      θ_run (Cert.SampleInIdeal.defs (F := Ideal)) (onTc (τ := Cert.SampleInIdeal.τ) (Cert.SampleInIdeal.main (F := Ideal))) ⟨m, fun _ => 0, g⟩ (fun r => ∀ c : Dev Cert.SampleInIdeal.nD,
          r.2.mem ((c.tc : Thread Cert.SampleInIdeal.nD Cert.SampleInIdeal.τ).loc Cert.SampleInIdeal.main_v36_0) = v0 c
          ∧ r.2.mem ((c.tc : Thread Cert.SampleInIdeal.nD Cert.SampleInIdeal.τ).loc Cert.SampleInIdeal.main_v36_1) = v1 c
          ∧ r.2.mem ((c.tc : Thread Cert.SampleInIdeal.nD Cert.SampleInIdeal.τ).loc Cert.SampleInIdeal.main_v36_2) = v2 c
          ∧ r.2.mem ((c.tc : Thread Cert.SampleInIdeal.nD Cert.SampleInIdeal.τ).loc Cert.SampleInIdeal.main_v36_3) = v3 c
          ∧ r.2.mem ((c.tc : Thread Cert.SampleInIdeal.nD Cert.SampleInIdeal.τ).loc Cert.SampleInIdeal.main_v36_4) = v4 c
          ∧ r.2.mem ((c.tc : Thread Cert.SampleInIdeal.nD Cert.SampleInIdeal.τ).loc Cert.SampleInIdeal.main_v36_5) = v5 c
          ∧ r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
          ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
          ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2))
      ∧ θ_run (Cert.SampleInReferenceIdeal.defs (F := Ideal)) (onTc (τ := Cert.SampleInReferenceIdeal.τ) (Cert.SampleInReferenceIdeal.main (F := Ideal))) ⟨m', fun _ => 0, g'⟩ (fun r => ∀ c : Dev Cert.SampleInReferenceIdeal.nD,
          r.2.mem ((c.tc : Thread Cert.SampleInReferenceIdeal.nD Cert.SampleInReferenceIdeal.τ).loc Cert.SampleInReferenceIdeal.main_v117) = v0 c
          ∧ r.2.mem ((c.tc : Thread Cert.SampleInReferenceIdeal.nD Cert.SampleInReferenceIdeal.τ).loc Cert.SampleInReferenceIdeal.main_v118) = v1 c
          ∧ r.2.mem ((c.tc : Thread Cert.SampleInReferenceIdeal.nD Cert.SampleInReferenceIdeal.τ).loc Cert.SampleInReferenceIdeal.main_v119) = v2 c
          ∧ r.2.mem ((c.tc : Thread Cert.SampleInReferenceIdeal.nD Cert.SampleInReferenceIdeal.τ).loc Cert.SampleInReferenceIdeal.main_v120) = v3 c
          ∧ r.2.mem ((c.tc : Thread Cert.SampleInReferenceIdeal.nD Cert.SampleInReferenceIdeal.τ).loc Cert.SampleInReferenceIdeal.main_v121) = v4 c
          ∧ r.2.mem ((c.tc : Thread Cert.SampleInReferenceIdeal.nD Cert.SampleInReferenceIdeal.τ).loc Cert.SampleInReferenceIdeal.main_v122) = v5 c
          ∧ r.2.mem ((c.tc : Thread Cert.SampleInReferenceIdeal.nD Cert.SampleInReferenceIdeal.τ).loc Cert.SampleInReferenceIdeal.main_arg0) = m' ((c.tc : Thread Cert.SampleInReferenceIdeal.nD Cert.SampleInReferenceIdeal.τ).loc Cert.SampleInReferenceIdeal.main_arg0)
          ∧ r.2.mem ((c.tc : Thread Cert.SampleInReferenceIdeal.nD Cert.SampleInReferenceIdeal.τ).loc Cert.SampleInReferenceIdeal.main_arg1) = m' ((c.tc : Thread Cert.SampleInReferenceIdeal.nD Cert.SampleInReferenceIdeal.τ).loc Cert.SampleInReferenceIdeal.main_arg1)
          ∧ r.2.mem ((c.tc : Thread Cert.SampleInReferenceIdeal.nD Cert.SampleInReferenceIdeal.τ).loc Cert.SampleInReferenceIdeal.main_arg2) = m' ((c.tc : Thread Cert.SampleInReferenceIdeal.nD Cert.SampleInReferenceIdeal.τ).loc Cert.SampleInReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hInProj : Cert.InProj.Facts) (hInProjIdeal : Cert.InProjIdeal.Facts) (hInProjReferenceIdeal : Cert.InProjReferenceIdeal.Facts) (hRnnIn : Cert.RnnIn.Facts) (hRnnInIdeal : Cert.RnnInIdeal.Facts) (hRnnInReferenceIdeal : Cert.RnnInReferenceIdeal.Facts) (hAttnOut : Cert.AttnOut.Facts) (hAttnOutIdeal : Cert.AttnOutIdeal.Facts) (hAttnOutReferenceIdeal : Cert.AttnOutReferenceIdeal.Facts) (hSampleIn : Cert.SampleIn.Facts) (hSampleInIdeal : Cert.SampleInIdeal.Facts) (hSampleInReferenceIdeal : Cert.SampleInReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_RnnIn (hRnnIn := hRnnIn)
    ∧ quiescent_RnnInIdeal (hRnnInIdeal := hRnnInIdeal)
    ∧ quiescent_RnnInReferenceIdeal (hRnnInReferenceIdeal := hRnnInReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_SampleIn (hSampleIn := hSampleIn)
    ∧ quiescent_SampleInIdeal (hSampleInIdeal := hSampleInIdeal)
    ∧ quiescent_SampleInReferenceIdeal (hSampleInReferenceIdeal := hSampleInReferenceIdeal)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_InProj_InProjIdeal
    ∧ algebraic_InProjIdeal_InProjReferenceIdeal (hInProjIdeal := hInProjIdeal) (hInProjReferenceIdeal := hInProjReferenceIdeal)
    ∧ preserves_RnnIn_RnnInIdeal
    ∧ algebraic_RnnInIdeal_RnnInReferenceIdeal (hRnnInIdeal := hRnnInIdeal) (hRnnInReferenceIdeal := hRnnInReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_SampleIn_SampleInIdeal
    ∧ algebraic_SampleInIdeal_SampleInReferenceIdeal (hSampleInIdeal := hSampleInIdeal) (hSampleInReferenceIdeal := hSampleInReferenceIdeal)
-- ==== Kernel.lean ====
abbrev S16384x1024 : Shape := ⟨2, ![16384, 1024]⟩
abbrev S4x1024 : Shape := ⟨2, ![4, 1024]⟩
abbrev S1024 : Shape := ⟨1, ![1024]⟩
abbrev S4x256x256 : Shape := ⟨3, ![4, 256, 256]⟩
abbrev S1024x1024 : Shape := ⟨2, ![1024, 1024]⟩
abbrev S8x2048x1024 : Shape := ⟨3, ![8, 2048, 1024]⟩
abbrev S1x1024 : Shape := ⟨2, ![1, 1024]⟩
abbrev S8x3x1024 : Shape := ⟨3, ![8, 3, 1024]⟩
abbrev S8x1024 : Shape := ⟨2, ![8, 1024]⟩
abbrev S8x32x1024 : Shape := ⟨3, ![8, 32, 1024]⟩
abbrev S8x40x1024 : Shape := ⟨3, ![8, 40, 1024]⟩
abbrev S8x8x1024 : Shape := ⟨3, ![8, 8, 1024]⟩
abbrev S1x32x1024 : Shape := ⟨3, ![1, 32, 1024]⟩
abbrev S32x1024 : Shape := ⟨2, ![32, 1024]⟩
abbrev S256x1024 : Shape := ⟨2, ![256, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 26
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S4x256x256, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4x256x256, .bf16⟩
  | .hbm, ⟨13, _⟩ => ⟨S4x256x256, .bf16⟩
  | .hbm, ⟨14, _⟩ => ⟨S1024x1024, .bf16⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8x2048x1024, .f32⟩
  | .hbm, ⟨24, _⟩ => ⟨S8x3x1024, .f32⟩
  | .hbm, ⟨25, _⟩ => ⟨S8x1024, .f32⟩
  | .local _ .vmem, ⟨0, _⟩ => ⟨S8x32x1024, .f32⟩
  | .local _ .vmem, ⟨1, _⟩ => ⟨S8x32x1024, .f32⟩
  | .local _ .vmem, ⟨2, _⟩ => ⟨S8x32x1024, .f32⟩
  | .local _ .vmem, ⟨3, _⟩ => ⟨S8x32x1024, .f32⟩
  | .local _ .vmem, ⟨4, _⟩ => ⟨S8x32x1024, .f32⟩
  | .local _ .vmem, ⟨5, _⟩ => ⟨S8x32x1024, .f32⟩
  | .local _ .vmem, ⟨6, _⟩ => ⟨S4x1024, .f32⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S4x256x256, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S8x32x1024, .f32⟩
  | .local _ .vmem, ⟨16, _⟩ => ⟨S8x32x1024, .f32⟩
  | .local _ .vmem, ⟨17, _⟩ => ⟨S8x3x1024, .f32⟩
  | .local _ .vmem, ⟨18, _⟩ => ⟨S8x1024, .f32⟩
  | .local _ .vmem, ⟨19, _⟩ => ⟨S8x40x1024, .f32⟩
  | .local _ .vmem, ⟨20, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v1598 : BitVec 1 := Scalar.cmpi .eq arg0 c63_i32
  let v1599 : BitVec 32 := Scalar.extui v1598
  let c0_i32_720 : BitVec 32 := 0#32
  let v1600 : BitVec 1 := Scalar.cmpi .ne v1599 c0_i32_720
  v1600

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S16384x1024 : Shape := ⟨2, ![16384, 1024]⟩
abbrev S4x1024 : Shape := ⟨2, ![4, 1024]⟩
abbrev S1024 : Shape := ⟨1, ![1024]⟩
abbrev S4x256x256 : Shape := ⟨3, ![4, 256, 256]⟩
abbrev S1024x1024 : Shape := ⟨2, ![1024, 1024]⟩
abbrev S_ : Shape := ⟨0, ![]⟩
abbrev S8x3x1024 : Shape := ⟨3, ![8, 3, 1024]⟩
abbrev S8x2048x1024 : Shape := ⟨3, ![8, 2048, 1024]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x4x256 : Shape := ⟨4, ![8, 2048, 4, 256]⟩
abbrev S4x256x8x2048 : Shape := ⟨4, ![4, 256, 8, 2048]⟩
abbrev S4x256 : Shape := ⟨2, ![4, 256]⟩
abbrev S1x1x4x256 : Shape := ⟨4, ![1, 1, 4, 256]⟩
abbrev S2048x8x1024 : Shape := ⟨3, ![2048, 8, 1024]⟩
abbrev S8x1024 : Shape := ⟨2, ![8, 1024]⟩
abbrev S1x8x1024 : Shape := ⟨3, ![1, 8, 1024]⟩
abbrev S8x2048 : Shape := ⟨2, ![8, 2048]⟩
abbrev S8x2048x1 : Shape := ⟨3, ![8, 2048, 1]⟩

abbrev nBuf : Space → Nat
  | .hbm => 190
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S4x1024, .f32⟩
  | 4 => ⟨S1024, .f32⟩
  | 5 => ⟨S4x256x256, .f32⟩
  | 6 => ⟨S1024, .f32⟩
  | 7 => ⟨S4x256x256, .f32⟩
  | 8 => ⟨S1024, .f32⟩
  | 9 => ⟨S1024, .f32⟩
  | 10 => ⟨S1024x1024, .f32⟩
  | 11 => ⟨S1024, .f32⟩
  | 12 => ⟨S_, .f32⟩
  | 13 => ⟨S8x3x1024, .f32⟩
  | 14 => ⟨S8x2048x1024, .f32⟩
  | 15 => ⟨S8x2051x1024, .f32⟩
  | 16 => ⟨S8x2048x1024, .f32⟩
  | 17 => ⟨S1x1024, .f32⟩
  | 18 => ⟨S1024, .f32⟩
  | 19 => ⟨S1x1x1024, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x2048x1024, .f32⟩
  | 26 => ⟨S1x1024, .f32⟩
  | 27 => ⟨S1024, .f32⟩
  | 28 => ⟨S1x1x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S1x1024, .f32⟩
  | 34 => ⟨S1024, .f32⟩
  | 35 => ⟨S1x1x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S1x1024, .f32⟩
  | 41 => ⟨S1024, .f32⟩
  | 42 => ⟨S1x1x1024, .f32⟩
  | 43 => ⟨S8x2048x1024, .f32⟩
  | 44 => ⟨S8x2048x1024, .f32⟩
  | 45 => ⟨S8x2048x1024, .f32⟩
  | 46 => ⟨S8x2048x4x256, .f32⟩
  | 47 => ⟨S4x256x8x2048, .f32⟩
  | 48 => ⟨S8x2048x4x256, .f32⟩
  | 49 => ⟨S4x256, .f32⟩
  | 50 => ⟨S1x1x4x256, .f32⟩
  | 51 => ⟨S8x2048x4x256, .f32⟩
  | 52 => ⟨S8x2048x4x256, .f32⟩
  | 53 => ⟨S8x2048x4x256, .f32⟩
  | 54 => ⟨S8x2048x4x256, .f32⟩
  | 55 => ⟨S_, .f32⟩
  | 56 => ⟨S8x2048x4x256, .f32⟩
  | 57 => ⟨S8x2048x4x256, .f32⟩
  | 58 => ⟨S_, .f32⟩
  | 59 => ⟨S8x2048x4x256, .f32⟩
  | 60 => ⟨S8x2048x4x256, .f32⟩
  | 61 => ⟨S8x2048x1024, .f32⟩
  | 62 => ⟨S4x256x8x2048, .f32⟩
  | 63 => ⟨S8x2048x4x256, .f32⟩
  | 64 => ⟨S4x256, .f32⟩
  | 65 => ⟨S1x1x4x256, .f32⟩
  | 66 => ⟨S8x2048x4x256, .f32⟩
  | 67 => ⟨S8x2048x4x256, .f32⟩
  | 68 => ⟨S8x2048x4x256, .f32⟩
  | 69 => ⟨S8x2048x4x256, .f32⟩
  | 70 => ⟨S_, .f32⟩
  | 71 => ⟨S8x2048x4x256, .f32⟩
  | 72 => ⟨S8x2048x4x256, .f32⟩
  | 73 => ⟨S_, .f32⟩
  | 74 => ⟨S8x2048x4x256, .f32⟩
  | 75 => ⟨S8x2048x4x256, .f32⟩
  | 76 => ⟨S8x2048x1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S1024, .f32⟩
  | 83 => ⟨S1024, .i1⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S_, .f32⟩
  | 94 => ⟨S8x2048x1024, .f32⟩
  | 95 => ⟨S8x2048x1024, .f32⟩
  | 96 => ⟨S1x1x1024, .f32⟩
  | 97 => ⟨S8x2048x1024, .f32⟩
  | 98 => ⟨S8x2048x1024, .f32⟩
  | 99 => ⟨S8x2048x1024, .f32⟩
  | 100 => ⟨S_, .f32⟩
  | 101 => ⟨S8x2048x1024, .f32⟩
  | 102 => ⟨S8x2048x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S8x2048x1024, .f32⟩
  | 108 => ⟨S2048x8x1024, .f32⟩
  | 109 => ⟨S2048x8x1024, .f32⟩
  | 110 => ⟨S_, .f32⟩
  | 111 => ⟨S8x1024, .f32⟩
  | 112 => ⟨S_, .f32⟩
  | 113 => ⟨S2048x8x1024, .f32⟩
  | 114 => ⟨S_, .i32⟩
  | 115 => ⟨S_, .i32⟩
  | 116 => ⟨S2048x8x1024, .f32⟩
  | 117 => ⟨S2048x8x1024, .f32⟩
  | 118 => ⟨S_, .i32⟩
  | 119 => ⟨S_, .i32⟩
  | 120 => ⟨S8x1024, .f32⟩
  | 121 => ⟨S2048x8x1024, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S16384x1024, .f32⟩

abbrev hbmTy0_1 (i : Nat) : BufTy := match i % 128 with
  | 0 => ⟨S1x8x1024, .f32⟩
  | 1 => ⟨S8x1024, .f32⟩
  | 2 => ⟨S8x1024, .f32⟩
  | 3 => ⟨S_, .i32⟩
  | 4 => ⟨S_, .i32⟩
  | 5 => ⟨S1x8x1024, .f32⟩
  | 6 => ⟨S8x1024, .f32⟩
  | 7 => ⟨S8x1024, .f32⟩
  | 8 => ⟨S1x8x1024, .f32⟩
  | 9 => ⟨S_, .i32⟩
  | 10 => ⟨S_, .i32⟩
  | 11 => ⟨S2048x8x1024, .f32⟩
  | 12 => ⟨S_, .i32⟩
  | 13 => ⟨S_, .i32⟩
  | 14 => ⟨S1x8x1024, .f32⟩
  | 15 => ⟨S8x1024, .f32⟩
  | 16 => ⟨S_, .i32⟩
  | 17 => ⟨S_, .i32⟩
  | 18 => ⟨S_, .f32⟩
  | 19 => ⟨S8x3x1024, .f32⟩
  | 20 => ⟨S8x2048x1024, .f32⟩
  | 21 => ⟨S8x2051x1024, .f32⟩
  | 22 => ⟨S8x3x1024, .f32⟩
  | 23 => ⟨S8x2048x1024, .f32⟩
  | 24 => ⟨S8x2048x1024, .f32⟩
  | 25 => ⟨S8x2048x1024, .f32⟩
  | 26 => ⟨S8x2048x1024, .f32⟩
  | 27 => ⟨S_, .f32⟩
  | 28 => ⟨S8x2048x1024, .f32⟩
  | 29 => ⟨S8x2048x1024, .f32⟩
  | 30 => ⟨S8x2048x1024, .f32⟩
  | 31 => ⟨S_, .f32⟩
  | 32 => ⟨S8x2048x1024, .f32⟩
  | 33 => ⟨S8x2048x1024, .f32⟩
  | 34 => ⟨S8x2048x1024, .f32⟩
  | 35 => ⟨S_, .f32⟩
  | 36 => ⟨S8x2048x1024, .f32⟩
  | 37 => ⟨S8x2048x1024, .f32⟩
  | 38 => ⟨S_, .f32⟩
  | 39 => ⟨S8x2048x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S_, .f32⟩
  | 46 => ⟨S8x2048, .f32⟩
  | 47 => ⟨S8x2048x1, .f32⟩
  | 48 => ⟨S_, .f32⟩
  | 49 => ⟨S8x2048x1, .f32⟩
  | 50 => ⟨S8x2048x1, .f32⟩
  | 51 => ⟨S_, .f32⟩
  | 52 => ⟨S8x2048x1, .f32⟩
  | 53 => ⟨S8x2048x1, .f32⟩
  | 54 => ⟨S8x2048x1, .f32⟩
  | 55 => ⟨S8x2048x1024, .f32⟩
  | 56 => ⟨S8x2048x1024, .f32⟩
  | 57 => ⟨S1x1x1024, .f32⟩
  | 58 => ⟨S8x2048x1024, .f32⟩
  | 59 => ⟨S8x2048x1024, .f32⟩
  | 60 => ⟨S8x2048x1024, .f32⟩
  | 61 => ⟨S8x2048x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_cst_1 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_4 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_5 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_6 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_7 : Ref sig .tc := ⟨.hbm, 110, rfl⟩
abbrev main_v90 : Ref sig .tc := ⟨.hbm, 111, rfl⟩
abbrev main_cst_8 : Ref sig .tc := ⟨.hbm, 112, rfl⟩
abbrev main_v91 : Ref sig .tc := ⟨.hbm, 113, rfl⟩
abbrev main_c : Ref sig .tc := ⟨.hbm, 114, rfl⟩
abbrev main_c_9 : Ref sig .tc := ⟨.hbm, 115, rfl⟩
abbrev main_v92_0 : Ref sig .tc := ⟨.hbm, 116, rfl⟩
abbrev main_v92_1 : Ref sig .tc := ⟨.hbm, 117, rfl⟩
abbrev main_v92_2 : Ref sig .tc := ⟨.hbm, 118, rfl⟩
abbrev main_v92_3 : Ref sig .tc := ⟨.hbm, 119, rfl⟩
abbrev main_v92_4 : Ref sig .tc := ⟨.hbm, 120, rfl⟩
abbrev main_v92_5 : Ref sig .tc := ⟨.hbm, 121, rfl⟩
abbrev main_while0c_c_23 : Ref sig .tc := ⟨.hbm, 122, rfl⟩
abbrev main_while0c_v129 : Ref sig .tc := ⟨.hbm, 123, rfl⟩
abbrev main_while0b_c_23 : Ref sig .tc := ⟨.hbm, 124, rfl⟩
abbrev main_while0b_v129 : Ref sig .tc := ⟨.hbm, 125, rfl⟩
abbrev main_while0b_c_24 : Ref sig .tc := ⟨.hbm, 126, rfl⟩
abbrev main_while0b_c_25 : Ref sig .tc := ⟨.hbm, 127, rfl⟩
abbrev main_while0b_v130 : Ref sig .tc := ⟨.hbm, 128, rfl⟩
abbrev main_while0b_v131 : Ref sig .tc := ⟨.hbm, 129, rfl⟩
abbrev main_while0b_v132 : Ref sig .tc := ⟨.hbm, 130, rfl⟩
abbrev main_while0b_c_26 : Ref sig .tc := ⟨.hbm, 131, rfl⟩
abbrev main_while0b_c_27 : Ref sig .tc := ⟨.hbm, 132, rfl⟩
abbrev main_while0b_v133 : Ref sig .tc := ⟨.hbm, 133, rfl⟩
abbrev main_while0b_v134 : Ref sig .tc := ⟨.hbm, 134, rfl⟩
abbrev main_while0b_v135 : Ref sig .tc := ⟨.hbm, 135, rfl⟩
abbrev main_while0b_v136 : Ref sig .tc := ⟨.hbm, 136, rfl⟩
abbrev main_while0b_c_28 : Ref sig .tc := ⟨.hbm, 137, rfl⟩
abbrev main_while0b_c_29 : Ref sig .tc := ⟨.hbm, 138, rfl⟩
abbrev main_while0b_v137 : Ref sig .tc := ⟨.hbm, 139, rfl⟩
abbrev main_while0b_c_30 : Ref sig .tc := ⟨.hbm, 140, rfl⟩
abbrev main_while0b_c_31 : Ref sig .tc := ⟨.hbm, 141, rfl⟩
abbrev main_while0b_v138 : Ref sig .tc := ⟨.hbm, 142, rfl⟩
abbrev main_while0b_v139 : Ref sig .tc := ⟨.hbm, 143, rfl⟩
abbrev main_while0b_c_32 : Ref sig .tc := ⟨.hbm, 144, rfl⟩
abbrev main_while0b_v140 : Ref sig .tc := ⟨.hbm, 145, rfl⟩
abbrev main_cst_10 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_11 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_12 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_13 : Ref sig .tc := ⟨.hbm, 163, rfl⟩
abbrev main_v107 : Ref sig .tc := ⟨.hbm, 164, rfl⟩
abbrev main_v108 : Ref sig .tc := ⟨.hbm, 165, rfl⟩
abbrev main_cst_14 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_cst_15 : Ref sig .tc := ⟨.hbm, 173, rfl⟩
abbrev main_v115 : Ref sig .tc := ⟨.hbm, 174, rfl⟩
abbrev main_v116 : Ref sig .tc := ⟨.hbm, 175, rfl⟩
abbrev main_cst_16 : Ref sig .tc := ⟨.hbm, 176, rfl⟩
abbrev main_v117 : Ref sig .tc := ⟨.hbm, 177, rfl⟩
abbrev main_v118 : Ref sig .tc := ⟨.hbm, 178, rfl⟩
abbrev main_cst_17 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩

abbrev nD : Nat := 1
abbrev τ : Topo := Topo.v7x

variable {F : FTy → Type} [FloatOps F]

abbrev main_while0_count : Scf.Loop 32 := ⟨0#32, 2048#32, 1#32⟩
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S1024x3072 : Shape := ⟨2, ![1024, 3072]⟩
abbrev S16384x1024 : Shape := ⟨2, ![16384, 1024]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S16384x512 : Shape := ⟨2, ![16384, 512]⟩
abbrev S8x512x2048 : Shape := ⟨3, ![8, 512, 2048]⟩
abbrev S512x1024 : Shape := ⟨2, ![512, 1024]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1024x512 : Shape := ⟨2, ![1024, 512]⟩

abbrev nBuf : Space → Nat
  | .hbm => 54
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S1024x3072, .bf16⟩
  | .hbm, ⟨5, _⟩ => ⟨S2048, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S2048, .f32⟩
  | .hbm, ⟨15, _⟩ => ⟨S2048x1, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x48, .f32⟩
  | .hbm, ⟨24, _⟩ => ⟨S_, .f32⟩
  | .hbm, ⟨25, _⟩ => ⟨S2048x48, .f32⟩
  | .hbm, ⟨26, _⟩ => ⟨S2048x48, .f32⟩
  | .hbm, ⟨27, _⟩ => ⟨S2048x64, .f32⟩
  | .hbm, ⟨28, _⟩ => ⟨S2048x8, .f32⟩
  | .hbm, ⟨29, _⟩ => ⟨S_, .f32⟩
  | .hbm, ⟨30, _⟩ => ⟨S2048x8, .f32⟩
  | .hbm, ⟨31, _⟩ => ⟨S2048x64, .f32⟩
  | .hbm, ⟨32, _⟩ => ⟨S_, .f32⟩
  | .hbm, ⟨33, _⟩ => ⟨S2048x8, .f32⟩
  | .hbm, ⟨34, _⟩ => ⟨S2048x64, .f32⟩
  | .hbm, ⟨35, _⟩ => ⟨S1x2048x1x64, .f32⟩
  | .hbm, ⟨36, _⟩ => ⟨S1x2048x2x64, .f32⟩
  | .hbm, ⟨37, _⟩ => ⟨S2048x128, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S1x2048x1x64, .f32⟩
  | .hbm, ⟨42, _⟩ => ⟨S1x2048x2x64, .f32⟩
  | .hbm, ⟨43, _⟩ => ⟨S2048x128, .f32⟩
  | .hbm, ⟨44, _⟩ => ⟨S1x1024, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S8x512x2048, .f32⟩
  | .hbm, ⟨52, _⟩ => ⟨S8x512x2048, .f32⟩
  | .hbm, ⟨53, _⟩ => ⟨S8x512x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev main_v36_3 : Ref sig .tc := ⟨.hbm, 48, rfl⟩
abbrev main_v36_4 : Ref sig .tc := ⟨.hbm, 49, rfl⟩
abbrev main_v36_5 : Ref sig .tc := ⟨.hbm, 50, rfl⟩
abbrev main_v36_6 : Ref sig .tc := ⟨.hbm, 51, rfl⟩
abbrev main_v36_7 : Ref sig .tc := ⟨.hbm, 52, rfl⟩
abbrev main_v36_8 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InProjReferenceIdeal.lean ====
abbrev S8x2048x1024 : Shape := ⟨3, ![8, 2048, 1024]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x512 : Shape := ⟨3, ![8, 2048, 512]⟩
abbrev S8x2048x8x64 : Shape := ⟨4, ![8, 2048, 8, 64]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S16384x512 : Shape := ⟨2, ![16384, 512]⟩
abbrev S8x512x2048 : Shape := ⟨3, ![8, 512, 2048]⟩

abbrev nBuf : Space → Nat
  | .hbm => 133
  | .vmem => 0
  | .smem => 0
  | _ => 0

abbrev hbmTy0_0 (i : Nat) : BufTy := match i % 128 with
  | 0 => ⟨S8x2048x1024, .f32⟩
  | 1 => ⟨S1024, .f32⟩
  | 2 => ⟨S1024x3072, .f32⟩
  | 3 => ⟨S8x2048x1024, .f32⟩
  | 4 => ⟨S_, .f32⟩
  | 5 => ⟨S8x2048, .f32⟩
  | 6 => ⟨S8x2048x1, .f32⟩
  | 7 => ⟨S_, .f32⟩
  | 8 => ⟨S8x2048x1, .f32⟩
  | 9 => ⟨S8x2048x1, .f32⟩
  | 10 => ⟨S_, .f32⟩
  | 11 => ⟨S8x2048x1, .f32⟩
  | 12 => ⟨S8x2048x1, .f32⟩
  | 13 => ⟨S8x2048x1, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | 19 => ⟨S8x2048x3072, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S8, .f32⟩
  | 28 => ⟨S2048, .i32⟩
  | 29 => ⟨S2048, .f32⟩
  | 30 => ⟨S2048x1, .f32⟩
  | 31 => ⟨S1x8, .f32⟩
  | 32 => ⟨S2048x8, .f32⟩
  | 33 => ⟨S2048x8, .f32⟩
  | 34 => ⟨S2048x8, .f32⟩
  | 35 => ⟨S2048x1x8, .f32⟩
  | 36 => ⟨S2048x1x8, .f32⟩
  | 37 => ⟨S2048x1x8, .f32⟩
  | 38 => ⟨S8x2048x512, .f32⟩
  | 39 => ⟨S8x2048x512, .f32⟩
  | 40 => ⟨S8x2048x512, .f32⟩
  | 41 => ⟨S8x2048x512, .f32⟩
  | 42 => ⟨S8x2048x512, .f32⟩
  | 43 => ⟨S8x2048x512, .f32⟩
  | 44 => ⟨S8x2048x8x64, .f32⟩
  | 45 => ⟨S8x2048x8x8, .f32⟩
  | 46 => ⟨S8x2048x8x8, .f32⟩
  | 47 => ⟨S1x2048x1x8, .f32⟩
  | 48 => ⟨S8x2048x8x8, .f32⟩
  | 49 => ⟨S8x2048x8x8, .f32⟩
  | 50 => ⟨S1x2048x1x8, .f32⟩
  | 51 => ⟨S8x2048x8x8, .f32⟩
  | 52 => ⟨S8x2048x8x8, .f32⟩
  | 53 => ⟨S8x2048x8x8, .f32⟩
  | 54 => ⟨S1x2048x1x8, .f32⟩
  | 55 => ⟨S8x2048x8x8, .f32⟩
  | 56 => ⟨S8x2048x8x8, .f32⟩
  | 57 => ⟨S1x2048x1x8, .f32⟩
  | 58 => ⟨S8x2048x8x8, .f32⟩
  | 59 => ⟨S8x2048x8x8, .f32⟩
  | 60 => ⟨S8x2048x8x8, .f32⟩
  | 61 => ⟨S8x2048x8x48, .f32⟩
  | 62 => ⟨S8x2048x8x64, .f32⟩
  | 63 => ⟨S8x2048x512, .f32⟩
  | 64 => ⟨S8x2048x8x64, .f32⟩
  | 65 => ⟨S8x2048x8x8, .f32⟩
  | 66 => ⟨S8x2048x8x8, .f32⟩
  | 67 => ⟨S1x2048x1x8, .f32⟩
  | 68 => ⟨S8x2048x8x8, .f32⟩
  | 69 => ⟨S8x2048x8x8, .f32⟩
  | 70 => ⟨S1x2048x1x8, .f32⟩
  | 71 => ⟨S8x2048x8x8, .f32⟩
  | 72 => ⟨S8x2048x8x8, .f32⟩
  | 73 => ⟨S8x2048x8x8, .f32⟩
  | 74 => ⟨S1x2048x1x8, .f32⟩
  | 75 => ⟨S8x2048x8x8, .f32⟩
  | 76 => ⟨S8x2048x8x8, .f32⟩
  | 77 => ⟨S1x2048x1x8, .f32⟩
  | 78 => ⟨S8x2048x8x8, .f32⟩
  | 79 => ⟨S8x2048x8x8, .f32⟩
  | 80 => ⟨S8x2048x8x8, .f32⟩
  | 81 => ⟨S8x2048x8x48, .f32⟩
  | 82 => ⟨S8x2048x8x64, .f32⟩
  | 83 => ⟨S8x2048x512, .f32⟩
  | 84 => ⟨S8x2048x8x64, .f32⟩
  | 85 => ⟨S8x2048x8x8, .f32⟩
  | 86 => ⟨S8x2048x8x8, .f32⟩
  | 87 => ⟨S1x2048x1x8, .f32⟩
  | 88 => ⟨S8x2048x8x8, .f32⟩
  | 89 => ⟨S8x2048x8x8, .f32⟩
  | 90 => ⟨S1x2048x1x8, .f32⟩
  | 91 => ⟨S8x2048x8x8, .f32⟩
  | 92 => ⟨S8x2048x8x8, .f32⟩
  | 93 => ⟨S8x2048x8x8, .f32⟩
  | 94 => ⟨S1x2048x1x8, .f32⟩
  | 95 => ⟨S8x2048x8x8, .f32⟩
  | 96 => ⟨S8x2048x8x8, .f32⟩
  | 97 => ⟨S1x2048x1x8, .f32⟩
  | 98 => ⟨S8x2048x8x8, .f32⟩
  | 99 => ⟨S8x2048x8x8, .f32⟩
  | 100 => ⟨S8x2048x8x8, .f32⟩
  | 101 => ⟨S8x2048x8x48, .f32⟩
  | 102 => ⟨S8x2048x8x64, .f32⟩
  | 103 => ⟨S8x2048x512, .f32⟩
  | 104 => ⟨S8x2048x8x64, .f32⟩
  | 105 => ⟨S8x2048x8x8, .f32⟩
  | 106 => ⟨S8x2048x8x8, .f32⟩
  | 107 => ⟨S1x2048x1x8, .f32⟩
  | 108 => ⟨S8x2048x8x8, .f32⟩
  | 109 => ⟨S8x2048x8x8, .f32⟩
  | 110 => ⟨S1x2048x1x8, .f32⟩
  | 111 => ⟨S8x2048x8x8, .f32⟩
  | 112 => ⟨S8x2048x8x8, .f32⟩
  | 113 => ⟨S8x2048x8x8, .f32⟩
  | 114 => ⟨S1x2048x1x8, .f32⟩
  | 115 => ⟨S8x2048x8x8, .f32⟩
  | 116 => ⟨S8x2048x8x8, .f32⟩
  | 117 => ⟨S1x2048x1x8, .f32⟩
  | 118 => ⟨S8x2048x8x8, .f32⟩
  | 119 => ⟨S8x2048x8x8, .f32⟩
  | 120 => ⟨S8x2048x8x8, .f32⟩
  | 121 => ⟨S8x2048x8x48, .f32⟩
  | 122 => ⟨S8x2048x8x64, .f32⟩
  | 123 => ⟨S8x2048x512, .f32⟩
  | 124 => ⟨S16384x512, .f32⟩
  | 125 => ⟨S16384x512, .f32⟩
  | 126 => ⟨S16384x512, .f32⟩
  | 127 => ⟨S16384x512, .f32⟩
  | _ => ⟨S8x2048x1024, .f32⟩

abbrev hbmTy0_1 (i : Nat) : BufTy := match i % 128 with
  | 0 => ⟨S16384x512, .f32⟩
  | 1 => ⟨S16384x512, .f32⟩
  | 2 => ⟨S8x512x2048, .f32⟩
  | 3 => ⟨S8x512x2048, .f32⟩
  | 4 => ⟨S8x512x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩

abbrev nD : Nat := 1
abbrev τ : Topo := Topo.v7x

variable {F : FTy → Type} [FloatOps F]
-- ==== RnnIn.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 46
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S2048, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S2048, .f32⟩
  | .hbm, ⟨14, _⟩ => ⟨S2048x1, .f32⟩
  | .hbm, ⟨15, _⟩ => ⟨S1x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S2048x48, .f32⟩
  | .hbm, ⟨23, _⟩ => ⟨S_, .f32⟩
  | .hbm, ⟨24, _⟩ => ⟨S2048x48, .f32⟩
  | .hbm, ⟨25, _⟩ => ⟨S2048x48, .f32⟩
  | .hbm, ⟨26, _⟩ => ⟨S2048x64, .f32⟩
  | .hbm, ⟨27, _⟩ => ⟨S2048x8, .f32⟩
  | .hbm, ⟨28, _⟩ => ⟨S_, .f32⟩
  | .hbm, ⟨29, _⟩ => ⟨S2048x8, .f32⟩
  | .hbm, ⟨30, _⟩ => ⟨S2048x64, .f32⟩
  | .hbm, ⟨31, _⟩ => ⟨S_, .f32⟩
  | .hbm, ⟨32, _⟩ => ⟨S2048x8, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x1024, .f32⟩
  | .hbm, ⟨44, _⟩ => ⟨S16384x1024, .f32⟩
  | .hbm, ⟨45, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RnnInReferenceIdeal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x1024, .f32⟩
  | .hbm, ⟨21, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== AttnOut.lean ====
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnOutReferenceIdeal.lean ====
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== SampleIn.lean ====
abbrev S32x1x1024 : Shape := ⟨3, ![32, 1, 1024]⟩
abbrev S1024 : Shape := ⟨1, ![1024]⟩
abbrev S1024x3072 : Shape := ⟨2, ![1024, 3072]⟩
abbrev S32x1024 : Shape := ⟨2, ![32, 1024]⟩
abbrev S_ : Shape := ⟨0, ![]⟩
abbrev S32 : Shape := ⟨1, ![32]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x1024 : Shape := ⟨2, ![1, 1024]⟩
abbrev S32x512 : Shape := ⟨2, ![32, 512]⟩
abbrev S1024x512 : Shape := ⟨2, ![1024, 512]⟩

abbrev nBuf : Space → Nat
  | .hbm => 52
  | .vmem => 12
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1024, .f32⟩
  | .hbm, ⟨4, _⟩ => ⟨S1024x3072, .bf16⟩
  | .hbm, ⟨5, _⟩ => ⟨S_, .i32⟩
  | .hbm, ⟨6, _⟩ => ⟨S32, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S32, .f32⟩
  | .hbm, ⟨16, _⟩ => ⟨S32x1, .f32⟩
  | .hbm, ⟨17, _⟩ => ⟨S1x8, .f32⟩
  | .hbm, ⟨18, _⟩ => ⟨S32x8, .f32⟩
  | .hbm, ⟨19, _⟩ => ⟨S32x8, .f32⟩
  | .hbm, ⟨20, _⟩ => ⟨S32x8, .f32⟩
  | .hbm, ⟨21, _⟩ => ⟨S32x8, .f32⟩
  | .hbm, ⟨22, _⟩ => ⟨S32x8, .f32⟩
  | .hbm, ⟨23, _⟩ => ⟨S_, .f32⟩
  | .hbm, ⟨24, _⟩ => ⟨S32x48, .f32⟩
  | .hbm, ⟨25, _⟩ => ⟨S_, .f32⟩
  | .hbm, ⟨26, _⟩ => ⟨S32x48, .f32⟩
  | .hbm, ⟨27, _⟩ => ⟨S32x48, .f32⟩
  | .hbm, ⟨28, _⟩ => ⟨S32x64, .f32⟩
  | .hbm, ⟨29, _⟩ => ⟨S32x8, .f32⟩
  | .hbm, ⟨30, _⟩ => ⟨S_, .f32⟩
  | .hbm, ⟨31, _⟩ => ⟨S32x8, .f32⟩
  | .hbm, ⟨32, _⟩ => ⟨S32x64, .f32⟩
  | .hbm, ⟨33, _⟩ => ⟨S_, .f32⟩
  | .hbm, ⟨34, _⟩ => ⟨S32x8, .f32⟩
  | .hbm, ⟨35, _⟩ => ⟨S32x64, .f32⟩
  | .hbm, ⟨36, _⟩ => ⟨S1x32x1x64, .f32⟩
  | .hbm, ⟨37, _⟩ => ⟨S1x32x2x64, .f32⟩
  | .hbm, ⟨38, _⟩ => ⟨S32x128, .f32⟩
  | .hbm, ⟨39, _⟩ => ⟨S1x32x1x64, .f32⟩
  | .hbm, ⟨40, _⟩ => ⟨S1x32x2x64, .f32⟩
  | .hbm, ⟨41, _⟩ => ⟨S32x128, .f32⟩
  | .hbm, ⟨42, _⟩ => ⟨S1x32x1x64, .f32⟩
  | .hbm, ⟨43, _⟩ => ⟨S1x32x2x64, .f32⟩
  | .hbm, ⟨44, _⟩ => ⟨S32x128, .f32⟩
  | .hbm, ⟨45, _⟩ => ⟨S1x1024, .f32⟩
  | .hbm, ⟨46, _⟩ => ⟨S32x512, .f32⟩
  | .hbm, ⟨47, _⟩ => ⟨S32x512, .f32⟩
  | .hbm, ⟨48, _⟩ => ⟨S32x512, .f32⟩
  | .hbm, ⟨49, _⟩ => ⟨S32x512, .f32⟩
  | .hbm, ⟨50, _⟩ => ⟨S32x512, .f32⟩
  | .hbm, ⟨51, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x3072, .bf16⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36_0 : Ref sig .tc := ⟨.hbm, 46, rfl⟩
abbrev main_v36_1 : Ref sig .tc := ⟨.hbm, 47, rfl⟩
abbrev main_v36_2 : Ref sig .tc := ⟨.hbm, 48, rfl⟩
abbrev main_v36_3 : Ref sig .tc := ⟨.hbm, 49, rfl⟩
abbrev main_v36_4 : Ref sig .tc := ⟨.hbm, 50, rfl⟩
abbrev main_v36_5 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== SampleInReferenceIdeal.lean ====
abbrev S32x1x1024 : Shape := ⟨3, ![32, 1, 1024]⟩
abbrev S1024 : Shape := ⟨1, ![1024]⟩
abbrev S1024x3072 : Shape := ⟨2, ![1024, 3072]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x3072 : Shape := ⟨3, ![32, 1, 3072]⟩
abbrev S1 : Shape := ⟨1, ![1]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S32x1x512 : Shape := ⟨3, ![32, 1, 512]⟩
abbrev S32x1x8x64 : Shape := ⟨4, ![32, 1, 8, 64]⟩
abbrev S32x1x8x8 : Shape := ⟨4, ![32, 1, 8, 8]⟩
abbrev S1x1x1x8 : Shape := ⟨4, ![1, 1, 1, 8]⟩
abbrev S32x1x8x48 : Shape := ⟨4, ![32, 1, 8, 48]⟩
abbrev S32x512 : Shape := ⟨2, ![32, 512]⟩

abbrev nBuf : Space → Nat
  | .hbm => 132
  | .vmem => 0
  | .smem => 0
  | _ => 0

abbrev hbmTy0_0 (i : Nat) : BufTy := match i % 128 with
  | 0 => ⟨S32x1x1024, .f32⟩
  | 1 => ⟨S1024, .f32⟩
  | 2 => ⟨S1024x3072, .f32⟩
  | 3 => ⟨S32x1x1024, .f32⟩
  | 4 => ⟨S_, .f32⟩
  | 5 => ⟨S32x1, .f32⟩
  | 6 => ⟨S32x1x1, .f32⟩
  | 7 => ⟨S_, .f32⟩
  | 8 => ⟨S32x1x1, .f32⟩
  | 9 => ⟨S32x1x1, .f32⟩
  | 10 => ⟨S_, .f32⟩
  | 11 => ⟨S32x1x1, .f32⟩
  | 12 => ⟨S32x1x1, .f32⟩
  | 13 => ⟨S32x1x1, .f32⟩
  | 14 => ⟨S32x1x1024, .f32⟩
  | 15 => ⟨S32x1x1024, .f32⟩
  | 16 => ⟨S1x1x1024, .f32⟩
  | 17 => ⟨S32x1x1024, .f32⟩
  | 18 => ⟨S32x1x1024, .f32⟩
  | 19 => ⟨S32x1x3072, .f32⟩
  | 20 => ⟨S1, .i32⟩
  | 21 => ⟨S_, .i32⟩
  | 22 => ⟨S1, .i32⟩
  | 23 => ⟨S1, .i32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S8, .f32⟩
  | 32 => ⟨S1, .f32⟩
  | 33 => ⟨S1x1, .f32⟩
  | 34 => ⟨S1x8, .f32⟩
  | 35 => ⟨S1x8, .f32⟩
  | 36 => ⟨S1x8, .f32⟩
  | 37 => ⟨S1x1x8, .f32⟩
  | 38 => ⟨S1x1x8, .f32⟩
  | 39 => ⟨S1x1x8, .f32⟩
  | 40 => ⟨S32x1x512, .f32⟩
  | 41 => ⟨S32x1x512, .f32⟩
  | 42 => ⟨S32x1x512, .f32⟩
  | 43 => ⟨S32x1x512, .f32⟩
  | 44 => ⟨S32x1x512, .f32⟩
  | 45 => ⟨S32x1x512, .f32⟩
  | 46 => ⟨S32x1x8x64, .f32⟩
  | 47 => ⟨S32x1x8x8, .f32⟩
  | 48 => ⟨S32x1x8x8, .f32⟩
  | 49 => ⟨S1x1x1x8, .f32⟩
  | 50 => ⟨S32x1x8x8, .f32⟩
  | 51 => ⟨S32x1x8x8, .f32⟩
  | 52 => ⟨S1x1x1x8, .f32⟩
  | 53 => ⟨S32x1x8x8, .f32⟩
  | 54 => ⟨S32x1x8x8, .f32⟩
  | 55 => ⟨S32x1x8x8, .f32⟩
  | 56 => ⟨S1x1x1x8, .f32⟩
  | 57 => ⟨S32x1x8x8, .f32⟩
  | 58 => ⟨S32x1x8x8, .f32⟩
  | 59 => ⟨S1x1x1x8, .f32⟩
  | 60 => ⟨S32x1x8x8, .f32⟩
  | 61 => ⟨S32x1x8x8, .f32⟩
  | 62 => ⟨S32x1x8x8, .f32⟩
  | 63 => ⟨S32x1x8x48, .f32⟩
  | 64 => ⟨S32x1x8x64, .f32⟩
  | 65 => ⟨S32x1x512, .f32⟩
  | 66 => ⟨S32x1x8x64, .f32⟩
  | 67 => ⟨S32x1x8x8, .f32⟩
  | 68 => ⟨S32x1x8x8, .f32⟩
  | 69 => ⟨S1x1x1x8, .f32⟩
  | 70 => ⟨S32x1x8x8, .f32⟩
  | 71 => ⟨S32x1x8x8, .f32⟩
  | 72 => ⟨S1x1x1x8, .f32⟩
  | 73 => ⟨S32x1x8x8, .f32⟩
  | 74 => ⟨S32x1x8x8, .f32⟩
  | 75 => ⟨S32x1x8x8, .f32⟩
  | 76 => ⟨S1x1x1x8, .f32⟩
  | 77 => ⟨S32x1x8x8, .f32⟩
  | 78 => ⟨S32x1x8x8, .f32⟩
  | 79 => ⟨S1x1x1x8, .f32⟩
  | 80 => ⟨S32x1x8x8, .f32⟩
  | 81 => ⟨S32x1x8x8, .f32⟩
  | 82 => ⟨S32x1x8x8, .f32⟩
  | 83 => ⟨S32x1x8x48, .f32⟩
  | 84 => ⟨S32x1x8x64, .f32⟩
  | 85 => ⟨S32x1x512, .f32⟩
  | 86 => ⟨S32x1x8x64, .f32⟩
  | 87 => ⟨S32x1x8x8, .f32⟩
  | 88 => ⟨S32x1x8x8, .f32⟩
  | 89 => ⟨S1x1x1x8, .f32⟩
  | 90 => ⟨S32x1x8x8, .f32⟩
  | 91 => ⟨S32x1x8x8, .f32⟩
  | 92 => ⟨S1x1x1x8, .f32⟩
  | 93 => ⟨S32x1x8x8, .f32⟩
  | 94 => ⟨S32x1x8x8, .f32⟩
  | 95 => ⟨S32x1x8x8, .f32⟩
  | 96 => ⟨S1x1x1x8, .f32⟩
  | 97 => ⟨S32x1x8x8, .f32⟩
  | 98 => ⟨S32x1x8x8, .f32⟩
  | 99 => ⟨S1x1x1x8, .f32⟩
  | 100 => ⟨S32x1x8x8, .f32⟩
  | 101 => ⟨S32x1x8x8, .f32⟩
  | 102 => ⟨S32x1x8x8, .f32⟩
  | 103 => ⟨S32x1x8x48, .f32⟩
  | 104 => ⟨S32x1x8x64, .f32⟩
  | 105 => ⟨S32x1x512, .f32⟩
  | 106 => ⟨S32x1x8x64, .f32⟩
  | 107 => ⟨S32x1x8x8, .f32⟩
  | 108 => ⟨S32x1x8x8, .f32⟩
  | 109 => ⟨S1x1x1x8, .f32⟩
  | 110 => ⟨S32x1x8x8, .f32⟩
  | 111 => ⟨S32x1x8x8, .f32⟩
  | 112 => ⟨S1x1x1x8, .f32⟩
  | 113 => ⟨S32x1x8x8, .f32⟩
  | 114 => ⟨S32x1x8x8, .f32⟩
  | 115 => ⟨S32x1x8x8, .f32⟩
  | 116 => ⟨S1x1x1x8, .f32⟩
  | 117 => ⟨S32x1x8x8, .f32⟩
  | 118 => ⟨S32x1x8x8, .f32⟩
  | 119 => ⟨S1x1x1x8, .f32⟩
  | 120 => ⟨S32x1x8x8, .f32⟩
  | 121 => ⟨S32x1x8x8, .f32⟩
  | 122 => ⟨S32x1x8x8, .f32⟩
  | 123 => ⟨S32x1x8x48, .f32⟩
  | 124 => ⟨S32x1x8x64, .f32⟩
  | 125 => ⟨S32x1x512, .f32⟩
  | 126 => ⟨S32x512, .f32⟩
  | 127 => ⟨S32x512, .f32⟩
  | _ => ⟨S32x1x1024, .f32⟩

abbrev hbmTy0_1 (i : Nat) : BufTy := match i % 128 with
  | 0 => ⟨S32x512, .f32⟩
  | 1 => ⟨S32x512, .f32⟩
  | 2 => ⟨S32x512, .f32⟩
  | 3 => ⟨S32x512, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩

abbrev nD : Nat := 1
abbrev τ : Topo := Topo.v7x

variable {F : FTy → Type} [FloatOps F]
-- ==== Proof.Block.lean ====
/-
  What one block of the recurrence kernel computes, in named pieces.

  A grid point holds 32 consecutive time steps of 8 sequences, as 256 rows of 1024 channels (sequence `b`'s step `r` is row
  `32 b + r`). The body convolves, forms the two gates, runs the recurrence `h ← a h + b` over eight rows at a time by three
  doubling steps, and projects. `convRows` is the convolution of one sequence, `gateDot` one gate's block-diagonal product,
  `scanGroup` the recurrence over one group of eight rows, `groupAt` the groups of one sequence chained, `allRows` every
  group under the next, `lastRows` the state each sequence ends with.
-/
module

public import proofs.«01_k».proof.Proof.Gen.KernelIdeal.Skeleton

@[expose] public section

noncomputable section

namespace Cert.Proof.Rglru

open Idealize.ShloMosaic Cert.KernelIdeal Cert.KernelIdeal.Gen

variable {F : FTy → Type} [FloatOps F]

/-- The four-tap causal convolution of one sequence's 32 rows: `x0 … x3` are the rows shifted by 3, 2, 1 and 0 steps. -/
def convRows (cb w0 w1 w2 w3 : Vec F S1x1024 .f32) (x0 x1 x2 x3 : Vec F S1x32x1024 .f32) : FVec F S32x1024 .f32 :=
  addf (addf (addf (addf (broadcastTo S32x1024 (shapeCast S1x1024 cb shapeCasts_S1x1024_S1x1024) broadcasts_S1x1024_S32x1024)
    (mulf (shapeCast S32x1024 x0 shapeCasts_S1x32x1024_S32x1024) (broadcastTo S32x1024 w0 broadcasts_S1x1024_S32x1024)))
    (mulf (shapeCast S32x1024 x1 shapeCasts_S1x32x1024_S32x1024) (broadcastTo S32x1024 w1 broadcasts_S1x1024_S32x1024)))
    (mulf (shapeCast S32x1024 x2 shapeCasts_S1x32x1024_S32x1024) (broadcastTo S32x1024 w2 broadcasts_S1x1024_S32x1024)))
    (mulf (shapeCast S32x1024 x3 shapeCasts_S1x32x1024_S32x1024) (broadcastTo S32x1024 w3 broadcasts_S1x1024_S32x1024))

/-- The 256 rows of the eight sequences, one under the other. -/
def stackRows (x : Fin 8 → FVec F S32x1024 .f32) : FVec F S256x1024 .f32 :=
  concatenate S256x1024 0 (List.ofFn fun b : Fin 8 => (⟨S32x1024, x b⟩ : (s : Shape) × (s.Idx → F .f32)))
    concatenates_S32x1024_S32x1024_S32x1024_S32x1024_S32x1024_S32x1024_S32x1024_S32x1024_S256x1024_d0

/-- One of the four 256-column blocks times its own 256 × 256 matrix. -/
def blockDot (n : Fin 4) (x : FVec F S256x1024 .bf16) (w : Vec F S1x256x256 .bf16) : FVec F S256x256 .f32 :=
  matmul dot_S256x256_S256x256_S256x256_1_0_0_1_n_n none
    (extractStridedSlice S256x256 ![0, 256 * n.val] x (by fin_cases n <;> decide))
    (shapeCast S256x256 w shapeCasts_S1x256x256_S256x256) (constant S256x256 .f32 0x00000000#32)

/-- A gate's block-diagonal product: the four blocks side by side. -/
def gateDot (x : FVec F S256x1024 .f32) (w : Fin 4 → Vec F S1x256x256 .bf16) : FVec F S256x1024 .f32 :=
  concatenate S256x1024 1 (List.ofFn fun n : Fin 4 =>
      (⟨S256x256, blockDot n (truncf .bf16 x bitsLt_bf16_f32) (w n)⟩ : (s : Shape) × (s.Idx → F .f32)))
    concatenates_S256x256_S256x256_S256x256_S256x256_S256x1024_d1

/-- A gate: the logistic function of its product plus its bias. -/
def gate (x : FVec F S256x1024 .f32) (w : Fin 4 → Vec F S1x256x256 .bf16) (c : Vec F S1x1024 .f32) : FVec F S256x1024 .f32 :=
  logistic (addf (gateDot x w)
    (broadcastTo S256x1024 (shapeCast S1x1024 c shapeCasts_S1x1024_S1x1024) broadcasts_S1x1024_S256x1024))

/-- The logarithm of the logistic function, as the body computes it. -/
def logSigmoid (l : Vec F S1x1024 .f32) : FVec F S1x1024 .f32 :=
  subf (minimumf (shapeCast S1x1024 l shapeCasts_S1x1024_S1x1024) (broadcast S1x1024 (Scalar.ofBits .f32 0x00000000#32)))
    (log1p (exp (subf (broadcast S1x1024 (Scalar.ofBits .f32 0x00000000#32))
      (absf (shapeCast S1x1024 l shapeCasts_S1x1024_S1x1024)))))

/-- The logarithm of the decay. -/
def logDecay (r : FVec F S256x1024 .f32) (l : Vec F S1x1024 .f32) : FVec F S256x1024 .f32 :=
  mulf (mulf (broadcast S256x1024 (Scalar.ofBits .f32 0x41000000#32)) r)
    (broadcastTo S256x1024 (logSigmoid l) broadcasts_S1x1024_S256x1024)

/-- What enters the recurrence at each row, of the logarithm of the decay, the input gate and the convolved rows. -/
def drive (la g x : FVec F S256x1024 .f32) : FVec F S256x1024 .f32 :=
  mulf (sqrt (mulf (subf (broadcast S256x1024 (Scalar.ofBits .f32 0x00000000#32)) (tanh la))
    (addf (broadcast S256x1024 (Scalar.ofBits .f32 0x3F800000#32)) (mulf (exp la) (exp la))))) (mulf g x)

/-- Rows moved down by `s`, a constant in the rows left free. -/
def shifted (s : BitVec 32) (z : BitVec 32) (x : FVec F S8x1024 .f32) : FVec F S8x1024 .f32 :=
  select (cmpi .sge (iota .tc S8x1024 32 [0] iota_S8x1024_d0_w32) (broadcast S8x1024 s))
    (dynamicRotate 0 s none x rotates_S8x1024_d0) (broadcast S8x1024 (Scalar.ofBits .f32 z))

/-- The offset of a doubling step: each row's affine map after the one `s` rows above. -/
def foldB (s : BitVec 32) (a b : FVec F S8x1024 .f32) : FVec F S8x1024 .f32 :=
  addf (mulf a (shifted s 0x00000000#32 b)) b

/-- The factor of a doubling step. -/
def foldA (s : BitVec 32) (a : FVec F S8x1024 .f32) : FVec F S8x1024 .f32 :=
  mulf a (shifted s 0x3F800000#32 a)

/-- The recurrence over one group of eight rows from the state `h`. -/
def scanGroup (h : FVec F S1x1024 .f32) (a b : FVec F S8x1024 .f32) : FVec F S8x1024 .f32 :=
  addf (mulf (foldA 4#32 (foldA 2#32 (foldA 1#32 a))) (broadcastTo S8x1024 h broadcasts_S1x1024_S8x1024))
    (foldB 4#32 (foldA 2#32 (foldA 1#32 a)) (foldB 2#32 (foldA 1#32 a) (foldB 1#32 a b)))

/-- Group `g` of sequence `b`: its eight rows of the 256. -/
theorem slices_group (b : Fin 8) (g : ℕ) (hg : g < 4) : S256x1024.Slices ![32 * b.val + 8 * g, 0] S8x1024 := by
  obtain rfl | rfl | rfl | rfl : g = 0 ∨ g = 1 ∨ g = 2 ∨ g = 3 := by omega
  all_goals revert b; decide

theorem slices_seq (b : Fin 8) : S8x1024.Slices ![b.val, 0] S1x1024 := by revert b; decide

/-- Group `g` of sequence `b` after the groups before it. -/
def groupAt (h : FVec F S8x1024 .f32) (a x : FVec F S256x1024 .f32) (b : Fin 8) : (g : ℕ) → g < 4 → FVec F S8x1024 .f32
  | 0, hg => scanGroup (extractStridedSlice S1x1024 ![b.val, 0] h (slices_seq b))
      (extractStridedSlice S8x1024 ![32 * b.val + 8 * 0, 0] a (slices_group b 0 hg))
      (extractStridedSlice S8x1024 ![32 * b.val + 8 * 0, 0] x (slices_group b 0 hg))
  | g + 1, hg => scanGroup
      (extractStridedSlice S1x1024 ![7, 0] (groupAt h a x b g (Nat.lt_of_succ_lt hg)) slices_S8x1024_o7_0_S1x1024)
      (extractStridedSlice S8x1024 ![32 * b.val + 8 * (g + 1), 0] a (slices_group b (g + 1) hg))
      (extractStridedSlice S8x1024 ![32 * b.val + 8 * (g + 1), 0] x (slices_group b (g + 1) hg))

/-- The 32 groups one under the other, each sequence's four in turn. -/
def allRows (h : FVec F S8x1024 .f32) (a x : FVec F S256x1024 .f32) : FVec F S256x1024 .f32 :=
  concatenate S256x1024 0 (List.ofFn fun k : Fin 32 =>
      (⟨S8x1024, groupAt h a x ⟨k.val / 4, by omega⟩ (k.val % 4) (Nat.mod_lt _ (by decide))⟩ : (s : Shape) × (s.Idx → F .f32)))
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

/-- The state each sequence ends with: the last row of its last group. -/
def lastRows (h : FVec F S8x1024 .f32) (a x : FVec F S256x1024 .f32) : FVec F S8x1024 .f32 :=
  concatenate S8x1024 0 (List.ofFn fun b : Fin 8 =>
      (⟨S1x1024, extractStridedSlice S1x1024 ![7, 0] (groupAt h a x b 3 (by decide)) slices_S8x1024_o7_0_S1x1024⟩ :
        (s : Shape) × (s.Idx → F .f32)))
    concatenates_S1x1024_S1x1024_S1x1024_S1x1024_S1x1024_S1x1024_S1x1024_S1x1024_S8x1024_d0

/-- The tanh form of the GELU. -/
def gelu (x : FVec F S256x1024 .f32) : FVec F S256x1024 .f32 :=
  mulf (mulf (broadcast S256x1024 (Scalar.ofBits .f32 0x3F000000#32)) x)
    (addf (broadcast S256x1024 (Scalar.ofBits .f32 0x3F800000#32))
      (tanh (mulf (broadcast S256x1024 (Scalar.ofBits .f32 0x3F4C422A#32))
        (addf x (mulf (broadcast S256x1024 (Scalar.ofBits .f32 0x3D372713#32)) (mulf (mulf x x) x))))))

/-- The branch's rows before the projection, and their projection. -/
def project (h g : FVec F S256x1024 .f32) (wo : Vec F S1024x1024 .bf16) : FVec F S256x1024 .f32 :=
  matmul dot_S256x1024_S1024x1024_S256x1024_1_0_0_1_n_n none (truncf .bf16 (mulf h (gelu g)) bitsLt_bf16_f32)
    (shapeCast S1024x1024 wo shapeCasts_S1024x1024_S1024x1024) (constant S256x1024 .f32 0x00000000#32)

/-- The rows divided by the root of their mean square, times the gain. -/
def rmsRows (y : FVec F S256x1024 .f32) (g : Vec F S1x1024 .f32) : FVec F S256x1024 .f32 :=
  mulf (mulf y (broadcastTo S256x1024 (rsqrt (addf (divf (shapeCast S256x1
      (multiReduction .add [1] S256 (mulf y y) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024)

/-- The block of the layer's output: the residual block plus the normed projection. -/
def outBlock (h : FVec F S256x1024 .f32) (g : Vec F S8x32x1024 .f32) (wo : Vec F S1024x1024 .bf16) (x : Vec F S8x32x1024 .f32)
    (gn : Vec F S1x1024 .f32) : FVec F S8x32x1024 .f32 :=
  shapeCast S8x32x1024 (addf
      (shapeCast S256x1024 (shapeCast S8x32x1024 x shapeCasts_S8x32x1024_S8x32x1024) shapeCasts_S8x32x1024_S256x1024)
      (rmsRows (project h (shapeCast S256x1024 (shapeCast S8x32x1024 g shapeCasts_S8x32x1024_S8x32x1024)
        shapeCasts_S8x32x1024_S256x1024) wo) gn))
    shapeCasts_S256x1024_S8x32x1024

end Cert.Proof.Rglru
-- ==== Proof.Point.lean ====
/-
  What a grid point leaves, in the words of `Block.lean`.

  `pad` is the 40-row strip each sequence's convolution reads: 8 rows of history (only the last three are read) followed by the
  point's 32 rows. From it come the decay `decayRows` and the input `inputRows` of the recurrence, and from those and the
  state the point starts from, the output block, the strip and the state left for the next point.
-/
module

public import proofs.«01_k».proof.Proof.Block
public import Idealize.ShloMosaic.Lib.Pointwise
public import proofs.«01_k».proof.Proof.Gen.KernelIdeal.Value

@[expose] public section

noncomputable section

namespace Cert.Proof.Rglru

open Idealize.ShloMosaic Cert.KernelIdeal Cert.KernelIdeal.Gen Cert.KernelIdeal.Value

variable {F : FTy → Type} [FloatOps F]

/-- A whole one-row operand, as the body loads it. -/
def rowOf (x : Vec F S1x1024 .f32) : Vec F S1x1024 .f32 :=
  View.ld x (Rect.unit ![0, 0] S1x1024.size inb_S1x1024_S1x1024_0_0)

/-- A whole block of 32 rows of each sequence, as the body loads it. -/
def blockOf (x : Vec F S8x32x1024 .f32) : Vec F S8x32x1024 .f32 :=
  View.ld x (Rect.unit ![0, 0, 0] S8x32x1024.size inb_S8x32x1024_S8x32x1024_0_0_0)

/-- The convolution's weights of one tap. -/
def tapOf (k : Fin 4) (cw : Vec F S4x1024 .f32) : Vec F S1x1024 .f32 :=
  View.ld cw (Rect.unit ![k.val, 0] S1x1024.size (by fin_cases k <;> decide))

/-- The 32 rows of sequence `b`'s strip one tap reads. -/
def stripOf (b : Fin 8) (k : Fin 4) (pad : Vec F S8x40x1024 .f32) : Vec F S1x32x1024 .f32 :=
  View.ld pad (Rect.unit ![b.val, 5 + k.val, 0] S1x32x1024.size (by fin_cases k <;> fin_cases b <;> decide))

/-- One block's square of a gate's weights. -/
def squareOf (w : Vec F S4x256x256 .bf16) (n : Fin 4) : Vec F S1x256x256 .bf16 :=
  View.ld w (Rect.unit ![n.val, 0, 0] S1x256x256.size (by fin_cases n <;> decide))

/-- The convolved rows of the point. -/
def convBlock (pad : Vec F S8x40x1024 .f32) (cw : Vec F S4x1024 .f32) (cb : Vec F S1x1024 .f32) : FVec F S256x1024 .f32 :=
  stackRows fun b => convRows (rowOf cb) (tapOf 0 cw) (tapOf 1 cw) (tapOf 2 cw) (tapOf 3 cw)
    (stripOf b 0 pad) (stripOf b 1 pad) (stripOf b 2 pad) (stripOf b 3 pad)

/-- The logarithm of the decay at each of the point's rows. -/
def logRows (x : FVec F S256x1024 .f32) (wa : Vec F S4x256x256 .bf16) (ba l : Vec F S1x1024 .f32) : FVec F S256x1024 .f32 :=
  logDecay (gate x (squareOf wa) (rowOf ba)) (rowOf l)

/-- The recurrence's input at each of the point's rows. -/
def inputRows (x : FVec F S256x1024 .f32) (wa : Vec F S4x256x256 .bf16) (ba : Vec F S1x1024 .f32) (wx : Vec F S4x256x256 .bf16)
    (bx l : Vec F S1x1024 .f32) : FVec F S256x1024 .f32 :=
  drive (logRows x wa ba l) (gate x (squareOf wx) (rowOf bx)) x

/-- The state a point reads, as the body loads it. -/
def stateOf (h : Vec F S8x1024 .f32) : Vec F S8x1024 .f32 :=
  View.ld h (Rect.unit ![0, 0] S8x1024.size inb_S8x1024_S8x1024_0_0)

/-- The strip's pieces: the point's rows over the history. -/
def padPieces (x : Vec F S8x32x1024 .f32) (z : Vec F S8x8x1024 .f32) : List (View.Piece (Elt F) S8x40x1024 .f32) :=
  [⟨Rect.unit ![0, 8, 0] S8x32x1024.size inb_S8x40x1024_S8x32x1024_0_8_0, k0_pay4 (blockOf x)⟩,
    ⟨Rect.unit ![0, 0, 0] S8x8x1024.size inb_S8x40x1024_S8x8x1024_0_0_0, z⟩]

/-- The strip a point forms: its own rows below the eight rows of history `z`. -/
def padWith (x : Vec F S8x32x1024 .f32) (z : Vec F S8x8x1024 .f32) : Vec F S8x40x1024 .f32 :=
  View.canon (padPieces x z)

/-- The last eight rows of a strip, as the body loads them. -/
def historyOf (s : Vec F S8x40x1024 .f32) : Vec F S8x8x1024 .f32 :=
  View.ld s (Rect.unit ![0, 32, 0] S8x8x1024.size inb_S8x40x1024_S8x8x1024_0_32_0)

/-- The strip a later point forms: the last eight rows of the strip before it, then its own rows. -/
def padNext (x : Vec F S8x32x1024 .f32) (s : Vec F S8x40x1024 .f32) : Vec F S8x40x1024 .f32 :=
  padWith x (shapeCast S8x8x1024 (historyOf s) shapeCasts_S8x8x1024_S8x8x1024)

/-- The history the first point reads: zeros. -/
def noHistory : Vec F S8x8x1024 .f32 :=
  shapeCast S8x8x1024 (broadcast S8x8x1024 (Scalar.ofBits (F := F) .f32 0x00000000#32)) shapeCasts_S8x8x1024_S8x8x1024

/-- The state the first point starts from: zeros. -/
def noState : Vec F S8x1024 .f32 :=
  shapeCast S8x1024 (broadcast S8x1024 (Scalar.ofBits (F := F) .f32 0x00000000#32)) shapeCasts_S8x1024_S8x1024

/-- A load of a state just stored whole reads what was stored. -/
theorem ld_state {sp : Space} (v : View sig .tc sp S8x1024 .f32) (h : Vec F S8x1024 .f32) :
    v.readCov [⟨Rect.unit ![0, 0] S8x1024.size inb_S8x1024_S8x1024_0_0, h⟩]
      (Rect.unit ![0, 0] S8x1024.size inb_S8x1024_S8x1024_0_0).toLoadRect = h := by
  rw [View.readCov_eq_canon', View.canon_unit_zero (by ext d; fin_cases d <;> rfl)]
  exact View.ld_unit_zero (by ext d; fin_cases d <;> rfl) _ h

/-- A load of the strip's pieces reads the strip. -/
theorem ld_padWith {sp : Space} (v : View sig .tc sp S8x40x1024 .f32) (x : Vec F S8x32x1024 .f32) (z : Vec F S8x8x1024 .f32)
    (r : Rect S8x40x1024) :
    v.readCov [⟨Rect.unit ![0, 8, 0] S8x32x1024.size inb_S8x40x1024_S8x32x1024_0_8_0, k0_pay4 (View.ld x
        (Rect.unit ![0, 0, 0] S8x32x1024.size inb_S8x32x1024_S8x32x1024_0_0_0))⟩,
      ⟨Rect.unit ![0, 0, 0] S8x8x1024.size inb_S8x40x1024_S8x8x1024_0_0_0, z⟩] r.toLoadRect = View.ld (padWith x z) r := by
  rw [View.readCov_eq_canon']
  rfl

variable (m : (ℓ : Loc nD τ sig) → Buf (Elt F) ℓ) (c : Dev nD)

/-- The recurrence's state after a point that starts with strip `pad` and state `h`. -/
def stateAt (t : Fin cfg0.N) (pad : Vec F S8x40x1024 .f32) (h : Vec F S8x1024 .f32) : FVec F S8x1024 .f32 :=
  lastRows h (exp (logRows (convBlock pad (iblk m c 3 t) (iblk m c 4 t)) (iblk m c 5 t) (iblk m c 6 t) (iblk m c 9 t)))
    (inputRows (convBlock pad (iblk m c 3 t) (iblk m c 4 t)) (iblk m c 5 t) (iblk m c 6 t) (iblk m c 7 t) (iblk m c 8 t)
      (iblk m c 9 t))

/-- The output block a point writes: the layer's rows from strip `pad` and state `h`. -/
def outAt (t : Fin cfg0.N) (pad : Vec F S8x40x1024 .f32) (h : Vec F S8x1024 .f32) : FVec F S8x32x1024 .f32 :=
  outBlock (allRows h (exp (logRows (convBlock pad (iblk m c 3 t) (iblk m c 4 t)) (iblk m c 5 t) (iblk m c 6 t) (iblk m c 9 t)))
      (inputRows (convBlock pad (iblk m c 3 t) (iblk m c 4 t)) (iblk m c 5 t) (iblk m c 6 t) (iblk m c 7 t) (iblk m c 8 t)
        (iblk m c 9 t)))
    (blockOf (iblk m c 0 t))
    (View.ld (iblk m c 10 t) (Rect.unit ![0, 0] S1024x1024.size inb_S1024x1024_S1024x1024_0_0))
    (blockOf (iblk m c 2 t)) (rowOf (iblk m c 11 t))

theorem fold_stack (x0 x1 x2 x3 x4 x5 x6 x7 : FVec F S32x1024 .f32) :
    concatenate S256x1024 0 [⟨S32x1024, x0⟩, ⟨S32x1024, x1⟩, ⟨S32x1024, x2⟩, ⟨S32x1024, x3⟩, ⟨S32x1024, x4⟩, ⟨S32x1024, x5⟩,
      ⟨S32x1024, x6⟩, ⟨S32x1024, x7⟩]
      concatenates_S32x1024_S32x1024_S32x1024_S32x1024_S32x1024_S32x1024_S32x1024_S32x1024_S256x1024_d0 =
    stackRows ![x0, x1, x2, x3, x4, x5, x6, x7] := rfl

theorem fold_gateDot (x : FVec F S256x1024 .f32) (w0 w1 w2 w3 : Vec F S1x256x256 .bf16) :
    concatenate S256x1024 1 [
      ⟨S256x256, matmul dot_S256x256_S256x256_S256x256_1_0_0_1_n_n none
        (extractStridedSlice S256x256 ![0, 0] (truncf .bf16 x bitsLt_bf16_f32) slices_S256x1024_o0_0_S256x256)
        (shapeCast S256x256 w0 shapeCasts_S1x256x256_S256x256) (constant S256x256 .f32 0x00000000#32)⟩,
      ⟨S256x256, matmul dot_S256x256_S256x256_S256x256_1_0_0_1_n_n none
        (extractStridedSlice S256x256 ![0, 256] (truncf .bf16 x bitsLt_bf16_f32) slices_S256x1024_o0_256_S256x256)
        (shapeCast S256x256 w1 shapeCasts_S1x256x256_S256x256) (constant S256x256 .f32 0x00000000#32)⟩,
      ⟨S256x256, matmul dot_S256x256_S256x256_S256x256_1_0_0_1_n_n none
        (extractStridedSlice S256x256 ![0, 512] (truncf .bf16 x bitsLt_bf16_f32) slices_S256x1024_o0_512_S256x256)
        (shapeCast S256x256 w2 shapeCasts_S1x256x256_S256x256) (constant S256x256 .f32 0x00000000#32)⟩,
      ⟨S256x256, matmul dot_S256x256_S256x256_S256x256_1_0_0_1_n_n none
        (extractStridedSlice S256x256 ![0, 768] (truncf .bf16 x bitsLt_bf16_f32) slices_S256x1024_o0_768_S256x256)
        (shapeCast S256x256 w3 shapeCasts_S1x256x256_S256x256) (constant S256x256 .f32 0x00000000#32)⟩]
      concatenates_S256x256_S256x256_S256x256_S256x256_S256x1024_d1 = gateDot x ![w0, w1, w2, w3] := rfl

theorem fold_convRows (cb w0 w1 w2 w3 : Vec F S1x1024 .f32) (x0 x1 x2 x3 : Vec F S1x32x1024 .f32) :
    addf (addf (addf (addf (broadcastTo S32x1024 (shapeCast S1x1024 cb shapeCasts_S1x1024_S1x1024) broadcasts_S1x1024_S32x1024)
    (mulf (shapeCast S32x1024 x0 shapeCasts_S1x32x1024_S32x1024) (broadcastTo S32x1024 w0 broadcasts_S1x1024_S32x1024)))
    (mulf (shapeCast S32x1024 x1 shapeCasts_S1x32x1024_S32x1024) (broadcastTo S32x1024 w1 broadcasts_S1x1024_S32x1024)))
    (mulf (shapeCast S32x1024 x2 shapeCasts_S1x32x1024_S32x1024) (broadcastTo S32x1024 w2 broadcasts_S1x1024_S32x1024)))
    (mulf (shapeCast S32x1024 x3 shapeCasts_S1x32x1024_S32x1024) (broadcastTo S32x1024 w3 broadcasts_S1x1024_S32x1024)) = convRows cb w0 w1 w2 w3 x0 x1 x2 x3 := rfl

theorem fold_gate (x : FVec F S256x1024 .f32) (w : Fin 4 → Vec F S1x256x256 .bf16) (c : Vec F S1x1024 .f32) :
    logistic (addf (gateDot x w)
    (broadcastTo S256x1024 (shapeCast S1x1024 c shapeCasts_S1x1024_S1x1024) broadcasts_S1x1024_S256x1024)) = gate x w c := rfl

theorem fold_logSigmoid (l : Vec F S1x1024 .f32) :
    subf (minimumf (shapeCast S1x1024 l shapeCasts_S1x1024_S1x1024) (broadcast S1x1024 (Scalar.ofBits .f32 0x00000000#32)))
    (log1p (exp (subf (broadcast S1x1024 (Scalar.ofBits .f32 0x00000000#32))
      (absf (shapeCast S1x1024 l shapeCasts_S1x1024_S1x1024))))) = logSigmoid l := rfl

theorem fold_logDecay (r : FVec F S256x1024 .f32) (l : Vec F S1x1024 .f32) :
    mulf (mulf (broadcast S256x1024 (Scalar.ofBits .f32 0x41000000#32)) r)
    (broadcastTo S256x1024 (logSigmoid l) broadcasts_S1x1024_S256x1024) = logDecay r l := rfl

theorem fold_drive (la g x : FVec F S256x1024 .f32) :
    mulf (sqrt (mulf (subf (broadcast S256x1024 (Scalar.ofBits .f32 0x00000000#32)) (tanh la))
    (addf (broadcast S256x1024 (Scalar.ofBits .f32 0x3F800000#32)) (mulf (exp la) (exp la))))) (mulf g x) = drive la g x := rfl

theorem fold_shifted (s : BitVec 32) (z : BitVec 32) (x : FVec F S8x1024 .f32) :
    select (cmpi .sge (iota .tc S8x1024 32 [0] iota_S8x1024_d0_w32) (broadcast S8x1024 s))
    (dynamicRotate 0 s none x rotates_S8x1024_d0) (broadcast S8x1024 (Scalar.ofBits .f32 z)) = shifted s z x := rfl

theorem fold_foldB (s : BitVec 32) (a b : FVec F S8x1024 .f32) :
    addf (mulf a (shifted s 0x00000000#32 b)) b = foldB s a b := rfl

theorem fold_foldA (s : BitVec 32) (a : FVec F S8x1024 .f32) :
    mulf a (shifted s 0x3F800000#32 a) = foldA s a := rfl

theorem fold_scanGroup (h : FVec F S1x1024 .f32) (a b : FVec F S8x1024 .f32) :
    addf (mulf (foldA 4#32 (foldA 2#32 (foldA 1#32 a))) (broadcastTo S8x1024 h broadcasts_S1x1024_S8x1024))
    (foldB 4#32 (foldA 2#32 (foldA 1#32 a)) (foldB 2#32 (foldA 1#32 a) (foldB 1#32 a b))) = scanGroup h a b := rfl

theorem fold_gelu (x : FVec F S256x1024 .f32) :
    mulf (mulf (broadcast S256x1024 (Scalar.ofBits .f32 0x3F000000#32)) x)
    (addf (broadcast S256x1024 (Scalar.ofBits .f32 0x3F800000#32))
      (tanh (mulf (broadcast S256x1024 (Scalar.ofBits .f32 0x3F4C422A#32))
        (addf x (mulf (broadcast S256x1024 (Scalar.ofBits .f32 0x3D372713#32)) (mulf (mulf x x) x)))))) = gelu x := rfl

theorem fold_project (h g : FVec F S256x1024 .f32) (wo : Vec F S1024x1024 .bf16) :
    matmul dot_S256x1024_S1024x1024_S256x1024_1_0_0_1_n_n none (truncf .bf16 (mulf h (gelu g)) bitsLt_bf16_f32)
    (shapeCast S1024x1024 wo shapeCasts_S1024x1024_S1024x1024) (constant S256x1024 .f32 0x00000000#32) = project h g wo := rfl

theorem fold_rmsRows (y : FVec F S256x1024 .f32) (g : Vec F S1x1024 .f32) :
    mulf (mulf y (broadcastTo S256x1024 (rsqrt (addf (divf (shapeCast S256x1
      (multiReduction .add [1] S256 (mulf y y) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024) = rmsRows y g := rfl

theorem fold_outBlock (h : FVec F S256x1024 .f32) (g : Vec F S8x32x1024 .f32) (wo : Vec F S1024x1024 .bf16) (x : Vec F S8x32x1024 .f32)
    (gn : Vec F S1x1024 .f32) :
    shapeCast S8x32x1024 (addf
      (shapeCast S256x1024 (shapeCast S8x32x1024 x shapeCasts_S8x32x1024_S8x32x1024) shapeCasts_S8x32x1024_S256x1024)
      (rmsRows (project h (shapeCast S256x1024 (shapeCast S8x32x1024 g shapeCasts_S8x32x1024_S8x32x1024)
        shapeCasts_S8x32x1024_S256x1024) wo) gn))
    shapeCasts_S256x1024_S8x32x1024 = outBlock h g wo x gn := rfl

/-- The same rows, each load written out. -/
theorem convBlock_eq (pad : Vec F S8x40x1024 .f32) (cw : Vec F S4x1024 .f32) (cb : Vec F S1x1024 .f32) :
    convBlock pad cw cb = stackRows ![
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![0, 5, 0] S1x32x1024.size inb_S8x40x1024_S1x32x1024_0_5_0))
        (View.ld pad (Rect.unit ![0, 6, 0] S1x32x1024.size inb_S8x40x1024_S1x32x1024_0_6_0))
        (View.ld pad (Rect.unit ![0, 7, 0] S1x32x1024.size inb_S8x40x1024_S1x32x1024_0_7_0))
        (View.ld pad (Rect.unit ![0, 8, 0] S1x32x1024.size inb_S8x40x1024_S1x32x1024_0_8_0)),
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![1, 5, 0] S1x32x1024.size inb_S8x40x1024_S1x32x1024_1_5_0))
        (View.ld pad (Rect.unit ![1, 6, 0] S1x32x1024.size inb_S8x40x1024_S1x32x1024_1_6_0))
        (View.ld pad (Rect.unit ![1, 7, 0] S1x32x1024.size inb_S8x40x1024_S1x32x1024_1_7_0))
        (View.ld pad (Rect.unit ![1, 8, 0] S1x32x1024.size inb_S8x40x1024_S1x32x1024_1_8_0)),
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![2, 5, 0] S1x32x1024.size inb_S8x40x1024_S1x32x1024_2_5_0))
        (View.ld pad (Rect.unit ![2, 6, 0] S1x32x1024.size inb_S8x40x1024_S1x32x1024_2_6_0))
        (View.ld pad (Rect.unit ![2, 7, 0] S1x32x1024.size inb_S8x40x1024_S1x32x1024_2_7_0))
        (View.ld pad (Rect.unit ![2, 8, 0] S1x32x1024.size inb_S8x40x1024_S1x32x1024_2_8_0)),
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![3, 5, 0] S1x32x1024.size inb_S8x40x1024_S1x32x1024_3_5_0))
        (View.ld pad (Rect.unit ![3, 6, 0] S1x32x1024.size inb_S8x40x1024_S1x32x1024_3_6_0))
        (View.ld pad (Rect.unit ![3, 7, 0] S1x32x1024.size inb_S8x40x1024_S1x32x1024_3_7_0))
        (View.ld pad (Rect.unit ![3, 8, 0] S1x32x1024.size inb_S8x40x1024_S1x32x1024_3_8_0)),
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![4, 5, 0] S1x32x1024.size inb_S8x40x1024_S1x32x1024_4_5_0))
        (View.ld pad (Rect.unit ![4, 6, 0] S1x32x1024.size inb_S8x40x1024_S1x32x1024_4_6_0))
        (View.ld pad (Rect.unit ![4, 7, 0] S1x32x1024.size inb_S8x40x1024_S1x32x1024_4_7_0))
        (View.ld pad (Rect.unit ![4, 8, 0] S1x32x1024.size inb_S8x40x1024_S1x32x1024_4_8_0)),
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![5, 5, 0] S1x32x1024.size inb_S8x40x1024_S1x32x1024_5_5_0))
        (View.ld pad (Rect.unit ![5, 6, 0] S1x32x1024.size inb_S8x40x1024_S1x32x1024_5_6_0))
        (View.ld pad (Rect.unit ![5, 7, 0] S1x32x1024.size inb_S8x40x1024_S1x32x1024_5_7_0))
        (View.ld pad (Rect.unit ![5, 8, 0] S1x32x1024.size inb_S8x40x1024_S1x32x1024_5_8_0)),
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![6, 5, 0] S1x32x1024.size inb_S8x40x1024_S1x32x1024_6_5_0))
        (View.ld pad (Rect.unit ![6, 6, 0] S1x32x1024.size inb_S8x40x1024_S1x32x1024_6_6_0))
        (View.ld pad (Rect.unit ![6, 7, 0] S1x32x1024.size inb_S8x40x1024_S1x32x1024_6_7_0))
        (View.ld pad (Rect.unit ![6, 8, 0] S1x32x1024.size inb_S8x40x1024_S1x32x1024_6_8_0)),
      convRows (View.ld cb (Rect.unit ![0, 0] S1x1024.size inb_S1x1024_S1x1024_0_0))
        (View.ld cw (Rect.unit ![0, 0] S1x1024.size inb_S4x1024_S1x1024_0_0))
        (View.ld cw (Rect.unit ![1, 0] S1x1024.size inb_S4x1024_S1x1024_1_0))
        (View.ld cw (Rect.unit ![2, 0] S1x1024.size inb_S4x1024_S1x1024_2_0))
        (View.ld cw (Rect.unit ![3, 0] S1x1024.size inb_S4x1024_S1x1024_3_0))
        (View.ld pad (Rect.unit ![7, 5, 0] S1x32x1024.size inb_S8x40x1024_S1x32x1024_7_5_0))
        (View.ld pad (Rect.unit ![7, 6, 0] S1x32x1024.size inb_S8x40x1024_S1x32x1024_7_6_0))
        (View.ld pad (Rect.unit ![7, 7, 0] S1x32x1024.size inb_S8x40x1024_S1x32x1024_7_7_0))
        (View.ld pad (Rect.unit ![7, 8, 0] S1x32x1024.size inb_S8x40x1024_S1x32x1024_7_8_0))] := by
  unfold convBlock
  congr 1
  funext b
  fin_cases b <;> rfl

/-- A gate's four squares, each load written out. -/
theorem gate_squares (x : FVec F S256x1024 .f32) (w : Vec F S4x256x256 .bf16) (b : Vec F S1x1024 .f32) :
    gate x (squareOf w) b = gate x ![
      View.ld w (Rect.unit ![0, 0, 0] S1x256x256.size inb_S4x256x256_S1x256x256_0_0_0),
      View.ld w (Rect.unit ![1, 0, 0] S1x256x256.size inb_S4x256x256_S1x256x256_1_0_0),
      View.ld w (Rect.unit ![2, 0, 0] S1x256x256.size inb_S4x256x256_S1x256x256_2_0_0),
      View.ld w (Rect.unit ![3, 0, 0] S1x256x256.size inb_S4x256x256_S1x256x256_3_0_0)] b := by
  congr 1
  funext n
  fin_cases n <;> rfl

end Cert.Proof.Rglru
-- ==== Proof.Scalars.lean ====
/-
  The identities of extended reals the layer's equation needs.

  The two programs write three things differently: the logarithm of the logistic function (`logSig_eq`), the square root's
  argument `1 - a²` (`one_sub_sq`) and the recurrence (`affine_comp`: a factor that is nonnegative and finite distributes over
  every sum of extended reals, the infinite ones too). The logarithm of the decay is never positive (`logDecay_nonpos`), so
  the decay is between zero and one, and each identity is used where it holds: none asks anything of the arguments.
-/
module

public import Idealize.ShloMosaic.Lib.Pointwise
public import Idealize.ShloMosaic.Lib.IdealHost

@[expose] public section

noncomputable section

namespace Cert.Proof.Rglru

open Idealize.ShloMosaic

/-- The f32 word of two. -/
theorem word_two : Ideal.ofBits .f32 0x40000000#32 = ((2 : ℝ) : EReal) := by
  simp [Ideal.ofBits, Ideal.ieee, -EReal.coe_mul]; norm_num

/-- The f32 word of eight. -/
theorem word_eight : Ideal.ofBits .f32 0x41000000#32 = ((8 : ℝ) : EReal) := by
  simp [Ideal.ofBits, Ideal.ieee, -EReal.coe_mul]; norm_num

/-- The smaller of a number and zero, less the logarithm's correction: the kernel's `log (1 / (1 + exp (-x)))`. -/
def logSig (x : EReal) : EReal := min x 0 - Ideal.log1p (Ideal.exp (0 - max x (-x)))

theorem log1p_zero : Ideal.log1p 0 = 0 := by
  rw [Ideal.log1p, add_zero, show (1 : EReal) = ((1 : ℝ) : EReal) from rfl, Ideal.log_coe, if_neg (by norm_num), Real.log_one]
  rfl

/-- The correction is a nonnegative real. -/
theorem correction (x : EReal) : ∃ r : ℝ, 0 ≤ r ∧ Ideal.log1p (Ideal.exp (0 - max x (-x))) = (r : EReal) := by
  induction x using EReal.rec with
  | bot => exact ⟨0, le_rfl, by simp [log1p_zero]⟩
  | top => exact ⟨0, le_rfl, by simp [log1p_zero]⟩
  | coe x =>
    have h : max (x : EReal) (-(x : EReal)) = ((max x (-x) : ℝ) : EReal) := by
      rw [← EReal.coe_neg]; exact (EReal.coe_strictMono.monotone.map_max).symm
    refine ⟨Real.log (1 + Real.exp (0 - max x (-x))), Real.log_nonneg (by linarith [Real.exp_pos (0 - max x (-x))]), ?_⟩
    rw [h, ← EReal.coe_zero, ← EReal.coe_sub, Ideal.exp_coe, Ideal.log1p,
      show (1 : EReal) = ((1 : ℝ) : EReal) from rfl, ← EReal.coe_add, Ideal.log_coe, if_neg]
    exact not_le.2 (by positivity)

/-- The logarithm of the logistic function is never positive. -/
theorem logSig_nonpos (x : EReal) : logSig x ≤ 0 := by
  obtain ⟨r, hr, e⟩ := correction x
  rw [logSig, e, sub_eq_add_neg, ← EReal.coe_neg]
  exact add_nonpos (min_le_right _ _) (by exact_mod_cast neg_nonpos.2 hr)

/-- The other program's writing of it: minus the larger of `-x` and zero plus the correction. -/
theorem logSig_eq (x : EReal) :
    -(max (-x) 0 + Ideal.log1p (Ideal.exp (-(max (-x - 0) (-(-x - 0)))))) = logSig x := by
  obtain ⟨r, hr, e⟩ := correction x
  have e' : -(max (-x - 0) (-(-x - 0))) = 0 - max x (-x) := by
    rw [sub_zero, neg_neg, max_comm, zero_sub]
  rw [e', logSig, e, EReal.neg_add (Or.inr (EReal.coe_ne_top r)) (Or.inr (EReal.coe_ne_bot r)), sub_eq_add_neg,
    sub_eq_add_neg]
  congr 1
  rcases le_total x 0 with h | h
  · rw [min_eq_left h, max_eq_left (by rw [EReal.le_neg, neg_zero]; exact h), neg_neg]
  · rw [min_eq_right h, max_eq_right (by rw [EReal.neg_le, neg_zero]; exact h), neg_zero]

/-- The logistic function is nonnegative. -/
theorem logistic_nonneg (x : EReal) : 0 ≤ Ideal.logistic x := by
  induction x using EReal.rec with
  | bot => rw [Ideal.logistic_bot]
  | top => rw [Ideal.logistic_top]; exact zero_le_one
  | coe x => rw [Ideal.logistic_coe]; exact_mod_cast inv_nonneg.2 (by positivity)

/-- The logarithm of the decay is never positive. -/
theorem logDecay_nonpos (r l : EReal) : ((8 : ℝ) : EReal) * Ideal.logistic r * logSig l ≤ 0 :=
  mul_nonpos_of_nonneg_of_nonpos (EReal.mul_nonneg (by exact_mod_cast (by norm_num : (0 : ℝ) ≤ 8)) (logistic_nonneg r))
    (logSig_nonpos l)

/-- The decay is nonnegative … -/
theorem exp_nonneg (x : EReal) : 0 ≤ Ideal.exp x := by
  induction x using EReal.rec with
  | bot => exact le_rfl
  | top => exact le_top
  | coe x => rw [Ideal.exp_coe]; exact_mod_cast (Real.exp_pos x).le

/-- … and finite. -/
theorem exp_ne_top {x : EReal} (h : x ≤ 0) : Ideal.exp x ≠ ⊤ := by
  induction x using EReal.rec with
  | bot => simp
  | top => exact absurd h (by simp)
  | coe x => rw [Ideal.exp_coe]; exact EReal.coe_ne_top _

/-- `1 - a²` two ways: `-tanh x (1 + e²ˣ)` and `-(e²ˣ - 1)`, at every `x` that is not positive. -/
theorem one_sub_sq {x : EReal} (h : x ≤ 0) :
    (0 - Ideal.tanh x) * (1 + Ideal.exp x * Ideal.exp x) = -(Ideal.exp (((2 : ℝ) : EReal) * x) - 1) := by
  induction x using EReal.rec with
  | bot =>
    rw [Ideal.tanh_bot, Ideal.exp_bot, EReal.coe_mul_bot_of_pos (by norm_num), Ideal.exp_bot]
    simp
  | top => exact absurd h (by simp)
  | coe x =>
    rw [Ideal.tanh_coe, Ideal.exp_coe, ← EReal.coe_mul, ← EReal.coe_mul, Ideal.exp_coe,
      show (1 : EReal) = ((1 : ℝ) : EReal) from rfl, ← EReal.coe_zero, ← EReal.coe_sub, ← EReal.coe_sub, ← EReal.coe_add,
      ← EReal.coe_mul, ← EReal.coe_neg]
    congr 1
    rw [Real.tanh_eq_sinh_div_cosh, Real.sinh_eq, Real.cosh_eq, two_mul, Real.exp_add, Real.exp_neg]
    have := Real.exp_pos x
    field_simp
    ring

/-- An affine map after another, its factor nonnegative and finite: one affine map. -/
theorem affine_comp {a : EReal} (h0 : 0 ≤ a) (h1 : a ≠ ⊤) (c b d x : EReal) :
    a * c * x + (a * d + b) = a * (c * x + d) + b := by
  rw [EReal.left_distrib_of_nonneg_of_ne_top h0 h1, mul_assoc, add_assoc]

/-- The product of two such factors is one. -/
theorem mul_ne_top {a c : EReal} (h0 : 0 ≤ a) (h1 : a ≠ ⊤) (k0 : 0 ≤ c) (k1 : c ≠ ⊤) : a * c ≠ ⊤ := by
  lift a to ℝ using ⟨h1, (lt_of_lt_of_le EReal.bot_lt_zero h0).ne'⟩
  lift c to ℝ using ⟨k1, (lt_of_lt_of_le EReal.bot_lt_zero k0).ne'⟩
  rw [← EReal.coe_mul]; exact EReal.coe_ne_top _

end Cert.Proof.Rglru
-- ==== Proof.Scan.lean ====
/-
  What a group of eight rows of the recurrence holds.

  Three doubling steps (by 1, 2 and 4 rows) turn each row's affine map `x ↦ a x + b` into the composition of the maps of the
  rows above it in the group with its own; applied to the state the group starts from, that is the recurrence. With the
  factors nonnegative and finite the composition is the nested one (`affine_comp`), whatever the offsets are.
-/
module

public import proofs.«01_k».proof.Proof.Block
public import proofs.«01_k».proof.Proof.Scalars
public import Idealize.ShloMosaic.Lib.KernelVsHost

@[expose] public section

noncomputable section

namespace Cert.Proof.Rglru

open Idealize.ShloMosaic Cert.KernelIdeal Cert.KernelIdeal.Gen

/-- The recurrence: the state after `n` steps from `h`. -/
def recur (a b : ℕ → EReal) (h : EReal) : ℕ → EReal
  | 0 => h
  | n + 1 => a n * recur a b h n + b n

/-- A row moved down by one, two or four, the constant in the rows left free. -/
theorem shifted_apply (s : BitVec 32) (z : BitVec 32) (hs : s.toNat = 1 ∨ s.toNat = 2 ∨ s.toNat = 4) (x : FVec Ideal S8x1024 .f32)
    (r : Fin 8) (c : Fin 1024) :
    shifted s z x (ix2 r c) =
      if h : s.toNat ≤ r.val then x (ix2 ⟨r.val - s.toNat, by omega⟩ c) else Ideal.ofBits .f32 z := by
  have hm : (cmpi .sge (iota .tc S8x1024 32 [0] iota_S8x1024_d0_w32) (broadcast S8x1024 s) : IVec S8x1024 1) (ix2 r c)
      = BitVec.ofBool (decide (s.toNat ≤ r.val)) := by
    obtain rfl | rfl | rfl : s = 1#32 ∨ s = 2#32 ∨ s = 4#32 := by
      rcases hs with h | h | h
      · exact .inl (BitVec.eq_of_toNat_eq h)
      · exact .inr (.inl (BitVec.eq_of_toNat_eq h))
      · exact .inr (.inr (BitVec.eq_of_toNat_eq h))
    all_goals
      pointwise
      revert r; decide
  show Scalar.select ((cmpi .sge (iota .tc S8x1024 32 [0] iota_S8x1024_d0_w32) (broadcast S8x1024 s) : IVec S8x1024 1) (ix2 r c))
    (dynamicRotate 0 s none x rotates_S8x1024_d0 (ix2 r c)) (Ideal.ofBits .f32 z) = _
  rw [hm]
  by_cases h : s.toNat ≤ r.val
  · rw [dif_pos h, decide_eq_true h]
    refine dynamicRotate_apply 0 s x rotates_S8x1024_d0 (ix2 r c) (ix2 ⟨r.val - s.toNat, by omega⟩ c) fun b => ?_
    fin_cases b
    · show r.val - s.toNat = (r.val + 8 - s.toNat % 8) % 8
      omega
    · rfl
  · rw [dif_neg h, decide_eq_false h]; rfl

section Group

variable (h : FVec Ideal S1x1024 .f32) (a b : FVec Ideal S8x1024 .f32)

/-- A doubling step at a row, on a state: the row's map after the map `s` rows above it. -/
theorem step_apply (s : BitVec 32) (hs : s.toNat = 1 ∨ s.toNat = 2 ∨ s.toNat = 4) (c : Fin 1024) (x : EReal)
    (h0 : ∀ r : Fin 8, 0 ≤ a (ix2 r c)) (h1 : ∀ r : Fin 8, a (ix2 r c) ≠ ⊤) (r : Fin 8) :
    foldA s a (ix2 r c) * x + foldB s a b (ix2 r c) =
      a (ix2 r c) * (if h : s.toNat ≤ r.val then
        a (ix2 ⟨r.val - s.toNat, by omega⟩ c) * x + b (ix2 ⟨r.val - s.toNat, by omega⟩ c) else x) + b (ix2 r c) := by
  show a (ix2 r c) * shifted s 0x3F800000#32 a (ix2 r c) * x + (a (ix2 r c) * shifted s 0x00000000#32 b (ix2 r c) + b (ix2 r c)) = _
  rw [shifted_apply s _ hs, shifted_apply s _ hs]
  split
  · exact affine_comp (h0 r) (h1 r) _ _ _ _
  · rw [Ideal.ofBits_one_f32, Ideal.ofBits_zero_f32, mul_one, mul_zero, zero_add]

/-- A doubling step keeps the factors nonnegative and finite. -/
theorem foldA_range (s : BitVec 32) (hs : s.toNat = 1 ∨ s.toNat = 2 ∨ s.toNat = 4) (c : Fin 1024)
    (h0 : ∀ r : Fin 8, 0 ≤ a (ix2 r c)) (h1 : ∀ r : Fin 8, a (ix2 r c) ≠ ⊤) (r : Fin 8) :
    0 ≤ foldA s a (ix2 r c) ∧ foldA s a (ix2 r c) ≠ ⊤ := by
  show 0 ≤ a (ix2 r c) * shifted s 0x3F800000#32 a (ix2 r c) ∧ a (ix2 r c) * shifted s 0x3F800000#32 a (ix2 r c) ≠ ⊤
  rw [shifted_apply s _ hs]
  split
  · exact ⟨EReal.mul_nonneg (h0 _) (h0 _), mul_ne_top (h0 _) (h1 _) (h0 _) (h1 _)⟩
  · rw [Ideal.ofBits_one_f32, mul_one]; exact ⟨h0 r, h1 r⟩

/-- ROW `r` OF A GROUP is the recurrence over the rows up to it. -/
theorem scanGroup_apply (c : Fin 1024) (h0 : ∀ r : Fin 8, 0 ≤ a (ix2 r c)) (h1 : ∀ r : Fin 8, a (ix2 r c) ≠ ⊤) (r : Fin 8) :
    scanGroup h a b (ix2 r c) =
      recur (fun n => if hn : n < 8 then a (ix2 ⟨n, hn⟩ c) else 0) (fun n => if hn : n < 8 then b (ix2 ⟨n, hn⟩ c) else 0)
        (h (ix2 (0 : Fin 1) c)) (r.val + 1) := by
  have e1 : (1#32).toNat = 1 := rfl
  have e2 : (2#32).toNat = 2 := rfl
  have e4 : (4#32).toNat = 4 := rfl
  have r1 := foldA_range a 1#32 (.inl rfl) c h0 h1
  have r2 := foldA_range (foldA 1#32 a) 2#32 (.inr (.inl rfl)) c (fun r => (r1 r).1) (fun r => (r1 r).2)
  show foldA 4#32 (foldA 2#32 (foldA 1#32 a)) (ix2 r c) * broadcastTo S8x1024 h broadcasts_S1x1024_S8x1024 (ix2 r c)
    + foldB 4#32 (foldA 2#32 (foldA 1#32 a)) (foldB 2#32 (foldA 1#32 a) (foldB 1#32 a b)) (ix2 r c) = _
  have hb : broadcastTo S8x1024 h broadcasts_S1x1024_S8x1024 (ix2 r c) = h (ix2 (0 : Fin 1) c) := by pointwise
  rw [hb, step_apply _ _ 4#32 (.inr (.inr rfl)) c _ (fun r => (r2 r).1) (fun r => (r2 r).2)]
  have s2 := fun (x : EReal) (r : Fin 8) => step_apply (foldA 1#32 a) (foldB 1#32 a b) 2#32 (.inr (.inl rfl)) c x
    (fun r => (r1 r).1) (fun r => (r1 r).2) r
  have s1 := fun (x : EReal) (r : Fin 8) => step_apply a b 1#32 (.inl rfl) c x h0 h1 r
  simp only [e4, s2, e2, s1, e1]
  fin_cases r <;> simp [recur]

end Group

end Cert.Proof.Rglru
-- ==== Proof.Rows.lean ====
/-
  What the 256 rows of a block hold: each sequence's recurrence over its 32 rows.

  The four groups of a sequence are chained through the last row of each, so row `r` of sequence `b` is the recurrence's state
  after `r + 1` steps from the state the block starts from (`allRows_apply`), and the carried state is the one after 32
  (`lastRows_apply`).
-/
module

public import proofs.«01_k».proof.Proof.Scan

@[expose] public section

noncomputable section

namespace Cert.Proof.Rglru

open Idealize.ShloMosaic Cert.KernelIdeal Cert.KernelIdeal.Gen

/-- The recurrence depends on its first `n` maps alone. -/
theorem recur_congr {a b a' b' : ℕ → EReal} {h h' : EReal} (hh : h = h') :
    ∀ {n : ℕ}, (∀ k < n, a k = a' k) → (∀ k < n, b k = b' k) → recur a b h n = recur a' b' h' n
  | 0, _, _ => hh
  | n + 1, ha, hb => by
    rw [recur, recur, ha n n.lt_succ_self, hb n n.lt_succ_self,
      recur_congr hh (fun k hk => ha k (Nat.lt_succ_of_lt hk)) (fun k hk => hb k (Nat.lt_succ_of_lt hk))]

/-- The recurrence taken up again after `m` steps. -/
theorem recur_add (a b : ℕ → EReal) (h : EReal) (m : ℕ) :
    ∀ n : ℕ, recur a b h (m + n) = recur (fun k => a (m + k)) (fun k => b (m + k)) (recur a b h m) n
  | 0 => rfl
  | n + 1 => by rw [← Nat.add_assoc, recur, recur, recur_add a b h m n]

/-- Sequence `b`'s rows of a 256-row block, at channel `c`. -/
def rowsOf (x : FVec Ideal S256x1024 .f32) (b : Fin 8) (c : Fin 1024) (n : ℕ) : EReal :=
  if hn : n < 32 then x (ix2 ⟨32 * b.val + n, by omega⟩ c) else 0

section Groups

variable (h : FVec Ideal S8x1024 .f32) (a x : FVec Ideal S256x1024 .f32) (b : Fin 8) (c : Fin 1024)

/-- Row `r` of the group cut at `8 g`. -/
theorem slice_group_apply (g : ℕ) (hg : g < 4) (r : Fin 8) :
    extractStridedSlice S8x1024 ![32 * b.val + 8 * g, 0] a (slices_group b g hg) (ix2 r c) = rowsOf a b c (8 * g + r.val) := by
  rw [rowsOf, dif_pos (by omega)]
  refine extractStridedSlice_apply _ a (slices_group b g hg) (ix2 r c) _ fun d => ?_
  fin_cases d
  · show 32 * b.val + (8 * g + r.val) = 32 * b.val + 8 * g + r.val
    omega
  · show c.val = 0 + c.val
    omega

/-- Row `r` of group `g` of sequence `b`: the state after `8 g + r + 1` steps. -/
theorem groupAt_apply (h0 : ∀ i, 0 ≤ a i) (h1 : ∀ i, a i ≠ ⊤) : ∀ (g : ℕ) (hg : g < 4) (r : Fin 8),
    groupAt h a x b g hg (ix2 r c) = recur (rowsOf a b c) (rowsOf x b c) (h (ix2 b c)) (8 * g + (r.val + 1))
  | 0, hg, r => by
    rw [groupAt, scanGroup_apply _ _ _ c (fun _ => h0 _) (fun _ => h1 _), show 8 * 0 + (r.val + 1) = r.val + 1 by omega]
    refine recur_congr ?_ (fun k hk => ?_) (fun k hk => ?_)
    · refine extractStridedSlice_apply _ h (slices_seq b) _ _ fun d => ?_
      fin_cases d
      · rfl
      · show c.val = 0 + c.val
        omega
    · rw [dif_pos (by omega), slice_group_apply a b c 0 hg, Nat.mul_zero, Nat.zero_add]
    · rw [dif_pos (by omega), slice_group_apply x b c 0 hg, Nat.mul_zero, Nat.zero_add]
  | g + 1, hg, r => by
    rw [groupAt, scanGroup_apply _ _ _ c (fun _ => h0 _) (fun _ => h1 _), recur_add (rowsOf a b c)]
    refine recur_congr ?_ (fun k hk => ?_) (fun k hk => ?_)
    · refine Eq.trans ?_ (groupAt_apply h0 h1 g (Nat.lt_of_succ_lt hg) 7)
      refine extractStridedSlice_apply _ _ slices_S8x1024_o7_0_S1x1024 _ _ fun d => ?_
      fin_cases d
      · rfl
      · show c.val = 0 + c.val
        omega
    · rw [dif_pos (by omega), slice_group_apply a b c (g + 1) hg]
    · rw [dif_pos (by omega), slice_group_apply x b c (g + 1) hg]

/-- ROW `r` OF SEQUENCE `b` in the block: the state after `r + 1` steps. -/
theorem allRows_apply (h0 : ∀ i, 0 ≤ a i) (h1 : ∀ i, a i ≠ ⊤) (r : Fin 32) :
    allRows h a x (ix2 (⟨32 * b.val + r.val, by omega⟩ : Fin 256) c) =
      recur (rowsOf a b c) (rowsOf x b c) (h (ix2 b c)) (r.val + 1) := by
  have hk : 4 * b.val + r.val / 8 < 32 := by omega
  have e := concatenate_ofFn_apply (t := S256x1024) (s₁ := S8x1024) 0
    (fun k : Fin 32 => groupAt h a x ⟨k.val / 4, by omega⟩ (k.val % 4) (Nat.mod_lt _ (by decide)))
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
    rfl 8 rfl
    (ix2 (⟨32 * b.val + r.val, by omega⟩ : Fin 256) c) ⟨4 * b.val + r.val / 8, hk⟩
    (by show (32 * b.val + r.val) / 8 = 4 * b.val + r.val / 8; omega) (ix2 (⟨r.val % 8, by omega⟩ : Fin 8) c)
    (by show r.val % 8 = (32 * b.val + r.val) % 8; omega)
    (fun d hd => by
      fin_cases d
      · exact absurd rfl hd
      · rfl)
  refine Eq.trans e ?_
  rw [groupAt_apply _ _ _ _ _ h0 h1]
  have eb : (⟨(4 * b.val + r.val / 8) / 4, by omega⟩ : Fin 8) = b := Fin.ext (by show (4 * b.val + r.val / 8) / 4 = b.val; omega)
  have er : 8 * ((4 * b.val + r.val / 8) % 4) + (r.val % 8 + 1) = r.val + 1 := by omega
  show recur (rowsOf a ⟨(4 * b.val + r.val / 8) / 4, _⟩ c) (rowsOf x ⟨(4 * b.val + r.val / 8) / 4, _⟩ c)
    (h (ix2 ⟨(4 * b.val + r.val / 8) / 4, _⟩ c)) (8 * ((4 * b.val + r.val / 8) % 4) + (r.val % 8 + 1)) = _
  rw [er]
  simp only [eb]

/-- THE CARRIED STATE of sequence `b`: the one after 32 steps. -/
theorem lastRows_apply (h0 : ∀ i, 0 ≤ a i) (h1 : ∀ i, a i ≠ ⊤) :
    lastRows h a x (ix2 b c) = recur (rowsOf a b c) (rowsOf x b c) (h (ix2 b c)) 32 := by
  have e := concatenate_ofFn_apply (t := S8x1024) (s₁ := S1x1024) 0
    (fun k : Fin 8 => extractStridedSlice S1x1024 ![7, 0] (groupAt h a x k 3 (by decide)) slices_S8x1024_o7_0_S1x1024)
    concatenates_S1x1024_S1x1024_S1x1024_S1x1024_S1x1024_S1x1024_S1x1024_S1x1024_S8x1024_d0
    rfl 1 rfl (ix2 b c) b (Nat.div_one _) (ix2 (0 : Fin 1) c) (Nat.mod_one _).symm
    (fun d hd => by
      fin_cases d
      · exact absurd rfl hd
      · rfl)
  refine Eq.trans e (Eq.trans ?_ (groupAt_apply h a x b c h0 h1 3 (by decide) 7))
  refine extractStridedSlice_apply _ _ slices_S8x1024_o7_0_S1x1024 _ _ fun d => ?_
  fin_cases d
  · rfl
  · show c.val = 0 + c.val
    omega

end Groups

end Cert.Proof.Rglru
-- ==== Proof.BlockValue.lean ====
/-
  The vocabulary of `Block.lean` read at an index, over the extended reals.
-/
module

public import proofs.«01_k».proof.Proof.Rows

@[expose] public section

noncomputable section

namespace Cert.Proof.Rglru

open Idealize.ShloMosaic Cert.KernelIdeal Cert.KernelIdeal.Gen

/-- The convolution at a row. -/
theorem convRows_apply (cb w0 w1 w2 w3 : Vec Ideal S1x1024 .f32) (x0 x1 x2 x3 : Vec Ideal S1x32x1024 .f32) (r : Fin 32) (c : Fin 1024) :
    convRows cb w0 w1 w2 w3 x0 x1 x2 x3 (ix2 r c) =
      cb (ix2 0 c) + x0 (ix3 0 r c) * w0 (ix2 0 c) + x1 (ix3 0 r c) * w1 (ix2 0 c) + x2 (ix3 0 r c) * w2 (ix2 0 c)
        + x3 (ix3 0 r c) * w3 (ix2 0 c) := by
  unfold convRows
  pointwise

/-- Row `32 b + r` of the stacked rows. -/
theorem stackRows_apply (x : Fin 8 → FVec Ideal S32x1024 .f32) (b : Fin 8) (r : Fin 32) (c : Fin 1024) :
    stackRows x (ix2 (⟨32 * b.val + r.val, by omega⟩ : Fin 256) c) = x b (ix2 r c) :=
  concatenate_ofFn_apply (t := S256x1024) (s₁ := S32x1024) 0 x
    concatenates_S32x1024_S32x1024_S32x1024_S32x1024_S32x1024_S32x1024_S32x1024_S32x1024_S256x1024_d0 rfl 32 rfl
    (ix2 (⟨32 * b.val + r.val, by omega⟩ : Fin 256) c) b
    (by show (32 * b.val + r.val) / 32 = b.val; omega) (ix2 r c)
    (by show r.val = (32 * b.val + r.val) % 32; omega)
    (fun d hd => by
      fin_cases d
      · exact absurd rfl hd
      · rfl)

/-- One block's product at an index. -/
theorem blockDot_apply (n : Fin 4) (x : FVec Ideal S256x1024 .bf16) (w : Vec Ideal S1x256x256 .bf16) (r : Fin 256) (d : Fin 256) :
    blockDot n x w (ix2 r d) = ∑ k : Fin 256, x (ix2 r ⟨256 * n.val + k.val, by omega⟩) * w (ix3 0 k d) := by
  unfold blockDot
  pointwise

/-- The block-diagonal product at an index. -/
theorem gateDot_apply (x : FVec Ideal S256x1024 .f32) (w : Fin 4 → Vec Ideal S1x256x256 .bf16) (r : Fin 256) (n : Fin 4) (d : Fin 256) :
    gateDot x w (ix2 r (⟨256 * n.val + d.val, by omega⟩ : Fin 1024)) =
      ∑ k : Fin 256, x (ix2 r ⟨256 * n.val + k.val, by omega⟩) * w n (ix3 0 k d) := by
  have e := concatenate_ofFn_apply (t := S256x1024) (s₁ := S256x256) 1
    (fun n : Fin 4 => blockDot n (truncf .bf16 x bitsLt_bf16_f32) (w n))
    concatenates_S256x256_S256x256_S256x256_S256x256_S256x1024_d1 rfl 256 rfl
    (ix2 r (⟨256 * n.val + d.val, by omega⟩ : Fin 1024)) n
    (by show (256 * n.val + d.val) / 256 = n.val; omega) (ix2 r d)
    (by show d.val = (256 * n.val + d.val) % 256; omega)
    (fun d hd => by
      fin_cases d
      · rfl
      · exact absurd rfl hd)
  exact e.trans (blockDot_apply n _ (w n) r d)

/-- A gate at an index. -/
theorem gate_apply (x : FVec Ideal S256x1024 .f32) (w : Fin 4 → Vec Ideal S1x256x256 .bf16) (v : Vec Ideal S1x1024 .f32) (r : Fin 256)
    (n : Fin 4) (d : Fin 256) :
    gate x w v (ix2 r (⟨256 * n.val + d.val, by omega⟩ : Fin 1024)) =
      Ideal.logistic ((∑ k : Fin 256, x (ix2 r ⟨256 * n.val + k.val, by omega⟩) * w n (ix3 0 k d))
        + v (ix2 0 ⟨256 * n.val + d.val, by omega⟩)) := by
  rw [← gateDot_apply]
  unfold gate
  pointwise

/-- The logarithm of the decay at an index. -/
theorem logDecay_apply (g : FVec Ideal S256x1024 .f32) (l : Vec Ideal S1x1024 .f32) (r : Fin 256) (c : Fin 1024) :
    logDecay g l (ix2 r c) = ((8 : ℝ) : EReal) * g (ix2 r c) * logSig (l (ix2 0 c)) := by
  unfold logDecay logSigmoid logSig
  pointwise
  rw [word_eight]
  rfl

/-- The recurrence's input at an index. -/
theorem drive_apply (la g x : FVec Ideal S256x1024 .f32) (r : Fin 256) (c : Fin 1024) (h : la (ix2 r c) ≤ 0) :
    drive la g x (ix2 r c) = Ideal.sqrt (-(Ideal.exp (((2 : ℝ) : EReal) * la (ix2 r c)) - 1)) * (g (ix2 r c) * x (ix2 r c)) := by
  rw [← one_sub_sq h]
  unfold drive
  pointwise

/-- The GELU at a number. -/
def geluAt (x : EReal) : EReal :=
  Ideal.ofBits .f32 0x3F000000#32 * x * (1 + Ideal.tanh (Ideal.ofBits .f32 0x3F4C422A#32 * (x + Ideal.ofBits .f32 0x3D372713#32 * (x * x * x))))

/-- A row times its gate's GELU, projected. -/
def projAt (h g : Fin 1024 → EReal) (wo : Fin 1024 → Fin 1024 → EReal) (c : Fin 1024) : EReal :=
  ∑ k : Fin 1024, h k * geluAt (g k) * wo k c

/-- The residual row plus the normed row. -/
def outRow (x y g : Fin 1024 → EReal) (c : Fin 1024) : EReal :=
  x c + y c * Ideal.rsqrt (Ideal.div (∑ k : Fin 1024, y k * y k) (Ideal.ofBits .f32 0x44800000#32) + Ideal.ofBits .f32 0x358637BD#32) * g c

theorem projAt_congr {h h' g g' : Fin 1024 → EReal} {wo wo' : Fin 1024 → Fin 1024 → EReal} (eh : h = h') (eg : g = g')
    (ew : wo = wo') : projAt h g wo = projAt h' g' wo' := by rw [eh, eg, ew]

theorem outRow_congr {x x' y y' g g' : Fin 1024 → EReal} (ex : x = x') (ey : y = y') (eg : g = g') (c : Fin 1024) :
    outRow x y g c = outRow x' y' g' c := by rw [ex, ey, eg]

/-- The output block at an index. -/
theorem outBlock_apply (h : FVec Ideal S256x1024 .f32) (g : Vec Ideal S8x32x1024 .f32) (wo : Vec Ideal S1024x1024 .bf16)
    (x : Vec Ideal S8x32x1024 .f32) (gn : Vec Ideal S1x1024 .f32) (b : Fin 8) (r : Fin 32) (c : Fin 1024) :
    outBlock h g wo x gn (ix3 b r c) =
      outRow (fun k => x (ix3 b r k))
        (projAt (fun k => h (ix2 (⟨32 * b.val + r.val, by omega⟩ : Fin 256) k)) (fun k => g (ix3 b r k)) (fun k c => wo (ix2 k c)))
        (fun k => gn (ix2 0 k)) c := by
  have e : (⟨32 * b.val + r.val, by omega⟩ : Fin 256) = ⟨b.val * 32 + r.val, by omega⟩ := Fin.ext (by show 32 * b.val + r.val = b.val * 32 + r.val; omega)
  rw [e]
  unfold outBlock rmsRows project gelu outRow projAt geluAt
  pointwise

end Cert.Proof.Rglru
-- ==== Proof.Spec.lean ====
/-
  The layer as the model states it, one number at a time.

  `padAt` is a sequence with three steps of zeros before it, `convAt` its causal convolution, `gateAt` a block-diagonal gate,
  `logAt` the logarithm of the decay, `inputAt` the recurrence's input, `hiddenAt` the state after so many steps, `layerAt`
  the layer's result.
-/
module

public import proofs.«01_k».proof.Proof.BlockValue

@[expose] public section

noncomputable section

namespace Cert.Proof.Rglru

open Idealize.ShloMosaic

/-- The arrays the recurrence depends on. -/
structure Params where
  xb : Fin 16384 → Fin 1024 → EReal
  cw : Fin 4 → Fin 1024 → EReal
  cb : Fin 1024 → EReal
  wa : Fin 4 → Fin 256 → Fin 256 → EReal
  ba : Fin 1024 → EReal
  wx : Fin 4 → Fin 256 → Fin 256 → EReal
  bx : Fin 1024 → EReal
  lam : Fin 1024 → EReal

variable (p : Params)

/-- Sequence `b` with three steps of zeros before it, at step `n`. -/
def padAt (b : Fin 8) (n : ℕ) (c : Fin 1024) : EReal :=
  if h : 3 ≤ n ∧ n < 2051 then p.xb ⟨b.val * 2048 + (n - 3), by omega⟩ c else 0

/-- The causal convolution at step `t`. -/
def convAt (b : Fin 8) (t : ℕ) (c : Fin 1024) : EReal :=
  p.cb c + padAt p b t c * p.cw 0 c + padAt p b (t + 1) c * p.cw 1 c + padAt p b (t + 2) c * p.cw 2 c
    + padAt p b (t + 3) c * p.cw 3 c

/-- A block-diagonal gate at step `t`, block `n`, channel `d` of the block. -/
def gateAt (w : Fin 4 → Fin 256 → Fin 256 → EReal) (v : Fin 1024 → EReal) (b : Fin 8) (t : ℕ) (n : Fin 4) (d : Fin 256) : EReal :=
  Ideal.logistic ((∑ k : Fin 256, convAt p b t ⟨256 * n.val + k.val, by omega⟩ * w n k d) + v ⟨256 * n.val + d.val, by omega⟩)

/-- A channel's block. -/
def blockIx (c : Fin 1024) : Fin 4 := ⟨c.val / 256, by omega⟩

/-- A channel's place in its block. -/
def placeIx (c : Fin 1024) : Fin 256 := ⟨c.val % 256, by omega⟩

theorem join_ix (c : Fin 1024) : (⟨256 * (blockIx c).val + (placeIx c).val, by omega⟩ : Fin 1024) = c :=
  Fin.ext (Nat.div_add_mod c.val 256)

/-- The logarithm of the decay. -/
def logAt (b : Fin 8) (t : ℕ) (c : Fin 1024) : EReal :=
  ((8 : ℝ) : EReal) * gateAt p p.wa p.ba b t (blockIx c) (placeIx c) * logSig (p.lam c)

/-- The recurrence's input. -/
def inputAt (b : Fin 8) (t : ℕ) (c : Fin 1024) : EReal :=
  Ideal.sqrt (-(Ideal.exp (((2 : ℝ) : EReal) * logAt p b t c) - 1))
    * (gateAt p p.wx p.bx b t (blockIx c) (placeIx c) * convAt p b t c)

/-- The state after `n` steps. -/
def hiddenAt (b : Fin 8) (n : ℕ) (c : Fin 1024) : EReal :=
  recur (fun t => Ideal.exp (logAt p b t c)) (fun t => inputAt p b t c) 0 n

/-- The layer's result at step `t`. -/
def layerAt (gate x : Fin 16384 → Fin 1024 → EReal) (wo : Fin 1024 → Fin 1024 → EReal) (g : Fin 1024 → EReal) (b : Fin 8)
    (t : Fin 2048) (c : Fin 1024) : EReal :=
  outRow (x ⟨b.val * 2048 + t.val, by omega⟩)
    (projAt (hiddenAt p b (t.val + 1)) (gate ⟨b.val * 2048 + t.val, by omega⟩) wo) g c

/-- The decay's logarithm is not positive. -/
theorem logAt_nonpos (b : Fin 8) (t : ℕ) (c : Fin 1024) : logAt p b t c ≤ 0 := logDecay_nonpos _ _

end Cert.Proof.Rglru
-- ==== Proof.Strip.lean ====
/-
  The strip a point convolves, entry by entry.
-/
module

public import proofs.«01_k».proof.Proof.Point
public import proofs.«01_k».proof.Proof.Spec

@[expose] public section

noncomputable section

namespace Cert.Proof.Rglru

open Idealize.ShloMosaic Cert.KernelIdeal Cert.KernelIdeal.Gen

theorem blockOf_apply (x : Vec Ideal S8x32x1024 .f32) (b : Fin 8) (r : Fin 32) (c : Fin 1024) :
    blockOf x (ix3 b r c) = x (ix3 b r c) := by
  unfold blockOf
  pointwise

theorem rowOf_apply (x : Vec Ideal S1x1024 .f32) (c : Fin 1024) : rowOf x (ix2 0 c) = x (ix2 0 c) := by
  unfold rowOf
  pointwise

theorem tapOf_apply (k : Fin 4) (x : Vec Ideal S4x1024 .f32) (c : Fin 1024) : tapOf k x (ix2 0 c) = x (ix2 k c) := by
  unfold tapOf
  pointwise

theorem squareOf_apply (w : Vec Ideal S4x256x256 .bf16) (n : Fin 4) (k d : Fin 256) :
    squareOf w n (ix3 0 k d) = w (ix3 n k d) := by
  unfold squareOf
  pointwise

theorem stripOf_apply (b : Fin 8) (k : Fin 4) (x : Vec Ideal S8x40x1024 .f32) (r : Fin 32) (c : Fin 1024) :
    stripOf b k x (ix3 0 r c) = x (ix3 b ⟨5 + k.val + r.val, by omega⟩ c) := by
  unfold stripOf
  pointwise

theorem historyOf_apply (x : Vec Ideal S8x40x1024 .f32) (b : Fin 8) (r : Fin 8) (c : Fin 1024) :
    historyOf x (ix3 b r c) = x (ix3 b ⟨32 + r.val, by omega⟩ c) := by
  unfold historyOf
  pointwise

theorem stateOf_eq (h : Vec Ideal S8x1024 .f32) : stateOf h = h :=
  View.ld_unit_zero (by ext d; fin_cases d <;> rfl) _ h

/-- The point's own rows. -/
theorem padWith_new (x : Vec Ideal S8x32x1024 .f32) (z : Vec Ideal S8x8x1024 .f32) (b : Fin 8) (r : Fin 32) (c : Fin 1024) :
    padWith x z (ix3 b (⟨8 + r.val, by omega⟩ : Fin 40) c) = x (ix3 b r c) := by
  have e : (ix3 b (⟨8 + r.val, by omega⟩ : Fin 40) c : S8x40x1024.Idx) =
      (Rect.unit (s := S8x40x1024) ![0, 8, 0] S8x32x1024.size inb_S8x40x1024_S8x32x1024_0_8_0).emb (ix3 b r c) := by
    funext a
    apply Fin.ext
    match a with
    | ⟨0, _⟩ => show b.val = 0 + 1 * b.val; omega
    | ⟨1, _⟩ => show 8 + r.val = 8 + 1 * r.val; omega
    | ⟨2, _⟩ => show c.val = 0 + 1 * c.val; omega
  unfold padWith padPieces
  have hx : k0_pay4 (blockOf x) = blockOf x := by
    unfold k0_pay4
    exact (shapeCast_self _ _).trans (shapeCast_self _ _)
  rw [e, View.canon_cons_emb, hx]
  exact blockOf_apply x b r c

/-- The history's rows. -/
theorem padWith_old (x : Vec Ideal S8x32x1024 .f32) (z : Vec Ideal S8x8x1024 .f32) (b : Fin 8) (r : Fin 8) (c : Fin 1024) :
    padWith x z (ix3 b (⟨r.val, by omega⟩ : Fin 40) c) = z (ix3 b r c) := by
  have e : (ix3 b (⟨r.val, by omega⟩ : Fin 40) c : S8x40x1024.Idx) =
      (Rect.unit (s := S8x40x1024) ![0, 0, 0] S8x8x1024.size inb_S8x40x1024_S8x8x1024_0_0_0).emb (ix3 b r c) := by
    funext a
    apply Fin.ext
    match a with
    | ⟨0, _⟩ => show b.val = 0 + 1 * b.val; omega
    | ⟨1, _⟩ => show r.val = 0 + 1 * r.val; omega
    | ⟨2, _⟩ => show c.val = 0 + 1 * c.val; omega
  unfold padWith padPieces
  rw [View.canon_cons_of_not_mem, e, View.canon_cons_emb]
  intro hm
  have h := (Rect.mem_set_unit (inb := inb_S8x40x1024_S8x32x1024_0_8_0)).mp hm (1 : Fin 3)
  have h8 : 8 ≤ r.val := h.1
  omega

/-- A later point's history is the last eight rows of the strip before it. -/
theorem padNext_old (x : Vec Ideal S8x32x1024 .f32) (s : Vec Ideal S8x40x1024 .f32) (b : Fin 8) (r : Fin 8) (c : Fin 1024) :
    padNext x s (ix3 b (⟨r.val, by omega⟩ : Fin 40) c) = s (ix3 b ⟨32 + r.val, by omega⟩ c) := by
  unfold padNext
  rw [padWith_old, shapeCast_self, historyOf_apply]

theorem noHistory_apply (i : S8x8x1024.Idx) : noHistory (F := Ideal) i = 0 := by
  unfold noHistory
  rw [shapeCast_self]
  pointwise

theorem noState_apply (i : S8x1024.Idx) : noState (F := Ideal) i = 0 := by
  unfold noState
  rw [shapeCast_self]
  pointwise

/-- The strip `pad` is what point `t` should read: from its sixth row on, the padded sequences from step `32 t`. -/
def Strips (p : Params) (t : ℕ) (pad : Vec Ideal S8x40x1024 .f32) : Prop :=
  ∀ (b : Fin 8) (n : Fin 35) (c : Fin 1024), pad (ix3 b ⟨5 + n.val, by omega⟩ c) = padAt p b (32 * t + n.val) c

/-- The block `x` is point `t`'s 32 steps of the sequences. -/
def Steps (p : Params) (t : ℕ) (x : Vec Ideal S8x32x1024 .f32) : Prop :=
  ∀ (b : Fin 8) (r : Fin 32) (c : Fin 1024), x (ix3 b r c) = padAt p b (32 * t + r.val + 3) c

theorem strips_first (p : Params) (x : Vec Ideal S8x32x1024 .f32) (h : Steps p 0 x) : Strips p 0 (padWith x noHistory) := by
  intro b n c
  by_cases hn : n.val < 3
  · refine (padWith_old x _ b ⟨5 + n.val, by omega⟩ c).trans ?_
    rw [noHistory_apply, padAt, dif_neg (by omega)]
  · have e : (⟨5 + n.val, by omega⟩ : Fin 40) = ⟨8 + (⟨n.val - 3, by omega⟩ : Fin 32).val, by show 8 + (n.val - 3) < 40; omega⟩ :=
      Fin.ext (by show 5 + n.val = 8 + (n.val - 3); omega)
    rw [e, padWith_new, h]
    congr 1
    show 32 * 0 + (n.val - 3) + 3 = 32 * 0 + n.val
    omega

theorem strips_next (p : Params) (t : ℕ) (x : Vec Ideal S8x32x1024 .f32) (s : Vec Ideal S8x40x1024 .f32) (h : Steps p (t + 1) x)
    (hs : Strips p t s) : Strips p (t + 1) (padNext x s) := by
  intro b n c
  by_cases hn : n.val < 3
  · refine (padNext_old x s b ⟨5 + n.val, by omega⟩ c).trans ?_
    have e : (⟨32 + (⟨5 + n.val, by omega⟩ : Fin 8).val, by show 32 + (5 + n.val) < 40; omega⟩ : Fin 40)
        = ⟨5 + (⟨32 + n.val, by omega⟩ : Fin 35).val, by show 5 + (32 + n.val) < 40; omega⟩ :=
      Fin.ext (by show 32 + (5 + n.val) = 5 + (32 + n.val); omega)
    rw [e, hs]
    congr 1
    show 32 * t + (32 + n.val) = 32 * (t + 1) + n.val
    omega
  · have e : (⟨5 + n.val, by omega⟩ : Fin 40) = ⟨8 + (⟨n.val - 3, by omega⟩ : Fin 32).val, by show 8 + (n.val - 3) < 40; omega⟩ :=
      Fin.ext (by show 5 + n.val = 8 + (n.val - 3); omega)
    unfold padNext
    rw [e, padWith_new, h]
    congr 1
    show 32 * (t + 1) + (n.val - 3) + 3 = 32 * (t + 1) + n.val
    omega

end Cert.Proof.Rglru
-- ==== Proof.Windows.lean ====
/-
  What each window's block holds, as entries of the argument arrays.

  Windows 0, 1 and 2 move down the time axis, 32 steps of each of the 8 sequences per grid point; the other nine hold their
  whole array at every point.
-/
module

public import proofs.«01_k».proof.Proof.Gen.KernelIdeal.Value
public import Idealize.ShloMosaic.Lib.Pointwise

@[expose] public section

noncomputable section

namespace Cert.Proof.Rglru

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem V_main_v0 : V m c main_v0 = truncf (F := Ideal) (φ := .f32) .bf16 (arg m c main_arg5) bitsLt_bf16_f32 := by
  show StableHlo.after hostOps0 _ (Proc.devRef .tc main_v0) = _
  after_results

theorem V_main_v1 : V m c main_v1 = truncf (F := Ideal) (φ := .f32) .bf16 (arg m c main_arg7) bitsLt_bf16_f32 := by
  show StableHlo.after hostOps0 _ (Proc.devRef .tc main_v1) = _
  after_results

theorem V_main_v2 : V m c main_v2 = truncf (F := Ideal) (φ := .f32) .bf16 (arg m c main_arg10) bitsLt_bf16_f32 := by
  show StableHlo.after hostOps0 _ (Proc.devRef .tc main_v2) = _
  after_results

theorem V_main_v3 : V m c main_v3 = shapeCast S8x2048x1024 (arg m c main_arg0) shapeCasts_S16384x1024_S8x2048x1024 := by
  show StableHlo.after hostOps0 _ (Proc.devRef .tc main_v3) = _
  after_results
  rfl

theorem V_main_v4 : V m c main_v4 = shapeCast S8x2048x1024 (arg m c main_arg1) shapeCasts_S16384x1024_S8x2048x1024 := by
  show StableHlo.after hostOps0 _ (Proc.devRef .tc main_v4) = _
  after_results
  rfl

theorem V_main_v5 : V m c main_v5 = shapeCast S8x2048x1024 (arg m c main_arg2) shapeCasts_S16384x1024_S8x2048x1024 := by
  show StableHlo.after hostOps0 _ (Proc.devRef .tc main_v5) = _
  after_results
  rfl

theorem V_main_v6 : V m c main_v6 = shapeCast S1x1024 (arg m c main_arg4) shapeCasts_S1024_S1x1024 := by
  show StableHlo.after hostOps0 _ (Proc.devRef .tc main_v6) = _
  after_results
  rfl

theorem V_main_v7 : V m c main_v7 = shapeCast S1x1024 (arg m c main_arg6) shapeCasts_S1024_S1x1024 := by
  show StableHlo.after hostOps0 _ (Proc.devRef .tc main_v7) = _
  after_results
  rfl

theorem V_main_v8 : V m c main_v8 = shapeCast S1x1024 (arg m c main_arg8) shapeCasts_S1024_S1x1024 := by
  show StableHlo.after hostOps0 _ (Proc.devRef .tc main_v8) = _
  after_results
  rfl

theorem V_main_v9 : V m c main_v9 = shapeCast S1x1024 (arg m c main_arg9) shapeCasts_S1024_S1x1024 := by
  show StableHlo.after hostOps0 _ (Proc.devRef .tc main_v9) = _
  after_results
  rfl

theorem V_main_v10 : V m c main_v10 = shapeCast S1x1024 (arg m c main_arg11) shapeCasts_S1024_S1x1024 := by
  show StableHlo.after hostOps0 _ (Proc.devRef .tc main_v10) = _
  after_results
  rfl

/-- A sequence array's row `2048 b + s`, read after the split into sequences. -/
theorem split_apply (x : Vec Ideal S16384x1024 .f32) (b : Fin 8) (s : Fin 2048) (k : Fin 1024) :
    shapeCast S8x2048x1024 x shapeCasts_S16384x1024_S8x2048x1024 (ix3 b s k) = x (ix2 ⟨b.val * 2048 + s.val, by omega⟩ k) := by
  pointwise

/-- A vector read as one row. -/
theorem row_apply (x : Vec Ideal S1024 .f32) (k : Fin 1024) :
    shapeCast S1x1024 x shapeCasts_S1024_S1x1024 (ix2 0 k) = x (ix1 k) := by
  pointwise

theorem index0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index1 : ∀ t : Fin cfg0.N, win0_1.index t (0 : Fin 3) = 0 ∧ win0_1.index t (1 : Fin 3) = t.val ∧ win0_1.index t (2 : Fin 3) = 0 :=
  (by decide +kernel : ∀ t : Fin grid0.N, _)
theorem index2 : ∀ t : Fin cfg0.N, win0_2.index t (0 : Fin 3) = 0 ∧ win0_2.index t (1 : Fin 3) = t.val ∧ win0_2.index t (2 : Fin 3) = 0 :=
  (by decide +kernel : ∀ t : Fin grid0.N, _)

/-- The grid has 64 points. -/
theorem point_lt (t : Fin cfg0.N) : t.val < 64 := lt_of_lt_of_eq t.isLt N_0

theorem block0_apply (t : Fin cfg0.N) (b : Fin 8) (r : Fin 32) (k : Fin 1024) :
    (iblk m c 0 t : Vec Ideal S8x32x1024 .f32) (ix3 b r k) =
      (arg m c main_arg0 : Vec Ideal S16384x1024 .f32) (ix2 ⟨b.val * 2048 + (32 * t.val + r.val), by have := point_lt t; omega⟩ k) := by
  have ht := point_lt t
  obtain ⟨i0, i1, i2⟩ := index0 t
  refine Eq.trans ?_ (split_apply (arg m c main_arg0) b ⟨32 * t.val + r.val, by omega⟩ k)
  unfold iblk
  rw [View.read_apply, ← V_main_v3 m c]
  show V m c main_v3 _ = V m c main_v3 _
  congr 1
  funext a
  apply Fin.ext
  match a with
  | ⟨0, _⟩ => show win0_0.index t 0 * 8 + 1 * b.val = b.val; rw [i0]; omega
  | ⟨1, _⟩ => show win0_0.index t 1 * 32 + 1 * r.val = 32 * t.val + r.val; rw [i1]; omega
  | ⟨2, _⟩ => show win0_0.index t 2 * 1024 + 1 * k.val = k.val; rw [i2]; omega

theorem block1_apply (t : Fin cfg0.N) (b : Fin 8) (r : Fin 32) (k : Fin 1024) :
    (iblk m c 1 t : Vec Ideal S8x32x1024 .f32) (ix3 b r k) =
      (arg m c main_arg1 : Vec Ideal S16384x1024 .f32) (ix2 ⟨b.val * 2048 + (32 * t.val + r.val), by have := point_lt t; omega⟩ k) := by
  have ht := point_lt t
  obtain ⟨i0, i1, i2⟩ := index1 t
  refine Eq.trans ?_ (split_apply (arg m c main_arg1) b ⟨32 * t.val + r.val, by omega⟩ k)
  unfold iblk
  rw [View.read_apply, ← V_main_v4 m c]
  show V m c main_v4 _ = V m c main_v4 _
  congr 1
  funext a
  apply Fin.ext
  match a with
  | ⟨0, _⟩ => show win0_1.index t 0 * 8 + 1 * b.val = b.val; rw [i0]; omega
  | ⟨1, _⟩ => show win0_1.index t 1 * 32 + 1 * r.val = 32 * t.val + r.val; rw [i1]; omega
  | ⟨2, _⟩ => show win0_1.index t 2 * 1024 + 1 * k.val = k.val; rw [i2]; omega

theorem block2_apply (t : Fin cfg0.N) (b : Fin 8) (r : Fin 32) (k : Fin 1024) :
    (iblk m c 2 t : Vec Ideal S8x32x1024 .f32) (ix3 b r k) =
      (arg m c main_arg2 : Vec Ideal S16384x1024 .f32) (ix2 ⟨b.val * 2048 + (32 * t.val + r.val), by have := point_lt t; omega⟩ k) := by
  have ht := point_lt t
  obtain ⟨i0, i1, i2⟩ := index2 t
  refine Eq.trans ?_ (split_apply (arg m c main_arg2) b ⟨32 * t.val + r.val, by omega⟩ k)
  unfold iblk
  rw [View.read_apply, ← V_main_v5 m c]
  show V m c main_v5 _ = V m c main_v5 _
  congr 1
  funext a
  apply Fin.ext
  match a with
  | ⟨0, _⟩ => show win0_2.index t 0 * 8 + 1 * b.val = b.val; rw [i0]; omega
  | ⟨1, _⟩ => show win0_2.index t 1 * 32 + 1 * r.val = 32 * t.val + r.val; rw [i1]; omega
  | ⟨2, _⟩ => show win0_2.index t 2 * 1024 + 1 * k.val = k.val; rw [i2]; omega

theorem index3 : ∀ (t : Fin cfg0.N) (a : Fin 2), win0_3.index t a = 0 :=
  (by decide +kernel : ∀ (t : Fin grid0.N) (a : Fin 2), _)

theorem block3_eq (t : Fin cfg0.N) : (iblk m c 3 t : Vec Ideal S4x1024 .f32) = V m c main_arg3 := by
  have hz : (fun a => win0_3.index t a * main_arg3.ty.shape.size a) = fun _ => 0 := funext fun a => by
    rw [index3 t a, Nat.zero_mul]
  exact Memref.read_access_unit_zero (Elt Ideal) main_arg3 hz (fun a => by rw [congrFun hz a]; simp) (V m c main_arg3)

theorem index4 : ∀ (t : Fin cfg0.N) (a : Fin 2), win0_4.index t a = 0 :=
  (by decide +kernel : ∀ (t : Fin grid0.N) (a : Fin 2), _)

theorem block4_eq (t : Fin cfg0.N) : (iblk m c 4 t : Vec Ideal S1x1024 .f32) = V m c main_v6 := by
  have hz : (fun a => win0_4.index t a * main_v6.ty.shape.size a) = fun _ => 0 := funext fun a => by
    rw [index4 t a, Nat.zero_mul]
  exact Memref.read_access_unit_zero (Elt Ideal) main_v6 hz (fun a => by rw [congrFun hz a]; simp) (V m c main_v6)

theorem index5 : ∀ (t : Fin cfg0.N) (a : Fin 3), win0_5.index t a = 0 :=
  (by decide +kernel : ∀ (t : Fin grid0.N) (a : Fin 3), _)

theorem block5_eq (t : Fin cfg0.N) : (iblk m c 5 t : Vec Ideal S4x256x256 .bf16) = V m c main_v0 := by
  have hz : (fun a => win0_5.index t a * main_v0.ty.shape.size a) = fun _ => 0 := funext fun a => by
    rw [index5 t a, Nat.zero_mul]
  exact Memref.read_access_unit_zero (Elt Ideal) main_v0 hz (fun a => by rw [congrFun hz a]; simp) (V m c main_v0)

theorem index6 : ∀ (t : Fin cfg0.N) (a : Fin 2), win0_6.index t a = 0 :=
  (by decide +kernel : ∀ (t : Fin grid0.N) (a : Fin 2), _)

theorem block6_eq (t : Fin cfg0.N) : (iblk m c 6 t : Vec Ideal S1x1024 .f32) = V m c main_v7 := by
  have hz : (fun a => win0_6.index t a * main_v7.ty.shape.size a) = fun _ => 0 := funext fun a => by
    rw [index6 t a, Nat.zero_mul]
  exact Memref.read_access_unit_zero (Elt Ideal) main_v7 hz (fun a => by rw [congrFun hz a]; simp) (V m c main_v7)

theorem index7 : ∀ (t : Fin cfg0.N) (a : Fin 3), win0_7.index t a = 0 :=
  (by decide +kernel : ∀ (t : Fin grid0.N) (a : Fin 3), _)

theorem block7_eq (t : Fin cfg0.N) : (iblk m c 7 t : Vec Ideal S4x256x256 .bf16) = V m c main_v1 := by
  have hz : (fun a => win0_7.index t a * main_v1.ty.shape.size a) = fun _ => 0 := funext fun a => by
    rw [index7 t a, Nat.zero_mul]
  exact Memref.read_access_unit_zero (Elt Ideal) main_v1 hz (fun a => by rw [congrFun hz a]; simp) (V m c main_v1)

theorem index8 : ∀ (t : Fin cfg0.N) (a : Fin 2), win0_8.index t a = 0 :=
  (by decide +kernel : ∀ (t : Fin grid0.N) (a : Fin 2), _)

theorem block8_eq (t : Fin cfg0.N) : (iblk m c 8 t : Vec Ideal S1x1024 .f32) = V m c main_v8 := by
  have hz : (fun a => win0_8.index t a * main_v8.ty.shape.size a) = fun _ => 0 := funext fun a => by
    rw [index8 t a, Nat.zero_mul]
  exact Memref.read_access_unit_zero (Elt Ideal) main_v8 hz (fun a => by rw [congrFun hz a]; simp) (V m c main_v8)

theorem index9 : ∀ (t : Fin cfg0.N) (a : Fin 2), win0_9.index t a = 0 :=
  (by decide +kernel : ∀ (t : Fin grid0.N) (a : Fin 2), _)

theorem block9_eq (t : Fin cfg0.N) : (iblk m c 9 t : Vec Ideal S1x1024 .f32) = V m c main_v9 := by
  have hz : (fun a => win0_9.index t a * main_v9.ty.shape.size a) = fun _ => 0 := funext fun a => by
    rw [index9 t a, Nat.zero_mul]
  exact Memref.read_access_unit_zero (Elt Ideal) main_v9 hz (fun a => by rw [congrFun hz a]; simp) (V m c main_v9)

theorem index10 : ∀ (t : Fin cfg0.N) (a : Fin 2), win0_10.index t a = 0 :=
  (by decide +kernel : ∀ (t : Fin grid0.N) (a : Fin 2), _)

theorem block10_eq (t : Fin cfg0.N) : (iblk m c 10 t : Vec Ideal S1024x1024 .bf16) = V m c main_v2 := by
  have hz : (fun a => win0_10.index t a * main_v2.ty.shape.size a) = fun _ => 0 := funext fun a => by
    rw [index10 t a, Nat.zero_mul]
  exact Memref.read_access_unit_zero (Elt Ideal) main_v2 hz (fun a => by rw [congrFun hz a]; simp) (V m c main_v2)

theorem index11 : ∀ (t : Fin cfg0.N) (a : Fin 2), win0_11.index t a = 0 :=
  (by decide +kernel : ∀ (t : Fin grid0.N) (a : Fin 2), _)

theorem block11_eq (t : Fin cfg0.N) : (iblk m c 11 t : Vec Ideal S1x1024 .f32) = V m c main_v10 := by
  have hz : (fun a => win0_11.index t a * main_v10.ty.shape.size a) = fun _ => 0 := funext fun a => by
    rw [index11 t a, Nat.zero_mul]
  exact Memref.read_access_unit_zero (Elt Ideal) main_v10 hz (fun a => by rw [congrFun hz a]; simp) (V m c main_v10)

end Cert.Proof.Rglru
-- ==== Proof.PointValue.lean ====
/-
  What a point leaves, entry by entry, once its strip holds the padded sequences.
-/
module

public import proofs.«01_k».proof.Proof.Strip
public import proofs.«01_k».proof.Proof.Windows

@[expose] public section

noncomputable section

namespace Cert.Proof.Rglru

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- The recurrence's arrays as launched. -/
def paramsOf : Params where
  xb r k := (arg m c main_arg1 : Vec Ideal S16384x1024 .f32) (ix2 r k)
  cw i k := (arg m c main_arg3 : Vec Ideal S4x1024 .f32) (ix2 i k)
  cb k := (arg m c main_arg4 : Vec Ideal S1024 .f32) (ix1 k)
  wa n k d := (arg m c main_arg5 : Vec Ideal S4x256x256 .f32) (ix3 n k d)
  ba k := (arg m c main_arg6 : Vec Ideal S1024 .f32) (ix1 k)
  wx n k d := (arg m c main_arg7 : Vec Ideal S4x256x256 .f32) (ix3 n k d)
  bx k := (arg m c main_arg8 : Vec Ideal S1024 .f32) (ix1 k)
  lam k := (arg m c main_arg9 : Vec Ideal S1024 .f32) (ix1 k)

theorem w3_apply (t : Fin cfg0.N) (i : Fin 4) (k : Fin 1024) :
    (iblk m c 3 t : Vec Ideal S4x1024 .f32) (ix2 i k) = (paramsOf m c).cw i k := by
  rw [block3_eq, V_main_arg3]
  rfl

theorem w4_apply (t : Fin cfg0.N) (k : Fin 1024) : (iblk m c 4 t : Vec Ideal S1x1024 .f32) (ix2 0 k) = (paramsOf m c).cb k := by
  rw [block4_eq, V_main_v6, row_apply]
  rfl

theorem w5_apply (t : Fin cfg0.N) (n : Fin 4) (k d : Fin 256) :
    (iblk m c 5 t : Vec Ideal S4x256x256 .bf16) (ix3 n k d) = (paramsOf m c).wa n k d := by
  rw [block5_eq, V_main_v0]
  rfl

theorem w6_apply (t : Fin cfg0.N) (k : Fin 1024) : (iblk m c 6 t : Vec Ideal S1x1024 .f32) (ix2 0 k) = (paramsOf m c).ba k := by
  rw [block6_eq, V_main_v7, row_apply]
  rfl

theorem w7_apply (t : Fin cfg0.N) (n : Fin 4) (k d : Fin 256) :
    (iblk m c 7 t : Vec Ideal S4x256x256 .bf16) (ix3 n k d) = (paramsOf m c).wx n k d := by
  rw [block7_eq, V_main_v1]
  rfl

theorem w8_apply (t : Fin cfg0.N) (k : Fin 1024) : (iblk m c 8 t : Vec Ideal S1x1024 .f32) (ix2 0 k) = (paramsOf m c).bx k := by
  rw [block8_eq, V_main_v8, row_apply]
  rfl

theorem w9_apply (t : Fin cfg0.N) (k : Fin 1024) : (iblk m c 9 t : Vec Ideal S1x1024 .f32) (ix2 0 k) = (paramsOf m c).lam k := by
  rw [block9_eq, V_main_v9, row_apply]
  rfl

/-- The block of the second argument is the point's steps. -/
theorem steps_block (t : Fin cfg0.N) : Steps (paramsOf m c) t.val (iblk m c 1 t) := by
  intro b r k
  have ht := point_lt t
  rw [block1_apply, padAt, dif_pos (by omega)]
  show _ = (arg m c main_arg1 : Vec Ideal S16384x1024 .f32) (ix2 _ k)
  congr 2

variable (t : Fin cfg0.N) (pad : Vec Ideal S8x40x1024 .f32) (hp : Strips (paramsOf m c) t.val pad)
include hp

theorem strip_tap (b : Fin 8) (k : Fin 4) (r : Fin 32) (d : Fin 1024) :
    stripOf b k pad (ix3 0 r d) = padAt (paramsOf m c) b (32 * t.val + r.val + k.val) d := by
  have e : (⟨5 + k.val + r.val, by omega⟩ : Fin 40) = ⟨5 + (⟨k.val + r.val, by omega⟩ : Fin 35).val, by show 5 + (k.val + r.val) < 40; omega⟩ :=
    Fin.ext (by show 5 + k.val + r.val = 5 + (k.val + r.val); omega)
  rw [stripOf_apply, e, hp]
  congr 1
  show 32 * t.val + (k.val + r.val) = 32 * t.val + r.val + k.val
  omega

/-- The convolved rows. -/
theorem conv_apply (b : Fin 8) (r : Fin 32) (d : Fin 1024) :
    convBlock pad (iblk m c 3 t) (iblk m c 4 t) (ix2 (⟨32 * b.val + r.val, by omega⟩ : Fin 256) d) =
      convAt (paramsOf m c) b (32 * t.val + r.val) d := by
  unfold convBlock
  rw [stackRows_apply, convRows_apply, rowOf_apply, tapOf_apply, tapOf_apply, tapOf_apply, tapOf_apply,
    strip_tap m c t pad hp, strip_tap m c t pad hp, strip_tap m c t pad hp, strip_tap m c t pad hp,
    w3_apply, w3_apply, w3_apply, w3_apply, w4_apply]
  rfl

/-- The decay's logarithm. -/
theorem log_apply (b : Fin 8) (r : Fin 32) (d : Fin 1024) :
    logRows (convBlock pad (iblk m c 3 t) (iblk m c 4 t)) (iblk m c 5 t) (iblk m c 6 t) (iblk m c 9 t)
        (ix2 (⟨32 * b.val + r.val, by omega⟩ : Fin 256) d) =
      logAt (paramsOf m c) b (32 * t.val + r.val) d := by
  unfold logRows
  rw [logDecay_apply, rowOf_apply, w9_apply]
  unfold logAt
  congr 2
  conv_lhs => rw [← join_ix d]
  rw [gate_apply, rowOf_apply, w6_apply]
  unfold gateAt
  simp only [squareOf_apply, w5_apply, conv_apply m c t pad hp]

/-- The recurrence's input. -/
theorem input_apply (b : Fin 8) (r : Fin 32) (d : Fin 1024) :
    inputRows (convBlock pad (iblk m c 3 t) (iblk m c 4 t)) (iblk m c 5 t) (iblk m c 6 t) (iblk m c 7 t) (iblk m c 8 t)
        (iblk m c 9 t) (ix2 (⟨32 * b.val + r.val, by omega⟩ : Fin 256) d) =
      inputAt (paramsOf m c) b (32 * t.val + r.val) d := by
  unfold inputRows
  rw [drive_apply _ _ _ _ _ (by rw [log_apply m c t pad hp]; exact logAt_nonpos _ _ _ _), log_apply m c t pad hp,
    conv_apply m c t pad hp]
  unfold inputAt
  congr 2
  conv_lhs => rw [← join_ix d]
  rw [gate_apply, rowOf_apply, w8_apply]
  unfold gateAt
  simp only [squareOf_apply, w7_apply, conv_apply m c t pad hp]

theorem decay_apply (b : Fin 8) (r : Fin 32) (d : Fin 1024) :
    exp (F := Ideal) (logRows (convBlock pad (iblk m c 3 t) (iblk m c 4 t)) (iblk m c 5 t) (iblk m c 6 t) (iblk m c 9 t))
        (ix2 (⟨32 * b.val + r.val, by omega⟩ : Fin 256) d) =
      Ideal.exp (logAt (paramsOf m c) b (32 * t.val + r.val) d) :=
  congrArg Ideal.exp (log_apply m c t pad hp b r d)

/-- Every row of the decay is nonnegative and finite. -/
theorem decay_bounds (i : S256x1024.Idx) :
    0 ≤ exp (F := Ideal) (logRows (convBlock pad (iblk m c 3 t) (iblk m c 4 t)) (iblk m c 5 t) (iblk m c 6 t) (iblk m c 9 t)) i ∧
      exp (F := Ideal) (logRows (convBlock pad (iblk m c 3 t) (iblk m c 4 t)) (iblk m c 5 t) (iblk m c 6 t) (iblk m c 9 t)) i ≠ ⊤ := by
  have hi : i = ix2 (⟨32 * ((⟨(i 0).val / 32, by have h : (i 0).val < 256 := (i 0).isLt; omega⟩ : Fin 8).val)
      + (⟨(i 0).val % 32, Nat.mod_lt _ (by decide)⟩ : Fin 32).val, by have h : (i 0).val < 256 := (i 0).isLt; show 32 * ((i 0).val / 32) + (i 0).val % 32 < 256; omega⟩ : Fin 256)
      (⟨(i 1).val, (i 1).isLt⟩ : Fin 1024) := by
    funext a
    apply Fin.ext
    match a with
    | ⟨0, _⟩ => exact (Nat.div_add_mod _ 32).symm
    | ⟨1, _⟩ => rfl
  rw [hi, decay_apply m c t pad hp]
  exact ⟨exp_nonneg _, exp_ne_top (logAt_nonpos _ _ _ _)⟩

variable (h : Vec Ideal S8x1024 .f32) (hh : ∀ (b : Fin 8) (d : Fin 1024), h (ix2 b d) = hiddenAt (paramsOf m c) b (32 * t.val) d)
include hh

/-- Within the point the recurrence goes on from where it stood. -/
theorem recur_point (b : Fin 8) (d : Fin 1024) (n : ℕ) (hn : n ≤ 32) :
    recur (rowsOf (exp (F := Ideal) (logRows (convBlock pad (iblk m c 3 t) (iblk m c 4 t)) (iblk m c 5 t) (iblk m c 6 t) (iblk m c 9 t))) b d)
      (rowsOf (inputRows (convBlock pad (iblk m c 3 t) (iblk m c 4 t)) (iblk m c 5 t) (iblk m c 6 t) (iblk m c 7 t) (iblk m c 8 t)
        (iblk m c 9 t)) b d) (h (ix2 b d)) n = hiddenAt (paramsOf m c) b (32 * t.val + n) d := by
  unfold hiddenAt
  rw [recur_add]
  refine recur_congr (hh b d) (fun k hk => ?_) (fun k hk => ?_)
  · rw [rowsOf, dif_pos (by omega)]
    exact decay_apply m c t pad hp b ⟨k, by omega⟩ d
  · rw [rowsOf, dif_pos (by omega)]
    exact input_apply m c t pad hp b ⟨k, by omega⟩ d

/-- The state a point leaves. -/
theorem stateAt_apply (b : Fin 8) (d : Fin 1024) :
    stateAt m c t pad h (ix2 b d) = hiddenAt (paramsOf m c) b (32 * (t.val + 1)) d := by
  unfold stateAt
  rw [lastRows_apply h _ _ b d (fun i => (decay_bounds m c t pad hp i).1) (fun i => (decay_bounds m c t pad hp i).2),
    recur_point m c t pad hp h hh b d 32 le_rfl, Nat.mul_add]

/-- The output block a point leaves. -/
theorem outAt_apply (b : Fin 8) (r : Fin 32) (d : Fin 1024) :
    outAt m c t pad h (ix3 b r d) =
      layerAt (paramsOf m c) (fun i k => (arg m c main_arg0 : Vec Ideal S16384x1024 .f32) (ix2 i k))
        (fun i k => (arg m c main_arg2 : Vec Ideal S16384x1024 .f32) (ix2 i k))
        (fun k d => (arg m c main_arg10 : Vec Ideal S1024x1024 .f32) (ix2 k d))
        (fun k => (arg m c main_arg11 : Vec Ideal S1024 .f32) (ix1 k)) b
        ⟨32 * t.val + r.val, by have := point_lt t; omega⟩ d := by
  have e : ∀ k, allRows h (exp (F := Ideal) (logRows (convBlock pad (iblk m c 3 t) (iblk m c 4 t)) (iblk m c 5 t) (iblk m c 6 t) (iblk m c 9 t)))
      (inputRows (convBlock pad (iblk m c 3 t) (iblk m c 4 t)) (iblk m c 5 t) (iblk m c 6 t) (iblk m c 7 t) (iblk m c 8 t)
        (iblk m c 9 t)) (ix2 (⟨32 * b.val + r.val, by omega⟩ : Fin 256) k) = hiddenAt (paramsOf m c) b (32 * t.val + r.val + 1) k :=
    fun k => (allRows_apply h _ _ b k (fun i => (decay_bounds m c t pad hp i).1) (fun i => (decay_bounds m c t pad hp i).2) r).trans
      (recur_point m c t pad hp h hh b k (r.val + 1) (by omega))
  have eg : ∀ k, rowOf (F := Ideal) (iblk m c 11 t) (ix2 0 k) = (arg m c main_arg11 : Vec Ideal S1024 .f32) (ix1 k) := fun k => by
    rw [rowOf_apply, block11_eq, V_main_v10, row_apply]
  have ew : View.ld (iblk m c 10 t) (Rect.unit (s := S1024x1024) ![0, 0] S1024x1024.size inb_S1024x1024_S1024x1024_0_0)
      = truncf (F := Ideal) (φ := .f32) .bf16 (arg m c main_arg10) bitsLt_bf16_f32 := by
    exact (View.ld_unit_zero (by ext d; fin_cases d <;> rfl) _ _).trans ((block10_eq m c t).trans (V_main_v2 m c))
  unfold outAt
  rw [outBlock_apply]
  unfold layerAt
  exact outRow_congr (funext fun k => (blockOf_apply _ b r k).trans (block2_apply m c t b r k))
    (projAt_congr (funext e) (funext fun k => (blockOf_apply _ b r k).trans (block0_apply m c t b r k))
      (funext fun k => funext fun d => congrFun ew (ix2 k d))) (funext eg) d

end Cert.Proof.Rglru
-- ==== Proof.PointA.lean ====
/-
  What the first point of the grid leaves: it starts from zeros.
-/
module

public import proofs.«01_k».proof.Proof.Point

@[expose] public section

noncomputable section

namespace Cert.Proof.Rglru

open Idealize.ShloMosaic Cert.KernelIdeal Cert.KernelIdeal.Gen Cert.KernelIdeal.Value

variable {F : FTy → Type} [FloatOps F]
variable (m : (ℓ : Loc nD τ sig) → Buf (Elt F) ℓ) (c : Dev nD)

/-- The strip. -/
theorem strip_A (t : Fin cfg0.N) (acc) (h0 : t.val % 64 = 0) (h1 : ¬1 ≤ t.val) (h2 : ¬t.val % 64 = 63) :
    (stAt0 m c t.val t.isLt acc).2.2.2.1 = padWith (iblk m c 1 t) noHistory := by
  rw [stAt0_A m c t acc h0 h1 h2]
  dsimp only
  unfold sout0_A_0
  rw [View.read_writes_junk_eq_canon]
  unfold kernelRun0_A
  dsimp only
  sl_unfold_words
  simp -proj only [View.readAt_eq_ld, (hs0_1 t).read_unread, (Memref.isWhole_whole _).read_unread, k0_pay1]
  exact rfl

attribute [local irreducible] padWith scanGroup stackRows convRows gateDot gate logSigmoid logDecay drive gelu project rmsRows outBlock
set_option maxHeartbeats 400000

/-- The state. -/
theorem state_A (t : Fin cfg0.N) (acc) (h0 : t.val % 64 = 0) (h1 : ¬1 ≤ t.val) (h2 : ¬t.val % 64 = 63) :
    (stAt0 m c t.val t.isLt acc).2.2.2.2 = stateAt m c t (padWith (iblk m c 1 t) noHistory) noState := by
  rw [stAt0_A m c t acc h0 h1 h2]
  dsimp only
  unfold sout0_A_1
  rw [View.read_writes_junk_eq_canon]
  unfold kernelRun0_A
  dsimp only
  sl_unfold_words
  simp -proj only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (Memref.isWhole_whole _).read_unread, ld_padWith,
    ld_state]
  rw [View.canon_cons_unit_zero (by ext d; fin_cases d <;> rfl), k0_pay269, shapeCast_self]
  unfold_payloads
  dsimp -proj only
  simp -proj only [fold_convRows, fold_stack, fold_gateDot, fold_gate, fold_logSigmoid, fold_logDecay, fold_drive, fold_shifted,
    fold_foldA, fold_foldB, fold_scanGroup]
  generalize hB : drive (F := F) (logDecay _ _) _ _ = B
  generalize hA : exp (logDecay (F := F) _ _) = A
  have hA' : exp (logRows (convBlock (padWith (iblk m c 1 t) noHistory) (iblk m c 3 t) (iblk m c 4 t)) (iblk m c 5 t) (iblk m c 6 t)
      (iblk m c 9 t)) = A := by
    rw [← hA, logRows, convBlock_eq, gate_squares, noHistory, rowOf, rowOf]
  have hB' : inputRows (convBlock (padWith (iblk m c 1 t) noHistory) (iblk m c 3 t) (iblk m c 4 t)) (iblk m c 5 t) (iblk m c 6 t)
      (iblk m c 7 t) (iblk m c 8 t) (iblk m c 9 t) = B := by
    rw [← hB, inputRows, logRows, convBlock_eq, gate_squares, gate_squares, noHistory, rowOf, rowOf, rowOf]
  rw [stateAt, hA', hB']
  clear hA hB hA' hB'
  exact rfl

/-- The output block. -/
theorem out_A (t : Fin cfg0.N) (acc) (h0 : t.val % 64 = 0) (h1 : ¬1 ≤ t.val) (h2 : ¬t.val % 64 = 63) :
    (stAt0 m c t.val t.isLt acc).1 = outAt m c t (padWith (iblk m c 1 t) noHistory) noState := by
  rw [stAt0_A m c t acc h0 h1 h2]
  dsimp only
  unfold out0_A_12
  rw [View.read_writes_junk_eq_canon]
  unfold kernelRun0_A
  dsimp only
  sl_unfold_words
  simp -proj only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (Memref.isWhole_whole _).read_unread, ld_padWith,
    ld_state]
  rw [View.canon_unit_zero (by ext d; fin_cases d <;> rfl), k0_pay271]
  unfold_payloads
  dsimp -proj only
  simp -proj only [fold_convRows, fold_stack, fold_gateDot, fold_gate, fold_logSigmoid, fold_logDecay, fold_drive, fold_shifted,
    fold_foldA, fold_foldB, fold_scanGroup,
    fold_gelu, fold_project, fold_rmsRows, fold_outBlock]
  generalize hB : drive (F := F) (logDecay _ _) _ _ = B
  generalize hA : exp (logDecay (F := F) _ _) = A
  have hA' : exp (logRows (convBlock (padWith (iblk m c 1 t) noHistory) (iblk m c 3 t) (iblk m c 4 t)) (iblk m c 5 t) (iblk m c 6 t)
      (iblk m c 9 t)) = A := by
    rw [← hA, logRows, convBlock_eq, gate_squares, noHistory, rowOf, rowOf]
  have hB' : inputRows (convBlock (padWith (iblk m c 1 t) noHistory) (iblk m c 3 t) (iblk m c 4 t)) (iblk m c 5 t) (iblk m c 6 t)
      (iblk m c 7 t) (iblk m c 8 t) (iblk m c 9 t) = B := by
    rw [← hB, inputRows, logRows, convBlock_eq, gate_squares, gate_squares, noHistory, rowOf, rowOf, rowOf]
  rw [outAt, hA', hB']
  clear hA hB hA' hB'
  exact rfl

end Cert.Proof.Rglru
-- ==== Proof.PointB.lean ====
/-
  What the middle points of the grid leave: the strip takes the last rows of the strip before it, the state goes on.
-/
module

public import proofs.«01_k».proof.Proof.Point

@[expose] public section

noncomputable section

namespace Cert.Proof.Rglru

open Idealize.ShloMosaic Cert.KernelIdeal Cert.KernelIdeal.Gen Cert.KernelIdeal.Value

variable {F : FTy → Type} [FloatOps F]
variable (m : (ℓ : Loc nD τ sig) → Buf (Elt F) ℓ) (c : Dev nD)

/-- The strip. -/
theorem strip_B (t : Fin cfg0.N) (acc) (h0 : ¬t.val % 64 = 0) (h1 : 1 ≤ t.val) (h2 : ¬t.val % 64 = 63) :
    (stAt0 m c t.val t.isLt acc).2.2.2.1 = padNext (iblk m c 1 t) acc.2.2.2.1 := by
  rw [stAt0_B m c t acc h0 h1 h2]
  dsimp only
  unfold sout0_B_0
  rw [View.read_writes_junk_eq_canon]
  unfold kernelRun0_B
  dsimp only
  sl_unfold_words
  simp only [View.readAt_eq_ld, (hs0_1 t).read_unread, (Memref.isWhole_whole _).read_unread]
  rfl

attribute [local irreducible] padWith scanGroup stackRows convRows gateDot gate logSigmoid logDecay drive gelu project rmsRows outBlock
set_option maxHeartbeats 400000

/-- The state. -/
theorem state_B (t : Fin cfg0.N) (acc) (h0 : ¬t.val % 64 = 0) (h1 : 1 ≤ t.val) (h2 : ¬t.val % 64 = 63) :
    (stAt0 m c t.val t.isLt acc).2.2.2.2 = stateAt m c t (padNext (iblk m c 1 t) acc.2.2.2.1) (stateOf acc.2.2.2.2) := by
  rw [stAt0_B m c t acc h0 h1 h2]
  dsimp only
  unfold sout0_B_1
  rw [View.read_writes_junk_eq_canon]
  unfold kernelRun0_B
  dsimp only
  sl_unfold_words
  simp -proj only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (Memref.isWhole_whole _).read_unread, ld_padWith]
  rw [View.canon_unit_zero (by ext d; fin_cases d <;> rfl), k0_pay269, shapeCast_self]
  unfold_payloads
  dsimp -proj only
  simp -proj only [fold_convRows, fold_stack, fold_gateDot, fold_gate, fold_logSigmoid, fold_logDecay, fold_drive, fold_shifted,
    fold_foldA, fold_foldB, fold_scanGroup]
  generalize hB : drive (F := F) (logDecay _ _) _ _ = B
  generalize hA : exp (logDecay (F := F) _ _) = A
  have hA' : exp (logRows (convBlock (padNext (iblk m c 1 t) acc.2.2.2.1) (iblk m c 3 t) (iblk m c 4 t)) (iblk m c 5 t) (iblk m c 6 t)
      (iblk m c 9 t)) = A := by
    rw [← hA, logRows, convBlock_eq, gate_squares, padNext, historyOf, rowOf, rowOf]
  have hB' : inputRows (convBlock (padNext (iblk m c 1 t) acc.2.2.2.1) (iblk m c 3 t) (iblk m c 4 t)) (iblk m c 5 t) (iblk m c 6 t)
      (iblk m c 7 t) (iblk m c 8 t) (iblk m c 9 t) = B := by
    rw [← hB, inputRows, logRows, convBlock_eq, gate_squares, gate_squares, padNext, historyOf, rowOf, rowOf, rowOf]
  rw [stateAt, hA', hB']
  clear hA hB hA' hB'
  exact rfl

/-- The output block. -/
theorem out_B (t : Fin cfg0.N) (acc) (h0 : ¬t.val % 64 = 0) (h1 : 1 ≤ t.val) (h2 : ¬t.val % 64 = 63) :
    (stAt0 m c t.val t.isLt acc).1 = outAt m c t (padNext (iblk m c 1 t) acc.2.2.2.1) (stateOf acc.2.2.2.2) := by
  rw [stAt0_B m c t acc h0 h1 h2]
  dsimp only
  unfold out0_B_12
  rw [View.read_writes_junk_eq_canon]
  unfold kernelRun0_B
  dsimp only
  sl_unfold_words
  simp -proj only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (Memref.isWhole_whole _).read_unread, ld_padWith]
  rw [View.canon_unit_zero (by ext d; fin_cases d <;> rfl), k0_pay271]
  unfold_payloads
  dsimp -proj only
  simp -proj only [fold_convRows, fold_stack, fold_gateDot, fold_gate, fold_logSigmoid, fold_logDecay, fold_drive, fold_shifted,
    fold_foldA, fold_foldB, fold_scanGroup,
    fold_gelu, fold_project, fold_rmsRows, fold_outBlock]
  generalize hB : drive (F := F) (logDecay _ _) _ _ = B
  generalize hA : exp (logDecay (F := F) _ _) = A
  have hA' : exp (logRows (convBlock (padNext (iblk m c 1 t) acc.2.2.2.1) (iblk m c 3 t) (iblk m c 4 t)) (iblk m c 5 t) (iblk m c 6 t)
      (iblk m c 9 t)) = A := by
    rw [← hA, logRows, convBlock_eq, gate_squares, padNext, historyOf, rowOf, rowOf]
  have hB' : inputRows (convBlock (padNext (iblk m c 1 t) acc.2.2.2.1) (iblk m c 3 t) (iblk m c 4 t)) (iblk m c 5 t) (iblk m c 6 t)
      (iblk m c 7 t) (iblk m c 8 t) (iblk m c 9 t) = B := by
    rw [← hB, inputRows, logRows, convBlock_eq, gate_squares, gate_squares, padNext, historyOf, rowOf, rowOf, rowOf]
  rw [outAt, hA', hB']
  clear hA hB hA' hB'
  exact rfl

end Cert.Proof.Rglru
-- ==== Proof.PointC.lean ====
/-
  What the last point of the grid leaves: the strip's last three rows and the state, written out beside the block.
-/
module

public import proofs.«01_k».proof.Proof.Point

@[expose] public section

noncomputable section

namespace Cert.Proof.Rglru

open Idealize.ShloMosaic Cert.KernelIdeal Cert.KernelIdeal.Gen Cert.KernelIdeal.Value

variable {F : FTy → Type} [FloatOps F]
variable (m : (ℓ : Loc nD τ sig) → Buf (Elt F) ℓ) (c : Dev nD)

attribute [local irreducible] padWith scanGroup stackRows convRows gateDot gate logSigmoid logDecay drive gelu project rmsRows outBlock
set_option maxHeartbeats 400000

/-- The state written out. -/
theorem state_C (t : Fin cfg0.N) (acc) (h0 : ¬t.val % 64 = 0) (h1 : 1 ≤ t.val) (h2 : t.val % 64 = 63) :
    (stAt0 m c t.val t.isLt acc).2.2.1 = stateAt m c t (padNext (iblk m c 1 t) acc.2.2.2.1) (stateOf acc.2.2.2.2) := by
  rw [stAt0_C m c t acc h0 h1 h2]
  dsimp only
  unfold out0_C_14
  rw [View.read_writes_junk_eq_canon]
  unfold kernelRun0_C
  dsimp only
  sl_unfold_words
  simp -proj only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (Memref.isWhole_whole _).read_unread, ld_padWith]
  rw [View.canon_unit_zero (by ext d; fin_cases d <;> rfl)]
  unfold_payloads
  dsimp -proj only
  simp -proj only [fold_convRows, fold_stack, fold_gateDot, fold_gate, fold_logSigmoid, fold_logDecay, fold_drive, fold_shifted,
    fold_foldA, fold_foldB, fold_scanGroup]
  generalize hB : drive (F := F) (logDecay _ _) _ _ = B
  generalize hA : exp (logDecay (F := F) _ _) = A
  have hA' : exp (logRows (convBlock (padNext (iblk m c 1 t) acc.2.2.2.1) (iblk m c 3 t) (iblk m c 4 t)) (iblk m c 5 t) (iblk m c 6 t)
      (iblk m c 9 t)) = A := by
    rw [← hA, logRows, convBlock_eq, gate_squares, padNext, historyOf, rowOf, rowOf]
  have hB' : inputRows (convBlock (padNext (iblk m c 1 t) acc.2.2.2.1) (iblk m c 3 t) (iblk m c 4 t)) (iblk m c 5 t) (iblk m c 6 t)
      (iblk m c 7 t) (iblk m c 8 t) (iblk m c 9 t) = B := by
    rw [← hB, inputRows, logRows, convBlock_eq, gate_squares, gate_squares, padNext, historyOf, rowOf, rowOf, rowOf]
  rw [stateAt, hA', hB']
  clear hA hB hA' hB'
  exact rfl

/-- The output block. -/
theorem out_C (t : Fin cfg0.N) (acc) (h0 : ¬t.val % 64 = 0) (h1 : 1 ≤ t.val) (h2 : t.val % 64 = 63) :
    (stAt0 m c t.val t.isLt acc).1 = outAt m c t (padNext (iblk m c 1 t) acc.2.2.2.1) (stateOf acc.2.2.2.2) := by
  rw [stAt0_C m c t acc h0 h1 h2]
  dsimp only
  unfold out0_C_12
  rw [View.read_writes_junk_eq_canon]
  unfold kernelRun0_C
  dsimp only
  sl_unfold_words
  simp -proj only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (Memref.isWhole_whole _).read_unread, ld_padWith]
  rw [View.canon_unit_zero (by ext d; fin_cases d <;> rfl), k0_pay271]
  unfold_payloads
  dsimp -proj only
  simp -proj only [fold_convRows, fold_stack, fold_gateDot, fold_gate, fold_logSigmoid, fold_logDecay, fold_drive, fold_shifted,
    fold_foldA, fold_foldB, fold_scanGroup,
    fold_gelu, fold_project, fold_rmsRows, fold_outBlock]
  generalize hB : drive (F := F) (logDecay _ _) _ _ = B
  generalize hA : exp (logDecay (F := F) _ _) = A
  have hA' : exp (logRows (convBlock (padNext (iblk m c 1 t) acc.2.2.2.1) (iblk m c 3 t) (iblk m c 4 t)) (iblk m c 5 t) (iblk m c 6 t)
      (iblk m c 9 t)) = A := by
    rw [← hA, logRows, convBlock_eq, gate_squares, padNext, historyOf, rowOf, rowOf]
  have hB' : inputRows (convBlock (padNext (iblk m c 1 t) acc.2.2.2.1) (iblk m c 3 t) (iblk m c 4 t)) (iblk m c 5 t) (iblk m c 6 t)
      (iblk m c 7 t) (iblk m c 8 t) (iblk m c 9 t) = B := by
    rw [← hB, inputRows, logRows, convBlock_eq, gate_squares, gate_squares, padNext, historyOf, rowOf, rowOf, rowOf]
  rw [outAt, hA', hB']
  clear hA hB hA' hB'
  exact rfl

/-- The strip's last three rows, written out. -/
theorem buf_C (t : Fin cfg0.N) (acc) (h0 : ¬t.val % 64 = 0) (h1 : 1 ≤ t.val) (h2 : t.val % 64 = 63) :
    (stAt0 m c t.val t.isLt acc).2.1 = View.ld (padNext (iblk m c 1 t) acc.2.2.2.1)
      (Rect.unit ![0, 37, 0] S8x3x1024.size inb_S8x40x1024_S8x3x1024_0_37_0) := by
  rw [stAt0_C m c t acc h0 h1 h2]
  dsimp only
  unfold out0_C_13
  rw [View.read_writes_junk_eq_canon]
  unfold kernelRun0_C
  dsimp only
  sl_unfold_words
  simp -proj only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (Memref.isWhole_whole _).read_unread, ld_padWith]
  rw [View.canon_unit_zero (by ext d; fin_cases d <;> rfl), padNext, historyOf, k0_pay3]

end Cert.Proof.Rglru
-- ==== Proof.Sweep.lean ====
/-
  The 64 points one after another, and the three arrays the kernel leaves.
-/
module

public import proofs.«01_k».proof.Proof.PointValue
public import proofs.«01_k».proof.Proof.PointA
public import proofs.«01_k».proof.Proof.PointB
public import proofs.«01_k».proof.Proof.PointC

@[expose] public section

noncomputable section

namespace Cert.Proof.Rglru

open Idealize.ShloMosaic Idealize.ShloMosaic.TcCoe Cert.KernelIdeal Cert.KernelIdeal.Gen Cert.KernelIdeal.Value

attribute [local irreducible] stAt0 outsAt0 outAt stateAt

variable (m : (ℓ : Loc nD τ sig) → Buf (Elt Ideal) ℓ) (c : Dev nD)

/-- The layer's result, of the arrays as launched. -/
def layerOf (b : Fin 8) (s : Fin 2048) (d : Fin 1024) : EReal :=
  layerAt (paramsOf m c) (fun i k => (arg m c main_arg0 : Vec Ideal S16384x1024 .f32) (ix2 i k))
    (fun i k => (arg m c main_arg2 : Vec Ideal S16384x1024 .f32) (ix2 i k))
    (fun k d => (arg m c main_arg10 : Vec Ideal S1024x1024 .f32) (ix2 k d))
    (fun k => (arg m c main_arg11 : Vec Ideal S1024 .f32) (ix1 k)) b s d

/-- Before the last point: the strip and the state left for the next one. -/
theorem carried : ∀ (n : ℕ) (hn : n < cfg0.N), n < 63 →
    Strips (paramsOf m c) n (outsAt0 m c n hn).2.2.2.1 ∧
      ∀ (b : Fin 8) (d : Fin 1024), (outsAt0 m c n hn).2.2.2.2 (ix2 b d) = hiddenAt (paramsOf m c) b (32 * (n + 1)) d
  | 0, hn, _ => by
    have hs := strips_first (paramsOf m c) _ (steps_block m c ⟨0, hn⟩)
    rw [outsAt0_zero]
    refine ⟨?_, fun b d => ?_⟩
    · rw [show (stAt0 m c 0 hn junk0).2.2.2.1 = _ from strip_A m c ⟨0, hn⟩ junk0 rfl (by simp) (by simp)]
      exact hs
    · rw [show (stAt0 m c 0 hn junk0).2.2.2.2 = _ from state_A m c ⟨0, hn⟩ junk0 rfl (by simp) (by simp)]
      exact stateAt_apply m c ⟨0, hn⟩ _ hs noState (fun b d => noState_apply _) b d
  | n + 1, hn, hl => by
    obtain ⟨is, ih⟩ := carried n (Nat.lt_of_succ_lt hn) (by omega)
    have hs := strips_next (paramsOf m c) n _ _ (steps_block m c ⟨n + 1, hn⟩) is
    have h0 : ¬ (⟨n + 1, hn⟩ : Fin cfg0.N).val % 64 = 0 := by show ¬ (n + 1) % 64 = 0; omega
    have h1 : 1 ≤ (⟨n + 1, hn⟩ : Fin cfg0.N).val := Nat.succ_le_succ (Nat.zero_le n)
    have h2 : ¬ (⟨n + 1, hn⟩ : Fin cfg0.N).val % 64 = 63 := by show ¬ (n + 1) % 64 = 63; omega
    rw [outsAt0_succ]
    refine ⟨?_, fun b d => ?_⟩
    · rw [show (stAt0 m c (n + 1) hn _).2.2.2.1 = _ from strip_B m c ⟨n + 1, hn⟩ _ h0 h1 h2]
      exact hs
    · rw [show (stAt0 m c (n + 1) hn _).2.2.2.2 = _ from state_B m c ⟨n + 1, hn⟩ _ h0 h1 h2]
      exact stateAt_apply m c ⟨n + 1, hn⟩ _ hs _ (fun b d => by rw [stateOf_eq]; exact ih b d) b d

/-- Every point's output block. -/
theorem block_out (t : Fin cfg0.N) (b : Fin 8) (r : Fin 32) (d : Fin 1024) :
    (outsAt0 m c t.val t.isLt).1 (ix3 b r d) = layerOf m c b ⟨32 * t.val + r.val, by have := point_lt t; omega⟩ d := by
  have ht := point_lt t
  obtain ⟨n, hn⟩ := t
  cases n with
  | zero =>
    have hs := strips_first (paramsOf m c) _ (steps_block m c ⟨0, hn⟩)
    rw [outsAt0_zero, show (stAt0 m c 0 hn junk0).1 = _ from out_A m c ⟨0, hn⟩ junk0 rfl (by simp) (by simp)]
    exact outAt_apply m c ⟨0, hn⟩ _ hs noState (fun b d => noState_apply _) b r d
  | succ n =>
    have hn' : n + 1 < 64 := ht
    obtain ⟨is, ih⟩ := carried m c n (Nat.lt_of_succ_lt hn) (by omega)
    have hs := strips_next (paramsOf m c) n _ _ (steps_block m c ⟨n + 1, hn⟩) is
    have h0 : ¬ (⟨n + 1, hn⟩ : Fin cfg0.N).val % 64 = 0 := by show ¬ (n + 1) % 64 = 0; omega
    have h1 : 1 ≤ (⟨n + 1, hn⟩ : Fin cfg0.N).val := Nat.succ_le_succ (Nat.zero_le n)
    rw [outsAt0_succ]
    by_cases h2 : (⟨n + 1, hn⟩ : Fin cfg0.N).val % 64 = 63
    · rw [show (stAt0 m c (n + 1) hn _).1 = _ from out_C m c ⟨n + 1, hn⟩ _ h0 h1 h2]
      exact outAt_apply m c ⟨n + 1, hn⟩ _ hs _ (fun b d => by rw [stateOf_eq]; exact ih b d) b r d
    · rw [show (stAt0 m c (n + 1) hn _).1 = _ from out_B m c ⟨n + 1, hn⟩ _ h0 h1 h2]
      exact outAt_apply m c ⟨n + 1, hn⟩ _ hs _ (fun b d => by rw [stateOf_eq]; exact ih b d) b r d

/-- The last point: the final state, and the last three steps of each sequence. -/
theorem last_out (hn : 63 < cfg0.N) :
    (∀ (b : Fin 8) (d : Fin 1024), (outsAt0 m c 63 hn).2.2.1 (ix2 b d) = hiddenAt (paramsOf m c) b 2048 d) ∧
      ∀ (b : Fin 8) (r : Fin 3) (d : Fin 1024), (outsAt0 m c 63 hn).2.1 (ix3 b r d) = padAt (paramsOf m c) b (2048 + r.val) d := by
  obtain ⟨is, ih⟩ := carried m c 62 (Nat.lt_of_succ_lt hn) (by omega)
  have hs := strips_next (paramsOf m c) 62 _ _ (steps_block m c ⟨63, hn⟩) is
  rw [outsAt0_succ]
  refine ⟨fun b d => ?_, fun b r d => ?_⟩
  · rw [show (stAt0 m c (62 + 1) hn _).2.2.1 = _ from state_C m c ⟨63, hn⟩ _ (by simp) (by simp) rfl]
    exact stateAt_apply m c ⟨63, hn⟩ _ hs _ (fun b d => by rw [stateOf_eq]; exact ih b d) b d
  · rw [show (stAt0 m c (62 + 1) hn _).2.1 = _ from buf_C m c ⟨63, hn⟩ _ (by simp) (by simp) rfl]
    refine Eq.trans ?_ ((hs b ⟨32 + r.val, by omega⟩ d).trans
      (congrArg (fun n => padAt (paramsOf m c) b n d) (show 32 * (62 + 1) + (32 + r.val) = 2048 + r.val by omega)))
    show padNext _ _ _ = padNext _ _ _
    congr 1
    funext a
    apply Fin.ext
    match a with
    | ⟨0, _⟩ => show 0 + 1 * b.val = b.val; omega
    | ⟨1, _⟩ => show 37 + 1 * r.val = 5 + (32 + r.val); omega
    | ⟨2, _⟩ => show 0 + 1 * d.val = d.val; omega

/-- The first result: the layer at every step. -/
theorem array_y (b : Fin 8) (s : Fin 2048) (d : Fin 1024) :
    (G12 m c : Vec Ideal S8x2048x1024 .f32) (ix3 b s d) = layerOf m c b s d := by
  have hp : pt12Of (ix3 b s d : S8x2048x1024.Idx) = s.val / 32 := by
    show 64 * (b.val / 8 - 0) + 1 * (s.val / 32 - 0) + 1 * (d.val / 1024 - 0) = s.val / 32
    omega
  have hN : s.val / 32 < cfg0.N := lt_of_lt_of_eq (by omega) N_0.symm
  have hl : loc12Of (ix3 b s d : S8x2048x1024.Idx) = ix3 b (⟨s.val % 32, Nat.mod_lt _ (by decide)⟩ : Fin 32) d := by
    funext a
    apply Fin.ext
    match a with
    | ⟨0, _⟩ => show b.val % 8 = b.val; omega
    | ⟨1, _⟩ => rfl
    | ⟨2, _⟩ => show d.val % 1024 = d.val; omega
  have hG : (G12 m c : Vec Ideal S8x2048x1024 .f32) (ix3 b s d) =
      (outsAt0 m c (s.val / 32) hN).1 (ix3 b (⟨s.val % 32, Nat.mod_lt _ (by decide)⟩ : Fin 32) d) := by
    rw [outsAt0_sweep]
    unfold G12
    rw [dif_pos (by rw [hp]; exact hN), hl]
    simp only [hp]
  rw [hG, block_out m c ⟨s.val / 32, hN⟩]
  congr 1
  exact Fin.ext (Nat.div_add_mod _ 32)

/-- The second result: the last three steps of each sequence. -/
theorem array_buf (b : Fin 8) (r : Fin 3) (d : Fin 1024) :
    (G13 m c : Vec Ideal S8x3x1024 .f32) (ix3 b r d) = padAt (paramsOf m c) b (2048 + r.val) d := by
  rw [G13_last, ← outsAt0_sweep m c 63 (lt_of_lt_of_eq (by decide) N_0.symm)]
  exact (last_out m c _).2 b r d

/-- The third result: the final state. -/
theorem array_hl (b : Fin 8) (d : Fin 1024) :
    (G14 m c : Vec Ideal S8x1024 .f32) (ix2 b d) = hiddenAt (paramsOf m c) b 2048 d := by
  rw [G14_last, ← outsAt0_sweep m c 63 (lt_of_lt_of_eq (by decide) N_0.symm)]
  exact (last_out m c _).1 b d

end Cert.Proof.Rglru
-- ==== Proof.RefInput.lean ====
/-
  The reference's two arrays before its loop, entry by entry: the decay and the input of the recurrence.
-/
module

public import proofs.«01_k».proof.Proof.Spec
public import proofs.«01_k».proof.Proof.Gen.ReferenceIdeal.StepRun
public import Idealize.ShloMosaic.Lib.Pointwise

@[expose] public section

noncomputable section

namespace Cert.Proof.Rglru.Ref

open Idealize.ShloMosaic Cert.ReferenceIdeal Cert.ReferenceIdeal.Gen Cert.ReferenceIdeal.Step

variable (a1 : FVec Ideal S16384x1024 .f32) (a3 : FVec Ideal S4x1024 .f32) (a4 : FVec Ideal S1024 .f32)
  (a5 : FVec Ideal S4x256x256 .f32) (a6 : FVec Ideal S1024 .f32) (a7 : FVec Ideal S4x256x256 .f32) (a8 a9 : FVec Ideal S1024 .f32)

/-- The recurrence's arrays, of the reference's arguments. -/
def params : Params where
  xb r k := a1 (ix2 r k)
  cw i k := a3 (ix2 i k)
  cb k := a4 (ix1 k)
  wa n k d := a5 (ix3 n k d)
  ba k := a6 (ix1 k)
  wx n k d := a7 (ix3 n k d)
  bx k := a8 (ix1 k)
  lam k := a9 (ix1 k)

local notation "P" => params a1 a3 a4 a5 a6 a7 a8 a9

/-- The sequences with three steps of zeros before them. -/
theorem pad_apply (b : Fin 8) (n : Fin 2051) (c : Fin 1024) :
    A_main_v2 (F := Ideal) a1 a3 a4 a5 a6 a7 a8 a9 (ix3 b n c) = padAt P b n.val c := by
  unfold A_main_v2 A_main_v1 K_main_v0 K_main_cst padAt
  by_cases h : n.val < 3
  · rw [dif_neg (by omega)]
    pointwise [h]
  · rw [dif_pos (by omega)]
    pointwise [h]
    rfl

/-- The convolution. -/
theorem conv_apply (b : Fin 8) (t : Fin 2048) (c : Fin 1024) :
    A_main_v32 (F := Ideal) a1 a3 a4 a5 a6 a7 a8 a9 (ix3 b t c) = convAt P b t.val c := by
  have h0 : A_main_v3 (F := Ideal) a1 a3 a4 a5 a6 a7 a8 a9 (ix3 b t c) = padAt P b t.val c := by
    refine Eq.trans ?_ (pad_apply a1 a3 a4 a5 a6 a7 a8 a9 b ⟨t.val, by omega⟩ c)
    unfold A_main_v3
    pointwise
  have h1 : A_main_v12 (F := Ideal) a1 a3 a4 a5 a6 a7 a8 a9 (ix3 b t c) = padAt P b (t.val + 1) c := by
    rw [Nat.add_comm]
    refine Eq.trans ?_ (pad_apply a1 a3 a4 a5 a6 a7 a8 a9 b ⟨1 + t.val, by omega⟩ c)
    unfold A_main_v12
    pointwise
  have h2 : A_main_v19 (F := Ideal) a1 a3 a4 a5 a6 a7 a8 a9 (ix3 b t c) = padAt P b (t.val + 2) c := by
    rw [Nat.add_comm]
    refine Eq.trans ?_ (pad_apply a1 a3 a4 a5 a6 a7 a8 a9 b ⟨2 + t.val, by omega⟩ c)
    unfold A_main_v19
    pointwise
  have h3 : A_main_v26 (F := Ideal) a1 a3 a4 a5 a6 a7 a8 a9 (ix3 b t c) = padAt P b (t.val + 3) c := by
    rw [Nat.add_comm]
    refine Eq.trans ?_ (pad_apply a1 a3 a4 a5 a6 a7 a8 a9 b ⟨3 + t.val, by omega⟩ c)
    unfold A_main_v26
    pointwise
  unfold A_main_v32 A_main_v31 A_main_v30 A_main_v29 A_main_v28 A_main_v27 A_main_v25 A_main_v24 A_main_v23 A_main_v22 A_main_v21
    A_main_v20 A_main_v18 A_main_v17 A_main_v16 A_main_v15 A_main_v14 A_main_v13 A_main_v11 A_main_v10 A_main_v9 A_main_v8
    A_main_v7 A_main_v6 A_main_v5 A_main_v4
  pointwise [h0, h1, h2, h3]
  rfl

/-- A gate written with its sigmoid spelled out. -/
theorem gate_form (p : Params) (w : Fin 4 → Fin 256 → Fin 256 → EReal) (v : Fin 1024 → EReal) (b : Fin 8) (t : ℕ) (n : Fin 4)
    (d : Fin 256) :
    Ideal.div 1 (1 + Ideal.exp (-((∑ k : Fin 256, w n k d * convAt p b t ⟨256 * n.val + k.val, by omega⟩)
      + v ⟨n.val * 256 + d.val, by omega⟩))) = gateAt p w v b t n d := by
  rw [show (⟨n.val * 256 + d.val, by omega⟩ : Fin 1024) = ⟨256 * n.val + d.val, by omega⟩ from
    Fin.ext (by show n.val * 256 + d.val = 256 * n.val + d.val; omega)]
  unfold gateAt Ideal.logistic
  simp only [mul_comm]

/-- The convolution read in blocks of channels. -/
theorem blocks_apply (b : Fin 8) (t : Fin 2048) (n : Fin 4) (k : Fin 256) :
    A_main_v33 (F := Ideal) a1 a3 a4 a5 a6 a7 a8 a9 (ix4 b t n k) = convAt P b t.val ⟨256 * n.val + k.val, by omega⟩ := by
  rw [← conv_apply, show (⟨256 * n.val + k.val, by omega⟩ : Fin 1024) = ⟨n.val * 256 + k.val, by omega⟩ from
    Fin.ext (by show 256 * n.val + k.val = n.val * 256 + k.val; omega)]
  unfold A_main_v33
  pointwise

/-- The first gate. -/
theorem gateA_apply (b : Fin 8) (t : Fin 2048) (n : Fin 4) (d : Fin 256) :
    A_main_v45 (F := Ideal) a1 a3 a4 a5 a6 a7 a8 a9 (ix4 b t n d) = gateAt P (P).wa (P).ba b t.val n d := by
  unfold A_main_v45 A_main_v43 A_main_v41 A_main_v40 A_main_v39 A_main_v38 A_main_v37 A_main_v36 A_main_v35 A_main_v34
    K_main_v42 K_main_v44 K_main_cst_0 K_main_cst_1
  pointwise [blocks_apply]
  exact gate_form P (P).wa (P).ba b t.val n d

/-- The second gate. -/
theorem gateX_apply (b : Fin 8) (t : Fin 2048) (n : Fin 4) (d : Fin 256) :
    A_main_v58 (F := Ideal) a1 a3 a4 a5 a6 a7 a8 a9 (ix4 b t n d) = gateAt P (P).wx (P).bx b t.val n d := by
  unfold A_main_v58 A_main_v56 A_main_v54 A_main_v53 A_main_v52 A_main_v51 A_main_v50 A_main_v49 A_main_v48 A_main_v47
    K_main_v55 K_main_v57 K_main_cst_2 K_main_cst_3
  pointwise [blocks_apply]
  exact gate_form P (P).wx (P).bx b t.val n d

/-- The logarithm of the decay. -/
theorem log_apply (b : Fin 8) (t : Fin 2048) (c : Fin 1024) :
    A_main_v79 (F := Ideal) a1 a3 a4 a5 a6 a7 a8 a9 (ix3 b t c) = logAt P b t.val c := by
  have hg : A_main_v46 (F := Ideal) a1 a3 a4 a5 a6 a7 a8 a9 (ix3 b t c) = gateAt P (P).wa (P).ba b t.val (blockIx c) (placeIx c) := by
    rw [← gateA_apply]
    unfold A_main_v46
    pointwise
    rfl
  have hl : A_main_v74 (F := Ideal) a1 a3 a4 a5 a6 a7 a8 a9 (ix1 c) = logSig (a9 (ix1 c)) := by
    unfold A_main_v74 A_main_v73 A_main_v72 A_main_v71 A_main_v70 A_main_v69 A_main_v68 A_main_v67 A_main_v65 A_main_v64 A_main_v62
      A_main_v60 K_main_v61 K_main_v63 K_main_v66 K_main_cst_4
    pointwise
    rw [if_neg (not_not.mpr rfl)]
    have e := logSig_eq (a9 (ix1 c))
    rw [sub_zero] at e
    exact e
  unfold A_main_v79 A_main_v78 A_main_v77 A_main_v76 K_main_v75 K_main_cst_5
  pointwise [hg, hl]
  rw [word_eight]
  rfl

/-- The input of the recurrence. -/
theorem input_apply (b : Fin 8) (t : Fin 2048) (c : Fin 1024) :
    A_main_v87 (F := Ideal) a1 a3 a4 a5 a6 a7 a8 a9 (ix3 b t c) = inputAt P b t.val c := by
  have hg : A_main_v59 (F := Ideal) a1 a3 a4 a5 a6 a7 a8 a9 (ix3 b t c) = gateAt P (P).wx (P).bx b t.val (blockIx c) (placeIx c) := by
    rw [← gateX_apply]
    unfold A_main_v59
    pointwise
    rfl
  unfold A_main_v87 A_main_v86 A_main_v85 A_main_v84 A_main_v83 A_main_v82 K_main_v81 K_main_cst_6
  pointwise [hg, conv_apply, log_apply]
  rw [word_two]
  rfl

/-- The decay, time first. -/
theorem decay_time (t : Fin 2048) (b : Fin 8) (c : Fin 1024) :
    A_main_v88 (F := Ideal) a1 a3 a4 a5 a6 a7 a8 a9 (ix3 t b c) = Ideal.exp (logAt P b t.val c) := by
  unfold A_main_v88 A_main_v80
  pointwise [log_apply]

/-- The input, time first. -/
theorem input_time (t : Fin 2048) (b : Fin 8) (c : Fin 1024) :
    A_main_v89 (F := Ideal) a1 a3 a4 a5 a6 a7 a8 a9 (ix3 t b c) = inputAt P b t.val c := by
  unfold A_main_v89
  pointwise [input_apply]

end Cert.Proof.Rglru.Ref
-- ==== Proof.RefLoop.lean ====
/-
  The reference's loop: after `n` steps it holds the state after `n` steps, and every state before it.
-/
module

public import proofs.«01_k».proof.Proof.RefInput
public import Idealize.ShloMosaic.Lib.WordCmp

@[expose] public section

noncomputable section

namespace Cert.Proof.Rglru.Ref

open Idealize.ShloMosaic Idealize.ShloMosaic.WordCmp Cert.ReferenceIdeal Cert.ReferenceIdeal.Gen Cert.ReferenceIdeal.Step

theorem slices_row (j : ℕ) (hj : j < 2048) : S2048x8x1024.Slices ![j, 0, 0] S1x8x1024 :=
  ⟨rfl, fun a => by
    match a with
    | ⟨0, _⟩ => show j + 1 ≤ 2048; omega
    | ⟨1, _⟩ => show 0 + 8 ≤ 8; omega
    | ⟨2, _⟩ => show 0 + 1024 ≤ 1024; omega⟩

/-- The starts the loop's slices are given. -/
theorem starts (j : ℕ) (hj : j < 2048) (a : Fin 3) :
    ((![(constantI S_ 32 (BitVec.ofNat 32 j) : IVec S_ 32), constantI S_ 32 0#32, constantI S_ 32 0#32] : Fin 3 → IVec S_ 32) a
      (Shape.Idx.first h_S_)).toInt = ((![j, 0, 0] : Fin 3 → ℕ) a : ℤ) := by
  fin_cases a
  · exact toInt_ofNat_of_lt (by omega)
  · rfl
  · rfl

/-- The row of an array one step reads. -/
theorem row_apply (j : ℕ) (hj : j < 2048) (x : FVec Ideal S2048x8x1024 .f32) (b : Fin 8) (c : Fin 1024) :
    shapeCast S8x1024 (Host.dynamicSlice S1x8x1024 x (fun k => ((![(constantI S_ 32 (BitVec.ofNat 32 j) : IVec S_ 32),
      constantI S_ 32 0#32, constantI S_ 32 0#32] : Fin 3 → IVec S_ 32) k (Shape.Idx.first h_S_)).toInt)
        sliceFits_S2048x8x1024_S1x8x1024) shapeCasts_S1x8x1024_S8x1024 (ix2 b c) = x (ix3 ⟨j, hj⟩ b c) := by
  rw [dynamicSlice_eq_extract _ _ _ _ _ (slices_row j hj) (starts j hj)]
  pointwise

theorem b5_apply (j : ℕ) (hj : j < 2048) (s : State Ideal) (b : Fin 8) (c : Fin 1024) :
    b5 j s (ix2 b c) = s.main_v92_0 (ix3 ⟨j, hj⟩ b c) := row_apply j hj s.main_v92_0 b c

theorem b10_apply (j : ℕ) (hj : j < 2048) (s : State Ideal) (b : Fin 8) (c : Fin 1024) :
    b10 j s (ix2 b c) = s.main_v92_1 (ix3 ⟨j, hj⟩ b c) := row_apply j hj s.main_v92_1 b c

theorem b19_apply (j : ℕ) (hj : j < 2048) (s : State Ideal) (b : Fin 8) (c : Fin 1024) :
    b19 j s (ix2 b c) = b15 j s (ix3 ⟨j, hj⟩ b c) := row_apply j hj (b15 j s) b c

/-- One step of the recurrence. -/
theorem b11_apply (j : ℕ) (hj : j < 2048) (s : State Ideal) (b : Fin 8) (c : Fin 1024) :
    b11 j s (ix2 b c) = s.main_v92_0 (ix3 ⟨j, hj⟩ b c) * s.main_v92_4 (ix2 b c) + s.main_v92_1 (ix3 ⟨j, hj⟩ b c) := by
  rw [← b5_apply j hj s b c, ← b10_apply j hj s b c]
  rfl

/-- The array of states after a step: the new state at its own place, the others as they were. -/
theorem b15_apply (j : ℕ) (hj : j < 2048) (s : State Ideal) (t : Fin 2048) (b : Fin 8) (c : Fin 1024) :
    b15 j s (ix3 t b c) = if t.val = j then b11 j s (ix2 b c) else s.main_v92_5 (ix3 t b c) := by
  have e : b15 j s = updateSlice s.main_v92_5 (b12 j s) ![j, 0, 0] (slices_row j hj) :=
    dynamicUpdateSlice_eq_update _ _ _ _ _ (slices_row j hj) (starts j hj)
  rw [e, updateSlice_apply]
  by_cases ht : t.val = j
  · rw [if_pos ht, dif_pos (fun a => by
      match a with
      | ⟨0, _⟩ => exact ⟨ht.ge, by show t.val < j + 1; omega⟩
      | ⟨1, _⟩ => exact ⟨Nat.zero_le _, by show b.val < 0 + 8; omega⟩
      | ⟨2, _⟩ => exact ⟨Nat.zero_le _, by show c.val < 0 + 1024; omega⟩)]
    unfold b12
    pointwise
  · rw [if_neg ht, dif_neg]
    intro h
    have h0 := h 0
    have h1 : j ≤ t.val ∧ t.val < j + 1 := h0
    omega

variable (a1 : FVec Ideal S16384x1024 .f32) (a3 : FVec Ideal S4x1024 .f32) (a4 : FVec Ideal S1024 .f32)
  (a5 : FVec Ideal S4x256x256 .f32) (a6 : FVec Ideal S1024 .f32) (a7 : FVec Ideal S4x256x256 .f32) (a8 a9 : FVec Ideal S1024 .f32)

/-- The loop's states. -/
def states : ℕ → State Ideal
  | 0 => init a1 a3 a4 a5 a6 a7 a8 a9
  | n + 1 => step n (states n)

local notation "P" => params a1 a3 a4 a5 a6 a7 a8 a9

theorem states_arrays : ∀ n : ℕ,
    (states a1 a3 a4 a5 a6 a7 a8 a9 n).main_v92_0 = A_main_v88 a1 a3 a4 a5 a6 a7 a8 a9 ∧
      (states a1 a3 a4 a5 a6 a7 a8 a9 n).main_v92_1 = A_main_v89 a1 a3 a4 a5 a6 a7 a8 a9
  | 0 => ⟨rfl, rfl⟩
  | n + 1 => states_arrays n

/-- After `n` steps. -/
theorem states_apply : ∀ n : ℕ, n ≤ 2048 →
    (∀ (b : Fin 8) (c : Fin 1024), (states a1 a3 a4 a5 a6 a7 a8 a9 n).main_v92_4 (ix2 b c) = hiddenAt P b n c) ∧
      ∀ (t : Fin 2048) (b : Fin 8) (c : Fin 1024), t.val < n →
        (states a1 a3 a4 a5 a6 a7 a8 a9 n).main_v92_5 (ix3 t b c) = hiddenAt P b (t.val + 1) c
  | 0, _ => by
    refine ⟨fun b c => ?_, fun t b c h => absurd h (Nat.not_lt_zero _)⟩
    show K_main_v90 (F := Ideal) (ix2 b c) = 0
    unfold K_main_v90 K_main_cst_7
    pointwise
  | n + 1, hn => by
    obtain ⟨ih, is⟩ := states_apply n (by omega)
    obtain ⟨e0, e1⟩ := states_arrays a1 a3 a4 a5 a6 a7 a8 a9 n
    have hnew : ∀ (b : Fin 8) (c : Fin 1024), b11 n (states a1 a3 a4 a5 a6 a7 a8 a9 n) (ix2 b c) = hiddenAt P b (n + 1) c := by
      intro b c
      rw [b11_apply n (by omega), e0, e1, decay_time, input_time, ih]
      rfl
    refine ⟨fun b c => ?_, fun t b c ht => ?_⟩
    · show b19 n _ (ix2 b c) = _
      rw [b19_apply n (by omega), b15_apply n (by omega), if_pos rfl, hnew]
    · show b15 n _ (ix3 t b c) = _
      rw [b15_apply n (by omega)]
      by_cases h : t.val = n
      · rw [if_pos h, hnew, h]
      · rw [if_neg h, is t b c (by omega)]

/-- The state the loop ends with. -/
theorem final_apply (b : Fin 8) (c : Fin 1024) :
    (states a1 a3 a4 a5 a6 a7 a8 a9 2048).main_v92_4 (ix2 b c) = hiddenAt P b 2048 c :=
  (states_apply a1 a3 a4 a5 a6 a7 a8 a9 2048 le_rfl).1 b c

/-- Every state the loop stores. -/
theorem stored_apply (t : Fin 2048) (b : Fin 8) (c : Fin 1024) :
    (states a1 a3 a4 a5 a6 a7 a8 a9 2048).main_v92_5 (ix3 t b c) = hiddenAt P b (t.val + 1) c :=
  (states_apply a1 a3 a4 a5 a6 a7 a8 a9 2048 le_rfl).2 t b c t.isLt

end Cert.Proof.Rglru.Ref
-- ==== Proof.RefValue.lean ====
/-
  The reference's results of the loop's last state, entry by entry.
-/
module

public import proofs.«01_k».proof.Proof.RefLoop

@[expose] public section

noncomputable section

namespace Cert.Proof.Rglru.Ref

open Idealize.ShloMosaic Cert.ReferenceIdeal Cert.ReferenceIdeal.Gen Cert.ReferenceIdeal.Step

/-- The GELU with the half on the other factor. -/
theorem gelu_form (x : EReal) :
    x * (Ideal.ofBits .f32 0x3F000000#32 * (1 + Ideal.tanh (Ideal.ofBits .f32 0x3F4C422A#32 *
      (x + Ideal.ofBits .f32 0x3D372713#32 * (x * x * x))))) = geluAt x := by
  unfold geluAt
  rw [← mul_assoc, mul_comm x]

/-- The projected rows as the reference writes them. -/
def projected (hs : FVec Ideal S2048x8x1024 .f32) (a0 : FVec Ideal S16384x1024 .f32) (a10 : FVec Ideal S1024x1024 .f32) :
    FVec Ideal S8x2048x1024 .f32 :=
  Host.dotGeneral dot_S8x2048x1024_S1024x1024_S8x2048x1024_2_0_01_1_n_n none (mulf (transpose S8x2048x1024 [1, 0, 2] hs transposes_S2048x8x1024_S8x2048x1024_1_0_2) (mulf (shapeCast _ a0 shapeCasts_S16384x1024_S8x2048x1024) (mulf (broadcastInDim S8x2048x1024 ![] bcast_S_S8x2048x1024 (constant S_ .f32 0x3F000000#32)) (addf (broadcastInDim S8x2048x1024 ![] bcast_S_S8x2048x1024 (constant S_ .f32 0x3F800000#32)) (Host.tanh (mulf (broadcastInDim S8x2048x1024 ![] bcast_S_S8x2048x1024 (constant S_ .f32 0x3F4C422A#32)) (addf (shapeCast _ a0 shapeCasts_S16384x1024_S8x2048x1024) (mulf (broadcastInDim S8x2048x1024 ![] bcast_S_S8x2048x1024 (constant S_ .f32 0x3D372713#32)) (mulf (mulf (shapeCast _ a0 shapeCasts_S16384x1024_S8x2048x1024) (shapeCast _ a0 shapeCasts_S16384x1024_S8x2048x1024)) (shapeCast _ a0 shapeCasts_S16384x1024_S8x2048x1024)))))))))) a10

theorem projected_apply (hs : FVec Ideal S2048x8x1024 .f32) (a0 : FVec Ideal S16384x1024 .f32) (a10 : FVec Ideal S1024x1024 .f32)
    (b : Fin 8) (t : Fin 2048) (c : Fin 1024) :
    projected hs a0 a10 (ix3 b t c) =
      projAt (fun k => hs (ix3 t b k)) (fun k => a0 (ix2 ⟨b.val * 2048 + t.val, by omega⟩ k)) (fun k d => a10 (ix2 k d)) c := by
  unfold projected projAt
  pointwise [gelu_form]

/-- The first result. -/
theorem out_apply (s : State Ideal) (a0 a2 : FVec Ideal S16384x1024 .f32) (a10 : FVec Ideal S1024x1024 .f32)
    (a11 : FVec Ideal S1024 .f32) (b : Fin 8) (t : Fin 2048) (c : Fin 1024) :
    R_main_v128 s a0 a2 a10 a11 (ix3 b t c) =
      outRow (fun k => a2 (ix2 ⟨b.val * 2048 + t.val, by omega⟩ k))
        (projAt (fun k => s.main_v92_5 (ix3 t b k)) (fun k => a0 (ix2 ⟨b.val * 2048 + t.val, by omega⟩ k)) (fun k d => a10 (ix2 k d)))
        (fun k => a11 (ix1 k)) c := by
  unfold R_main_v128
  rw [show Host.dotGeneral dot_S8x2048x1024_S1024x1024_S8x2048x1024_2_0_01_1_n_n none (mulf (transpose S8x2048x1024 [1, 0, 2] s.main_v92_5 transposes_S2048x8x1024_S8x2048x1024_1_0_2) _) a10 = projected s.main_v92_5 a0 a10 from rfl]
  unfold outRow
  pointwise [projected_apply]

/-- The second result. -/
theorem buf_apply (s : State Ideal) (a1 : FVec Ideal S16384x1024 .f32) (a3 : FVec Ideal S4x1024 .f32) (a4 : FVec Ideal S1024 .f32)
    (a5 : FVec Ideal S4x256x256 .f32) (a6 : FVec Ideal S1024 .f32) (a7 : FVec Ideal S4x256x256 .f32) (a8 a9 : FVec Ideal S1024 .f32)
    (b : Fin 8) (r : Fin 3) (c : Fin 1024) :
    R_main_v96 s a1 (ix3 b r c) = padAt (params a1 a3 a4 a5 a6 a7 a8 a9) b (2048 + r.val) c := by
  refine Eq.trans ?_ (pad_apply a1 a3 a4 a5 a6 a7 a8 a9 b ⟨2048 + r.val, by omega⟩ c)
  show extractStridedSlice S8x3x1024 ![0, 2048, 0] (A_main_v2 (F := Ideal) a1 a3 a4 a5 a6 a7 a8 a9)
    slices_S8x2051x1024_S8x3x1024_0_2048_0 (ix3 b r c) = _
  pointwise

end Cert.Proof.Rglru.Ref
-- ==== Proof.Equation.lean ====
/-
  The kernel's three arrays are the reference's.
-/
module

public import proofs.«01_k».proof.Proof.Sweep
public import proofs.«01_k».proof.Proof.RefValue

@[expose] public section

noncomputable section

namespace Cert.Proof.Rglru

open Idealize.ShloMosaic Idealize.ShloMosaic.TcCoe

variable (m : (ℓ : Loc KernelIdeal.nD KernelIdeal.τ KernelIdeal.sig) → Buf (Elt Ideal) ℓ) (c : Dev KernelIdeal.nD)

/-- The reference's states, of the kernel's arguments. -/
def refStates : ℕ → ReferenceIdeal.Step.State Ideal :=
  Ref.states (arg m c KernelIdeal.main_arg1) (arg m c KernelIdeal.main_arg3) (arg m c KernelIdeal.main_arg4)
    (arg m c KernelIdeal.main_arg5) (arg m c KernelIdeal.main_arg6) (arg m c KernelIdeal.main_arg7)
    (arg m c KernelIdeal.main_arg8) (arg m c KernelIdeal.main_arg9)

/-- An index of a rank-three array by its coordinates. -/
theorem eq_ix3 {n₀ n₁ n₂ : ℕ} (i : (⟨3, ![n₀, n₁, n₂]⟩ : Shape).Idx) : i = ix3 (i 0) (i 1) (i 2) := by
  funext a
  match a with
  | ⟨0, _⟩ => rfl
  | ⟨1, _⟩ => rfl
  | ⟨2, _⟩ => rfl

/-- An index of a rank-two array by its coordinates. -/
theorem eq_ix2 {n₀ n₁ : ℕ} (i : (⟨2, ![n₀, n₁]⟩ : Shape).Idx) : i = ix2 (i 0) (i 1) := by
  funext a
  match a with
  | ⟨0, _⟩ => rfl
  | ⟨1, _⟩ => rfl

/-- The first result. -/
theorem same_y :
    ReferenceIdeal.Step.R_main_v128 (refStates m c 2048) (arg m c KernelIdeal.main_arg0) (arg m c KernelIdeal.main_arg2)
      (arg m c KernelIdeal.main_arg10) (arg m c KernelIdeal.main_arg11) = KernelIdeal.Value.G12 m c := by
  funext i
  have hi : i = ix3 (i 0) (i 1) (i 2) := eq_ix3 i
  rw [hi]
  have e : ∀ k, (refStates m c 2048).main_v92_5 (ix3 (i 1) (i 0) k) = hiddenAt (paramsOf m c) (i 0) ((i 1).val + 1) k :=
    fun k => Ref.stored_apply _ _ _ _ _ _ _ _ (i 1) (i 0) k
  refine (Ref.out_apply _ _ _ _ _ (i 0) (i 1) (i 2)).trans (Eq.trans ?_ (array_y m c (i 0) (i 1) (i 2)).symm)
  unfold layerOf layerAt
  exact outRow_congr rfl (projAt_congr (funext e) rfl rfl) rfl (i 2)

/-- The second result. -/
theorem same_buf :
    ReferenceIdeal.Step.R_main_v96 (refStates m c 2048) (arg m c KernelIdeal.main_arg1) = KernelIdeal.Value.G13 m c := by
  funext i
  have hi : i = ix3 (i 0) (i 1) (i 2) := eq_ix3 i
  rw [hi]
  exact (Ref.buf_apply _ _ (arg m c KernelIdeal.main_arg3) (arg m c KernelIdeal.main_arg4)
    (arg m c KernelIdeal.main_arg5) (arg m c KernelIdeal.main_arg6) (arg m c KernelIdeal.main_arg7)
    (arg m c KernelIdeal.main_arg8) (arg m c KernelIdeal.main_arg9) (i 0) (i 1) (i 2)).trans (array_buf m c (i 0) (i 1) (i 2)).symm

/-- The third result. -/
theorem same_hl : (refStates m c 2048).main_v92_4 = KernelIdeal.Value.G14 m c := by
  funext i
  have hi : i = ix2 (i 0) (i 1) := eq_ix2 i
  rw [hi]
  exact (Ref.final_apply _ _ _ _ _ _ _ _ (i 0) (i 1)).trans (array_hl m c (i 0) (i 1)).symm

end Cert.Proof.Rglru
-- ==== Proof.Mlp.Spec.lean ====
/-
  The MLP, entry by entry: one row normalised, its hidden units, their down projection, and the row it gives.
-/
module

public import Idealize.ShloMosaic.PureOps.Ideal.Laws

@[expose] public section

noncomputable section

namespace Cert.Proof.Mlp

open Idealize.ShloMosaic

/-- A row divided by its root mean square, times the gain. -/
def normAt (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A hidden unit: the squared positive part of its projection of the normalised row. -/
def unitAt (y : Fin 1024 → EReal) (w : Fin 1024 → EReal) : EReal :=
  max (∑ k : Fin 1024, y k * w k) 0 * max (∑ k : Fin 1024, y k * w k) 0

/-- One hidden unit's part in the down projection; none past the last unit. -/
def partAt (y : Fin 1024 → EReal) (wu : Fin 1024 → Fin 4096 → EReal) (wd : Fin 4096 → Fin 1024 → EReal) (c : Fin 1024) (j : ℕ) : EReal :=
  if h : j < 4096 then unitAt y (fun k => wu k ⟨j, h⟩) * wd ⟨j, h⟩ c else 0

/-- The down projection over the first `n` hidden units. -/
def downAt (y : Fin 1024 → EReal) (wu : Fin 1024 → Fin 4096 → EReal) (wd : Fin 4096 → Fin 1024 → EReal) (n : ℕ) (c : Fin 1024) : EReal :=
  ∑ j ∈ Finset.range n, partAt y wu wd c j

/-- One more block of 1024 hidden units. -/
theorem downAt_block (y : Fin 1024 → EReal) (wu : Fin 1024 → Fin 4096 → EReal) (wd : Fin 4096 → Fin 1024 → EReal) (f : ℕ) (hf : f < 4)
    (c : Fin 1024) :
    downAt y wu wd (1024 * f) c + ∑ j : Fin 1024, unitAt y (fun k => wu k ⟨1024 * f + j.val, by omega⟩) * wd ⟨1024 * f + j.val, by omega⟩ c
      = downAt y wu wd (1024 * (f + 1)) c := by
  unfold downAt
  rw [Nat.mul_succ, Finset.sum_range_add, Finset.sum_range (n := 1024)]
  congr 1
  refine Finset.sum_congr rfl fun j _ => ?_
  unfold partAt
  rw [dif_pos (by omega)]

/-- All the hidden units. -/
theorem downAt_all (y : Fin 1024 → EReal) (wu : Fin 1024 → Fin 4096 → EReal) (wd : Fin 4096 → Fin 1024 → EReal) (c : Fin 1024) :
    downAt y wu wd 4096 c = ∑ j : Fin 4096, unitAt y (fun k => wu k j) * wd j c := by
  unfold downAt
  rw [Finset.sum_range]
  refine Finset.sum_congr rfl fun j _ => ?_
  unfold partAt
  rw [dif_pos j.isLt]

/-- The row the MLP gives. -/
def mlpAt (x g1 : Fin 1024 → EReal) (wu : Fin 1024 → Fin 4096 → EReal) (wd : Fin 4096 → Fin 1024 → EReal) (g2 : Fin 1024 → EReal)
    (c : Fin 1024) : EReal :=
  x c + normAt (downAt (normAt x g1) wu wd 4096) g2 c

end Cert.Proof.Mlp
-- ==== Proof.Mlp.Block.lean ====
/-
  The values of one grid point, entry by entry.
-/
module

public import proofs.«01_k».proof.Proof.Gen.MlpIdeal.Value
public import proofs.«01_k».proof.Proof.Mlp.Spec
public import Idealize.ShloMosaic.Lib.Pointwise

@[expose] public section

noncomputable section

namespace Cert.Proof.Mlp

open Idealize.ShloMosaic Cert.MlpIdeal Cert.MlpIdeal.Gen

/-- The normalised rows. -/
theorem pay1_apply (x : Vec Ideal S1024x1024 .f32) (g : Vec Ideal S1x1024 .f32) (r k : Fin 1024) :
    k0_pay1 x g (ix2 r k) = normAt (fun k => x (ix2 r k)) (fun k => g (ix2 0 k)) k := by
  unfold k0_pay1 normAt
  pointwise

/-- The zeros the products start from. -/
theorem pay2_apply (r k : Fin 1024) : k0_pay2 (F := Ideal) (ix2 r k) = 0 := by
  unfold k0_pay2
  pointwise

/-- One block of hidden units added to the down projection. -/
theorem pay3_apply (y wu : Vec Ideal S1024x1024 .bf16) (s : Vec Ideal S1024x1024 .f32) (wd : Vec Ideal S1024x1024 .bf16) (r c : Fin 1024) :
    k0_pay3 y wu s wd (ix2 r c) =
      s (ix2 r c) + ∑ j : Fin 1024, unitAt (fun k => y (ix2 r k)) (fun k => wu (ix2 k j)) * wd (ix2 j c) := by
  unfold k0_pay3 unitAt
  pointwise

/-- The result's rows. -/
theorem pay4_apply (x s : Vec Ideal S1024x1024 .f32) (g : Vec Ideal S1x1024 .f32) (r c : Fin 1024) :
    k0_pay4 x s g (ix2 r c) = x (ix2 r c) + normAt (fun k => s (ix2 r k)) (fun k => g (ix2 0 k)) c := by
  unfold k0_pay4 normAt
  pointwise

end Cert.Proof.Mlp
-- ==== Proof.Mlp.Point.lean ====
/-
  What each grid point of the MLP leaves: the normalised rows, the accumulated down projection and, at the last point of a
  row block, the block's result.

  Point `4 i + f` holds block `i` of the rows against block `f` of the hidden units.
-/
module

public import proofs.«01_k».proof.Proof.Gen.MlpIdeal.Value
public import Idealize.ShloMosaic.Lib.Pointwise

@[expose] public section

noncomputable section

namespace Cert.Proof.Mlp

open Idealize.ShloMosaic Cert.MlpIdeal Cert.MlpIdeal.Gen Cert.MlpIdeal.Value

variable {F : FTy → Type} [FloatOps F]

/-- A store of a whole block into scratch, read back whole. -/
theorem readCov_whole {sp : Space} {e : EltTy} (v : View sig .tc sp S1024x1024 e) (h : S1024x1024.Idx → Elt F e)
    (l : List (View.Piece (Elt F) S1024x1024 e)) :
    v.readCov (⟨Rect.unit ![0, 0] S1024x1024.size inb_S1024x1024_S1024x1024_0_0, h⟩ :: l)
      (Rect.unit ![0, 0] S1024x1024.size inb_S1024x1024_S1024x1024_0_0).toLoadRect = h := by
  rw [View.readCov_eq_canon', View.canon_cons_unit_zero (by ext d; fin_cases d <;> rfl)]
  exact View.ld_unit_zero (by ext d; fin_cases d <;> rfl) _ h

/-- What a store of a whole block leaves. -/
theorem canon_whole {e : EltTy} (h : S1024x1024.Idx → Elt F e) (l : List (View.Piece (Elt F) S1024x1024 e)) :
    View.canon (⟨Rect.unit ![0, 0] S1024x1024.size inb_S1024x1024_S1024x1024_0_0, h⟩ :: l) = h :=
  View.canon_cons_unit_zero (by ext d; fin_cases d <;> rfl) _ _ _

/-- A load of a whole block. -/
theorem ld_whole {e : EltTy} (h : S1024x1024.Idx → Elt F e) :
    View.ld h (Rect.unit ![0, 0] S1024x1024.size inb_S1024x1024_S1024x1024_0_0) = h :=
  View.ld_unit_zero (by ext d; fin_cases d <;> rfl) _ h

/-- A load of a whole row. -/
theorem ld_row {e : EltTy} (h : S1x1024.Idx → Elt F e) :
    View.ld h (Rect.unit ![0, 0] S1x1024.size inb_S1x1024_S1x1024_0_0) = h :=
  View.ld_unit_zero (by ext d; fin_cases d <;> rfl) _ h

/-- The same loads, their sizes written out. -/
theorem ld_whole' {e : EltTy} (h : S1024x1024.Idx → Elt F e) :
    View.ld h (Rect.unit ![0, 0] ![1024, 1024] inb_S1024x1024_S1024x1024_0_0) = h := ld_whole h

theorem ld_row' {e : EltTy} (h : S1x1024.Idx → Elt F e) :
    View.ld h (Rect.unit ![0, 0] ![1, 1024] inb_S1x1024_S1x1024_0_0) = h := ld_row h

variable (m : (ℓ : Loc nD τ sig) → Buf (Elt F) ℓ) (c : Dev nD)

/-- The first point of a row block: the normalised rows. -/
theorem norm_A (t : Fin cfg0.N) (acc) (h0 : t.val % 4 = 0) (h1 : ¬t.val % 4 = 3) :
    (stAt0 m c t.val t.isLt acc).2.1 = k0_pay1 (iblk m c 0 t) (iblk m c 1 t) := by
  rw [stAt0_A m c t acc h0 h1]
  dsimp only
  unfold sout0_A_0
  rw [View.read_writes_junk_eq_canon]
  unfold kernelRun0_A
  dsimp only
  sl_unfold_words
  simp -proj only [View.readAt_eq_ld, (hs0_0 t).read_unread, (hs0_1 t).read_unread, ld_whole, ld_row]
  rw [canon_whole]

/-- The first point of a row block: the first product, on zeros. -/
theorem sum_A (t : Fin cfg0.N) (acc) (h0 : t.val % 4 = 0) (h1 : ¬t.val % 4 = 3) :
    (stAt0 m c t.val t.isLt acc).2.2 =
      k0_pay3 (k0_pay1 (iblk m c 0 t) (iblk m c 1 t)) (iblk m c 2 t) (k0_pay2 (F := F)) (iblk m c 3 t) := by
  rw [stAt0_A m c t acc h0 h1]
  dsimp only
  unfold sout0_A_1
  rw [View.read_writes_junk_eq_canon]
  unfold kernelRun0_A
  dsimp only
  sl_unfold_words
  simp -proj only [View.readAt_eq_ld, (hs0_0 t).read_unread, (hs0_1 t).read_unread, (hs0_2 t).read_unread, (hs0_3 t).read_unread,
    ld_whole, ld_row, readCov_whole]
  rw [canon_whole, ld_whole', ld_whole']

/-- A middle point keeps the normalised rows … -/
theorem norm_B (t : Fin cfg0.N) (acc) (h0 : ¬t.val % 4 = 0) (h1 : ¬t.val % 4 = 3) :
    (stAt0 m c t.val t.isLt acc).2.1 = acc.2.1 := by
  rw [stAt0_B m c t acc h0 h1]
  rfl

/-- … and adds its product. -/
theorem sum_B (t : Fin cfg0.N) (acc) (h0 : ¬t.val % 4 = 0) (h1 : ¬t.val % 4 = 3) :
    (stAt0 m c t.val t.isLt acc).2.2 = k0_pay3 acc.2.1 (iblk m c 2 t) acc.2.2 (iblk m c 3 t) := by
  rw [stAt0_B m c t acc h0 h1]
  dsimp only
  unfold sout0_B_1
  rw [View.read_writes_junk_eq_canon]
  unfold kernelRun0_B
  dsimp only
  sl_unfold_words
  simp -proj only [View.readAt_eq_ld, (hs0_2 t).read_unread, (hs0_3 t).read_unread, (Memref.isWhole_whole _).read_unread, ld_whole]
  rw [canon_whole, ld_whole', ld_whole', ld_whole', ld_whole']

/-- The last point of a row block: the result, of the accumulated products. -/
theorem out_C (t : Fin cfg0.N) (acc) (h0 : ¬t.val % 4 = 0) (h1 : t.val % 4 = 3) :
    (stAt0 m c t.val t.isLt acc).1 =
      k0_pay4 (iblk m c 0 t) (k0_pay3 acc.2.1 (iblk m c 2 t) acc.2.2 (iblk m c 3 t)) (iblk m c 4 t) := by
  rw [stAt0_C m c t acc h0 h1]
  dsimp only
  unfold out0_C_5
  rw [View.read_writes_junk_eq_canon]
  unfold kernelRun0_C
  dsimp only
  sl_unfold_words
  simp -proj only [View.readAt_eq_ld, (hs0_0 t).read_unread, (hs0_2 t).read_unread, (hs0_3 t).read_unread, (hs0_4 t).read_unread,
    (Memref.isWhole_whole _).read_unread, ld_whole, ld_row, readCov_whole]
  rw [canon_whole, ld_whole', ld_row']

end Cert.Proof.Mlp
-- ==== Proof.Mlp.Windows.lean ====
/-
  What each window's block holds at a grid point, as entries of the argument arrays.

  At point `4 i + f` the rows' window holds rows `1024 i …` of `x`, the two weight windows the hidden units `1024 f …`; the two
  gain windows hold their whole array.
-/
module

public import proofs.«01_k».proof.Proof.Gen.MlpIdeal.Value
public import Idealize.ShloMosaic.Lib.Pointwise

@[expose] public section

noncomputable section

namespace Cert.Proof.Mlp

open Idealize.ShloMosaic Idealize.ShloMosaic.TcCoe Cert.MlpIdeal Cert.MlpIdeal.Gen Cert.MlpIdeal.Value

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem V_main_arg0 : V m c main_arg0 = arg m c main_arg0 := by
  show StableHlo.after hostOps0 _ (Proc.devRef .tc main_arg0) = _
  after_results

theorem V_main_v0 : V m c main_v0 = truncf (F := Ideal) (φ := .f32) .bf16 (arg m c main_arg2) bitsLt_bf16_f32 := by
  show StableHlo.after hostOps0 _ (Proc.devRef .tc main_v0) = _
  after_results

theorem V_main_v1 : V m c main_v1 = truncf (F := Ideal) (φ := .f32) .bf16 (arg m c main_arg3) bitsLt_bf16_f32 := by
  show StableHlo.after hostOps0 _ (Proc.devRef .tc main_v1) = _
  after_results

theorem V_main_v2 : V m c main_v2 = shapeCast S1x1024 (arg m c main_arg1) shapeCasts_S1024_S1x1024 := by
  show StableHlo.after hostOps0 _ (Proc.devRef .tc main_v2) = _
  after_results
  rfl

theorem V_main_v3 : V m c main_v3 = shapeCast S1x1024 (arg m c main_arg4) shapeCasts_S1024_S1x1024 := by
  show StableHlo.after hostOps0 _ (Proc.devRef .tc main_v3) = _
  after_results
  rfl

/-- The grid has 64 points. -/
theorem point_lt (t : Fin cfg0.N) : t.val < 64 := lt_of_lt_of_eq t.isLt N_0

theorem index0 : ∀ t : Fin cfg0.N, win0_0.index t (0 : Fin 2) = t.val / 4 ∧ win0_0.index t (1 : Fin 2) = 0 :=
  (by decide +kernel : ∀ t : Fin grid0.N, _)
theorem index2 : ∀ t : Fin cfg0.N, win0_2.index t (0 : Fin 2) = 0 ∧ win0_2.index t (1 : Fin 2) = t.val % 4 :=
  (by decide +kernel : ∀ t : Fin grid0.N, _)
theorem index3 : ∀ t : Fin cfg0.N, win0_3.index t (0 : Fin 2) = t.val % 4 ∧ win0_3.index t (1 : Fin 2) = 0 :=
  (by decide +kernel : ∀ t : Fin grid0.N, _)
theorem index1 : ∀ (t : Fin cfg0.N) (a : Fin 2), win0_1.index t a = 0 :=
  (by decide +kernel : ∀ (t : Fin grid0.N) (a : Fin 2), _)
theorem index4 : ∀ (t : Fin cfg0.N) (a : Fin 2), win0_4.index t a = 0 :=
  (by decide +kernel : ∀ (t : Fin grid0.N) (a : Fin 2), _)

/-- The rows. -/
theorem block0_apply (t : Fin cfg0.N) (r k : Fin 1024) :
    (iblk m c 0 t : Vec Ideal S1024x1024 .f32) (ix2 r k) =
      (arg m c main_arg0 : Vec Ideal S16384x1024 .f32) (ix2 ⟨1024 * (t.val / 4) + r.val, by have := point_lt t; omega⟩ k) := by
  obtain ⟨i0, i1⟩ := index0 t
  unfold iblk
  rw [View.read_apply, ← V_main_arg0 m c]
  show V m c main_arg0 _ = V m c main_arg0 _
  congr 1
  funext a
  apply Fin.ext
  match a with
  | ⟨0, _⟩ => show win0_0.index t 0 * 1024 + 1 * r.val = 1024 * (t.val / 4) + r.val; rw [i0]; omega
  | ⟨1, _⟩ => show win0_0.index t 1 * 1024 + 1 * k.val = k.val; rw [i1]; omega

/-- The up projection's columns. -/
theorem block2_apply (t : Fin cfg0.N) (r k : Fin 1024) :
    (iblk m c 2 t : Vec Ideal S1024x1024 .bf16) (ix2 r k) =
      (arg m c main_arg2 : Vec Ideal S1024x4096 .f32) (ix2 r ⟨1024 * (t.val % 4) + k.val, by omega⟩) := by
  obtain ⟨i0, i1⟩ := index2 t
  unfold iblk
  rw [View.read_apply]
  refine Eq.trans ?_ (congrFun (V_main_v0 m c) (ix2 r ⟨1024 * (t.val % 4) + k.val, by omega⟩))
  show V m c main_v0 _ = V m c main_v0 _
  congr 1
  funext a
  apply Fin.ext
  match a with
  | ⟨0, _⟩ => show win0_2.index t 0 * 1024 + 1 * r.val = r.val; rw [i0]; omega
  | ⟨1, _⟩ => show win0_2.index t 1 * 1024 + 1 * k.val = 1024 * (t.val % 4) + k.val; rw [i1]; omega

/-- The down projection's rows. -/
theorem block3_apply (t : Fin cfg0.N) (r k : Fin 1024) :
    (iblk m c 3 t : Vec Ideal S1024x1024 .bf16) (ix2 r k) =
      (arg m c main_arg3 : Vec Ideal S4096x1024 .f32) (ix2 ⟨1024 * (t.val % 4) + r.val, by omega⟩ k) := by
  obtain ⟨i0, i1⟩ := index3 t
  unfold iblk
  rw [View.read_apply]
  refine Eq.trans ?_ (congrFun (V_main_v1 m c) (ix2 ⟨1024 * (t.val % 4) + r.val, by omega⟩ k))
  show V m c main_v1 _ = V m c main_v1 _
  congr 1
  funext a
  apply Fin.ext
  match a with
  | ⟨0, _⟩ => show win0_3.index t 0 * 1024 + 1 * r.val = 1024 * (t.val % 4) + r.val; rw [i0]; omega
  | ⟨1, _⟩ => show win0_3.index t 1 * 1024 + 1 * k.val = k.val; rw [i1]; omega

/-- A row of one read as a vector. -/
theorem row_apply (x : Vec Ideal S1024 .f32) (k : Fin 1024) :
    shapeCast S1x1024 x shapeCasts_S1024_S1x1024 (ix2 0 k) = x (ix1 k) := by
  pointwise

/-- The first gain. -/
theorem block1_apply (t : Fin cfg0.N) (k : Fin 1024) :
    (iblk m c 1 t : Vec Ideal S1x1024 .f32) (ix2 0 k) = (arg m c main_arg1 : Vec Ideal S1024 .f32) (ix1 k) := by
  have hz : (fun a => win0_1.index t a * main_v2.ty.shape.size a) = fun _ => 0 := funext fun a => by
    rw [index1 t a, Nat.zero_mul]
  have e : (iblk m c 1 t : Vec Ideal S1x1024 .f32) = V m c main_v2 :=
    Memref.read_access_unit_zero (Elt Ideal) main_v2 hz (fun a => by rw [congrFun hz a]; simp) (V m c main_v2)
  rw [e, V_main_v2]
  exact row_apply _ k

/-- The second gain. -/
theorem block4_apply (t : Fin cfg0.N) (k : Fin 1024) :
    (iblk m c 4 t : Vec Ideal S1x1024 .f32) (ix2 0 k) = (arg m c main_arg4 : Vec Ideal S1024 .f32) (ix1 k) := by
  have hz : (fun a => win0_4.index t a * main_v3.ty.shape.size a) = fun _ => 0 := funext fun a => by
    rw [index4 t a, Nat.zero_mul]
  have e : (iblk m c 4 t : Vec Ideal S1x1024 .f32) = V m c main_v3 :=
    Memref.read_access_unit_zero (Elt Ideal) main_v3 hz (fun a => by rw [congrFun hz a]; simp) (V m c main_v3)
  rw [e, V_main_v3]
  exact row_apply _ k

end Cert.Proof.Mlp
-- ==== Proof.Mlp.Sweep.lean ====
/-
  What the MLP's array holds after the grid: every row, by the four points of its row block.
-/
module

public import proofs.«01_k».proof.Proof.Mlp.Block
public import proofs.«01_k».proof.Proof.Mlp.Point
public import proofs.«01_k».proof.Proof.Mlp.Windows

@[expose] public section

noncomputable section

namespace Cert.Proof.Mlp

open Idealize.ShloMosaic Cert.MlpIdeal Cert.MlpIdeal.Gen Cert.MlpIdeal.Value

variable (m : (ℓ : Loc nD τ sig) → Buf (Elt Ideal) ℓ) (c : Dev nD)

/-- The argument arrays by their coordinates. -/
def rowOf (i : Fin 16384) (k : Fin 1024) : EReal := (arg m c main_arg0 : Vec Ideal S16384x1024 .f32) (ix2 i k)
def gainOf (k : Fin 1024) : EReal := (arg m c main_arg1 : Vec Ideal S1024 .f32) (ix1 k)
def upOf (k : Fin 1024) (j : Fin 4096) : EReal := (arg m c main_arg2 : Vec Ideal S1024x4096 .f32) (ix2 k j)
def downOf (j : Fin 4096) (d : Fin 1024) : EReal := (arg m c main_arg3 : Vec Ideal S4096x1024 .f32) (ix2 j d)
def lastGainOf (k : Fin 1024) : EReal := (arg m c main_arg4 : Vec Ideal S1024 .f32) (ix1 k)

/-- The row of the array that row `r` of point `n`'s block is. -/
def rowIx (n : ℕ) (hn : n < 64) (r : Fin 1024) : Fin 16384 := ⟨1024 * (n / 4) + r.val, by omega⟩

/-- The normalised row. -/
def normOf (n : ℕ) (hn : n < 64) (r : Fin 1024) : Fin 1024 → EReal := normAt (rowOf m c (rowIx n hn r)) (gainOf m c)

/-- The normalised rows the first point of a row block forms. -/
theorem norm_point (t : Fin cfg0.N) (r k : Fin 1024) :
    k0_pay1 (iblk m c 0 t) (iblk m c 1 t) (ix2 r k) = normOf m c t.val (point_lt t) r k := by
  refine (pay1_apply _ _ r k).trans ?_
  unfold normOf
  congr 1
  · funext j; exact block0_apply m c t r j
  · funext j; exact block1_apply m c t j

/-- A point's products added to those of the points before it. -/
theorem sum_point (t : Fin cfg0.N) (y : Vec Ideal S1024x1024 .bf16) (s : Vec Ideal S1024x1024 .f32) (r d : Fin 1024)
    (hy : ∀ k, y (ix2 r k) = normOf m c t.val (point_lt t) r k)
    (hs : s (ix2 r d) = downAt (normOf m c t.val (point_lt t) r) (upOf m c) (downOf m c) (1024 * (t.val % 4)) d) :
    k0_pay3 y (iblk m c 2 t) s (iblk m c 3 t) (ix2 r d) =
      downAt (normOf m c t.val (point_lt t) r) (upOf m c) (downOf m c) (1024 * (t.val % 4 + 1)) d := by
  refine (pay3_apply _ _ _ _ r d).trans ?_
  rw [← downAt_block _ _ _ (t.val % 4) (Nat.mod_lt _ (by decide)) d, hs]
  refine congrArg _ (Finset.sum_congr rfl fun j _ => ?_)
  rw [block3_apply m c t j d, funext hy, show (fun k => (iblk m c 2 t : Vec Ideal S1024x1024 .bf16) (ix2 k j)) = fun k =>
    upOf m c k ⟨1024 * (t.val % 4) + j.val, by omega⟩ from funext fun k => block2_apply m c t k j]
  rfl

/-- Before the last point of a row block: the normalised rows, and the products so far. -/
theorem held : ∀ (n : ℕ) (hn : n < cfg0.N) (h3 : n % 4 ≠ 3) (r : Fin 1024),
    (∀ k, (outsAt0 m c n hn).2.1 (ix2 r k) = normOf m c n (point_lt ⟨n, hn⟩) r k) ∧
    ∀ d, (outsAt0 m c n hn).2.2 (ix2 r d) =
      downAt (normOf m c n (point_lt ⟨n, hn⟩) r) (upOf m c) (downOf m c) (1024 * (n % 4 + 1)) d := by
  have first : ∀ (t : Fin cfg0.N) (acc) (h0 : t.val % 4 = 0) (r : Fin 1024),
      (∀ k, (stAt0 m c t.val t.isLt acc).2.1 (ix2 r k) = normOf m c t.val (point_lt t) r k) ∧
      ∀ d, (stAt0 m c t.val t.isLt acc).2.2 (ix2 r d) =
        downAt (normOf m c t.val (point_lt t) r) (upOf m c) (downOf m c) (1024 * (t.val % 4 + 1)) d := by
    intro t acc h0 r
    have h1 : ¬t.val % 4 = 3 := by omega
    refine ⟨fun k => ?_, fun d => ?_⟩
    · rw [norm_A m c t acc h0 h1]; exact norm_point m c t r k
    · rw [sum_A m c t acc h0 h1]
      refine sum_point m c t _ _ r d (fun k => norm_point m c t r k) ?_
      rw [pay2_apply, h0]
      rfl
  intro n
  induction n with
  | zero =>
    intro hn h3 r
    rw [outsAt0_zero m c hn]
    exact first ⟨0, hn⟩ _ rfl r
  | succ n ih =>
    intro hn h3 r
    rw [outsAt0_succ m c n hn]
    by_cases h0 : (n + 1) % 4 = 0
    · exact first ⟨n + 1, hn⟩ _ h0 r
    · obtain ⟨a, b⟩ := ih (Nat.lt_of_succ_lt hn) (by omega) r
      have en : normOf m c n (point_lt ⟨n, Nat.lt_of_succ_lt hn⟩) r = normOf m c (n + 1) (point_lt ⟨n + 1, hn⟩) r := by
        unfold normOf rowIx
        congr 3
        show 1024 * (n / 4) + r.val = 1024 * ((n + 1) / 4) + r.val
        omega
      have e4 : n % 4 + 1 = (n + 1) % 4 := by omega
      refine ⟨fun k => ?_, fun d => ?_⟩
      · rw [norm_B m c ⟨n + 1, hn⟩ _ h0 h3, a k, en]
      · rw [sum_B m c ⟨n + 1, hn⟩ _ h0 h3]
        exact sum_point m c ⟨n + 1, hn⟩ _ _ r d (fun k => by rw [a k, en]) (by rw [b d, en, e4])

/-- The last point of a row block: the result. -/
theorem last_out (n : ℕ) (hn : n < cfg0.N) (h3 : n % 4 = 3) (r d : Fin 1024) :
    (outsAt0 m c n hn).1 (ix2 r d) =
      mlpAt (rowOf m c (rowIx n (point_lt ⟨n, hn⟩) r)) (gainOf m c) (upOf m c) (downOf m c) (lastGainOf m c) d := by
  obtain ⟨k, rfl⟩ : ∃ k, n = k + 1 := ⟨n - 1, by omega⟩
  rw [outsAt0_succ m c k hn, out_C m c ⟨k + 1, hn⟩ _ (by show ¬(k + 1) % 4 = 0; omega) h3]
  obtain ⟨a, b⟩ := held m c k (Nat.lt_of_succ_lt hn) (by omega) r
  have en : normOf m c k (point_lt ⟨k, Nat.lt_of_succ_lt hn⟩) r = normOf m c (k + 1) (point_lt ⟨k + 1, hn⟩) r := by
    unfold normOf rowIx
    congr 3
    show 1024 * (k / 4) + r.val = 1024 * ((k + 1) / 4) + r.val
    omega
  have e4 : k % 4 + 1 = (k + 1) % 4 := by omega
  have hsum : ∀ d, k0_pay3 (outsAt0 m c k (Nat.lt_of_succ_lt hn)).2.1 (iblk m c 2 ⟨k + 1, hn⟩)
      (outsAt0 m c k (Nat.lt_of_succ_lt hn)).2.2 (iblk m c 3 ⟨k + 1, hn⟩) (ix2 r d) =
      downAt (normOf m c (k + 1) (point_lt ⟨k + 1, hn⟩) r) (upOf m c) (downOf m c) 4096 d := fun d => by
    have e := sum_point m c ⟨k + 1, hn⟩ (outsAt0 m c k (Nat.lt_of_succ_lt hn)).2.1
      (outsAt0 m c k (Nat.lt_of_succ_lt hn)).2.2 r d (fun k => by rw [a k, en]) (by rw [b d, en, e4])
    rw [e]
    show downAt _ _ _ (1024 * ((k + 1) % 4 + 1)) d = _
    rw [h3]
  refine (pay4_apply _ _ _ r d).trans ?_
  unfold mlpAt
  rw [block0_apply m c ⟨k + 1, hn⟩ r d, funext hsum, show (fun j => (iblk m c 4 ⟨k + 1, hn⟩ : Vec Ideal S1x1024 .f32) (ix2 0 j)) =
    lastGainOf m c from funext fun j => block4_apply m c ⟨k + 1, hn⟩ j]
  rfl

/-- The array after the grid. -/
theorem array_apply (i : Fin 16384) (d : Fin 1024) :
    (G5 m c : Vec Ideal S16384x1024 .f32) (ix2 i d) =
      mlpAt (rowOf m c i) (gainOf m c) (upOf m c) (downOf m c) (lastGainOf m c) d := by
  have hp : pt5Of (ix2 i d) = 4 * (i.val / 1024) + 3 := by
    show 4 * (1 * (i.val / 1024 - 0) + 1 * (d.val / 1024 - 0)) + 3 = _
    omega
  have hn : pt5Of (ix2 i d) < cfg0.N := lt_of_lt_of_eq (by rw [hp]; omega) N_0.symm
  have e : (G5 m c : Vec Ideal S16384x1024 .f32) (ix2 i d) = (outsAt0 m c (pt5Of (ix2 i d)) hn).1 (loc5Of (ix2 i d)) := by
    rw [outsAt0_sweep m c _ hn]
    exact dif_pos hn
  have hl : loc5Of (ix2 i d) = ix2 ⟨i.val % 1024, Nat.mod_lt _ (by decide)⟩ d := by
    funext a
    match a with
    | ⟨0, _⟩ => rfl
    | ⟨1, _⟩ => exact Fin.ext (Nat.mod_eq_of_lt d.isLt)
  rw [e, hl, last_out m c _ hn (by rw [hp]; omega)]
  congr 2
  apply Fin.ext
  show 1024 * (pt5Of (ix2 i d) / 4) + i.val % 1024 = i.val
  rw [hp]
  omega

end Cert.Proof.Mlp
-- ==== Proof.Mlp.Ref.lean ====
/-
  The reference of the MLP, entry by entry.
-/
module

public import proofs.«01_k».proof.Proof.Gen.MlpReferenceIdeal.Read
public import proofs.«01_k».proof.Proof.Mlp.Spec
public import Idealize.ShloMosaic.Lib.Pointwise

@[expose] public section

noncomputable section

namespace Cert.Proof.Mlp.Ref

open Idealize.ShloMosaic Cert.MlpReferenceIdeal Cert.MlpReferenceIdeal.Gen Cert.MlpReferenceIdeal.Read

variable (x0 : FVec Ideal S16384x1024 .f32) (x1 : FVec Ideal S1024 .f32) (x2 : FVec Ideal S1024x4096 .f32)
  (x3 : FVec Ideal S4096x1024 .f32) (x4 : FVec Ideal S1024 .f32)

/-- The normalised rows. -/
theorem norm_apply (i : Fin 16384) (k : Fin 1024) :
    val_main_v12 (F := Ideal) x0 x1 (ix2 i k) = normAt (fun k => x0 (ix2 i k)) (fun k => x1 (ix1 k)) k := by
  unfold val_main_v12 val_main_v11 val_main_v10 val_main_v9 val_main_v8 val_main_v7 val_main_v6 val_main_v5 val_main_v4 val_main_v3
    val_main_v2 val_main_v1 val_main_v0 val_main_cst val_main_cst_0 val_main_cst_1 normAt
  pointwise

/-- The hidden units. -/
theorem unit_apply (i : Fin 16384) (j : Fin 4096) :
    val_main_v15 (F := Ideal) x0 x1 x2 (ix2 i j) = unitAt (fun k => val_main_v12 (F := Ideal) x0 x1 (ix2 i k)) (fun k => x2 (ix2 k j)) := by
  unfold val_main_v15 val_main_v14 val_main_v13 val_main_call0_v0 val_main_call0_cst unitAt
  pointwise

/-- The down projection. -/
theorem down_apply (i : Fin 16384) (c : Fin 1024) :
    val_main_v16 (F := Ideal) x0 x1 x2 x3 (ix2 i c) =
      downAt (normAt (fun k => x0 (ix2 i k)) (fun k => x1 (ix1 k))) (fun k j => x2 (ix2 k j)) (fun j c => x3 (ix2 j c)) 4096 c := by
  rw [downAt_all]
  unfold val_main_v16
  pointwise [unit_apply, norm_apply]

/-- The result. -/
theorem out_apply (i : Fin 16384) (c : Fin 1024) :
    val_main_v30 (F := Ideal) x0 x1 x2 x3 x4 (ix2 i c) =
      mlpAt (fun k => x0 (ix2 i k)) (fun k => x1 (ix1 k)) (fun k j => x2 (ix2 k j)) (fun j c => x3 (ix2 j c)) (fun k => x4 (ix1 k)) c := by
  unfold val_main_v30 val_main_v29 val_main_v28 val_main_v27 val_main_v26 val_main_v25 val_main_v24 val_main_v23 val_main_v22 val_main_v21
    val_main_v20 val_main_v19 val_main_v18 val_main_v17 val_main_cst_2 val_main_cst_3 val_main_cst_4 mlpAt normAt
  pointwise [down_apply]
  rfl

end Cert.Proof.Mlp.Ref
-- ==== Proof.Mlp.Equation.lean ====
/-
  The MLP's array and its reference's are one, over the extended reals.
-/
module

public import proofs.«01_k».proof.Proof.Mlp.Sweep
public import proofs.«01_k».proof.Proof.Mlp.Ref

@[expose] public section

noncomputable section

namespace Cert.Proof.Mlp

open Idealize.ShloMosaic

variable (m : (ℓ : Loc MlpIdeal.nD MlpIdeal.τ MlpIdeal.sig) → Buf (Elt Ideal) ℓ) (c : Dev MlpIdeal.nD)

theorem same : MlpReferenceIdeal.Read.val_main_v30 (F := Ideal) (arg m c MlpIdeal.main_arg0) (arg m c MlpIdeal.main_arg1)
    (arg m c MlpIdeal.main_arg2) (arg m c MlpIdeal.main_arg3) (arg m c MlpIdeal.main_arg4) = MlpIdeal.Value.G5 m c := by
  funext i
  have hi : i = ix2 (i 0) (i 1) := funext fun a => match a with
    | ⟨0, _⟩ => rfl
    | ⟨1, _⟩ => rfl
  rw [hi]
  exact (Ref.out_apply _ _ _ _ _ (i 0) (i 1)).trans (array_apply m c (i 0) (i 1)).symm

end Cert.Proof.Mlp
-- ==== Proof.InProj.Spec.lean ====
/-
  The input projection, entry by entry: a row's projection, and the rotation of the first lanes of each head.
-/
module

public import proofs.«01_k».proof.Proof.Mlp.Spec

@[expose] public section

noncomputable section

namespace Cert.Proof.InProj

open Idealize.ShloMosaic

/-- One entry of a row's projection. -/
def projAt (y w : Fin 1024 → EReal) : EReal := ∑ k : Fin 1024, y k * w k

/-- The angle of position `s` at lane `k`: the position times a power of the base, by the words the program holds. -/
def angAt (s : Fin 2048) (k : Fin 8) : EReal :=
  FloatOps.sitofp (F := Ideal) FTy.f32 (BitVec.ofNat 32 s.val) *
    Ideal.exp (Ideal.ofBits .f32 0xC151F533#32 * FloatOps.sitofp (F := Ideal) FTy.f32 (BitVec.ofNat 32 k.val) * Ideal.ofBits .f32 0x3E000000#32)

def cosAt (s : Fin 2048) (k : Fin 8) : EReal := Ideal.cos (angAt s k)
def sinAt (s : Fin 2048) (k : Fin 8) : EReal := Ideal.sin (angAt s k)

/-- Eight heads of 64 lanes, in each the first 8 lanes turned against the next 8. -/
def turnAt (u : Fin 512 → EReal) (cs sn : Fin 8 → EReal) (j : Fin 512) : EReal :=
  if h : j.val % 64 < 8 then u j * cs ⟨j.val % 64, h⟩ - u ⟨j.val + 8, by omega⟩ * sn ⟨j.val % 64, h⟩
  else if h' : j.val % 64 < 16 then
    u j * cs ⟨j.val % 64 - 8, by omega⟩ + u ⟨j.val - 8, by omega⟩ * sn ⟨j.val % 64 - 8, by omega⟩
  else u j

/-- What the three tables hold at lane `l` of two heads. -/
def cosLane (cs : Fin 8 → EReal) (l : Fin 128) : EReal :=
  if h : l.val % 64 < 8 then cs ⟨l.val % 64, h⟩ else if h' : l.val % 64 < 16 then cs ⟨l.val % 64 - 8, by omega⟩ else 1

def upLane (sn : Fin 8 → EReal) (l : Fin 128) : EReal := if h : l.val % 64 < 8 then -sn ⟨l.val % 64, h⟩ else 0

def downLane (sn : Fin 8 → EReal) (l : Fin 128) : EReal :=
  if l.val % 64 < 8 then 0 else if h' : l.val % 64 < 16 then sn ⟨l.val % 64 - 8, by omega⟩ else 0

/-- A lane of the row turned by the tables: itself, and its neighbours 8 above and 8 below in its 128 lanes. -/
def laneTurn (u : Fin 512 → EReal) (c a b : Fin 128 → EReal) (j : Fin 512) : EReal :=
  u j * c ⟨j.val % 128, by omega⟩ + u ⟨128 * (j.val / 128) + (j.val + 8) % 128, by omega⟩ * a ⟨j.val % 128, by omega⟩
    + u ⟨128 * (j.val / 128) + (j.val + 120) % 128, by omega⟩ * b ⟨j.val % 128, by omega⟩

/-- Turning by the tables is the rotation. -/
theorem laneTurn_eq (u : Fin 512 → EReal) (cs sn : Fin 8 → EReal) (j : Fin 512) :
    laneTurn u (cosLane cs) (upLane sn) (downLane sn) j = turnAt u cs sn j := by
  have e : j.val % 128 % 64 = j.val % 64 := by omega
  unfold laneTurn turnAt cosLane upLane downLane
  simp only [e]
  by_cases h : j.val % 64 < 8
  · simp only [dif_pos h, if_pos h, mul_zero, add_zero, mul_neg, sub_eq_add_neg]
    congr 4
    exact Fin.ext (by show 128 * (j.val / 128) + (j.val + 8) % 128 = j.val + 8; omega)
  · by_cases h' : j.val % 64 < 16
    · simp only [dif_neg h, if_neg h, dif_pos h', mul_zero, add_zero]
      congr 3
      exact Fin.ext (by show 128 * (j.val / 128) + (j.val + 120) % 128 = j.val - 8; omega)
    · simp only [dif_neg h, if_neg h, dif_neg h', mul_zero, add_zero, mul_one]

end Cert.Proof.InProj
-- ==== Proof.InProj.Ref.lean ====
/-
  The reference of the input projection, entry by entry.
-/
module

public import proofs.«01_k».proof.Proof.Gen.InProjReferenceIdeal.Read
public import proofs.«01_k».proof.Proof.InProj.Spec
public import Idealize.ShloMosaic.Lib.Pointwise
public import Idealize.ShloMosaic.Lib.Pipeline.Value

@[expose] public section

noncomputable section

namespace Cert.Proof.InProj.Ref

open Idealize.ShloMosaic Cert.InProjReferenceIdeal Cert.InProjReferenceIdeal.Gen Cert.InProjReferenceIdeal.Read

variable (x0 : FVec Ideal S8x2048x1024 .f32) (x1 : FVec Ideal S1024 .f32) (x2 : FVec Ideal S1024x3072 .f32)

/-- The normalised rows. -/
theorem norm_apply (i : Fin 8) (s : Fin 2048) (k : Fin 1024) :
    val_main_v12 (F := Ideal) x0 x1 (ix3 i s k) = Mlp.normAt (fun k => x0 (ix3 i s k)) (fun k => x1 (ix1 k)) k := by
  unfold val_main_v12 val_main_v11 val_main_v10 val_main_v9 val_main_v8 val_main_v7 val_main_v6 val_main_v5 val_main_v4 val_main_v3
    val_main_v2 val_main_v1 val_main_v0 val_main_cst val_main_cst_0 val_main_cst_1 Mlp.normAt
  pointwise

/-- The projection. -/
theorem proj_apply (i : Fin 8) (s : Fin 2048) (j : Fin 3072) :
    val_main_v13 (F := Ideal) x0 x1 x2 (ix3 i s j) =
      projAt (Mlp.normAt (fun k => x0 (ix3 i s k)) (fun k => x1 (ix1 k))) (fun k => x2 (ix2 k j)) := by
  unfold val_main_v13 projAt
  pointwise [norm_apply]

/-- The angle of a position at a lane. -/
theorem angle_apply (s : Fin 2048) (k : Fin 8) : val_main_v26 (F := Ideal) (ix2 s k) = angAt s k := by
  unfold val_main_v26 val_main_v25 val_main_v24 val_main_v23 val_main_v22 val_main_v21 val_main_v20 val_main_v19 val_main_v18 val_main_v17
    val_main_v16 val_main_v15 val_main_v14 val_main_cst_2 val_main_cst_3 angAt
  pointwise

theorem cos_apply (s : Fin 2048) (k : Fin 8) : val_main_v28 (F := Ideal) (ix3 s 0 k) = cosAt s k := by
  unfold val_main_v28 val_main_v27 cosAt
  pointwise [angle_apply]

theorem sin_apply (s : Fin 2048) (k : Fin 8) : val_main_v29 (F := Ideal) (ix3 s 0 k) = sinAt s k := by
  unfold val_main_v29 val_main_v27 sinAt
  pointwise [angle_apply]

/-- The lanes as eight heads. -/
def heads (u : FVec Ideal S8x2048x512 .f32) : FVec Ideal S8x2048x8x64 .f32 := shapeCast S8x2048x8x64 u shapeCasts_S8x2048x512_S8x2048x8x64

/-- A table's row of each position, for every head. -/
def every (v : FVec Ideal S2048x1x8 .f32) : FVec Ideal S8x2048x8x8 .f32 :=
  broadcastInDim S8x2048x8x8 ![0, 1, 2, 3] bcast_S1x2048x1x8_S8x2048x8x8_0_1_2_3
    (broadcastInDim S1x2048x1x8 ![1, 2, 3] bcast_S2048x1x8_S1x2048x1x8_1_2_3 v)

/-- The first 8 lanes of each head, the next 8, and the others. -/
def first (u : FVec Ideal S8x2048x512 .f32) : FVec Ideal S8x2048x8x8 .f32 :=
  extractStridedSlice S8x2048x8x8 ![0, 0, 0, 0] (heads u) slices_S8x2048x8x64_S8x2048x8x8_0_0_0_0
def second (u : FVec Ideal S8x2048x512 .f32) : FVec Ideal S8x2048x8x8 .f32 :=
  extractStridedSlice S8x2048x8x8 ![0, 0, 0, 8] (heads u) slices_S8x2048x8x64_S8x2048x8x8_0_0_0_8
def others (u : FVec Ideal S8x2048x512 .f32) : FVec Ideal S8x2048x8x48 .f32 :=
  extractStridedSlice S8x2048x8x48 ![0, 0, 0, 16] (heads u) slices_S8x2048x8x64_S8x2048x8x48_0_0_0_16

/-- The heads turned by their positions. -/
def turned (u : FVec Ideal S8x2048x512 .f32) : FVec Ideal S8x2048x512 .f32 :=
  shapeCast S8x2048x512 (concatenate S8x2048x8x64 3
    [⟨S8x2048x8x8, subf (mulf (first u) (every (val_main_v28 (F := Ideal)))) (mulf (second u) (every (val_main_v29 (F := Ideal))))⟩,
     ⟨S8x2048x8x8, addf (mulf (second u) (every (val_main_v28 (F := Ideal)))) (mulf (first u) (every (val_main_v29 (F := Ideal))))⟩,
     ⟨S8x2048x8x48, others u⟩]
    concatenates_S8x2048x8x8_S8x2048x8x8_S8x2048x8x48_S8x2048x8x64_d3) shapeCasts_S8x2048x8x64_S8x2048x512

theorem v55_eq : val_main_v55 (F := Ideal) x0 x1 x2 = turned (val_main_v30 (F := Ideal) x0 x1 x2) := rfl
theorem v75_eq : val_main_v75 (F := Ideal) x0 x1 x2 = turned (val_main_v31 (F := Ideal) x0 x1 x2) := rfl
theorem v95_eq : val_main_v95 (F := Ideal) x0 x1 x2 = turned (val_main_v33 (F := Ideal) x0 x1 x2) := rfl
theorem v115_eq : val_main_v115 (F := Ideal) x0 x1 x2 = turned (val_main_v34 (F := Ideal) x0 x1 x2) := rfl

theorem heads_apply (u : FVec Ideal S8x2048x512 .f32) (i : Fin 8) (s : Fin 2048) (h : Fin 8) (l : Fin 64) :
    heads u (ix4 i s h l) = u (ix3 i s ⟨64 * h.val + l.val, by omega⟩) := by
  unfold heads
  refine shapeCast_apply _ _ _ _ ?_
  rw [Shape.rowMajor_val_three, Shape.rowMajor_val_four]
  show (i.val * 2048 + s.val) * 512 + (64 * h.val + l.val) = ((i.val * 2048 + s.val) * 8 + h.val) * 64 + l.val
  omega

theorem every_apply (v : FVec Ideal S2048x1x8 .f32) (i : Fin 8) (s : Fin 2048) (h k : Fin 8) : every v (ix4 i s h k) = v (ix3 s 0 k) := by
  unfold every
  pointwise

theorem first_apply (u : FVec Ideal S8x2048x512 .f32) (i : Fin 8) (s : Fin 2048) (h k : Fin 8) :
    first u (ix4 i s h k) = u (ix3 i s ⟨64 * h.val + k.val, by omega⟩) := by
  unfold first
  refine Eq.trans ?_ (heads_apply u i s h ⟨k.val, by omega⟩)
  pointwise

theorem second_apply (u : FVec Ideal S8x2048x512 .f32) (i : Fin 8) (s : Fin 2048) (h k : Fin 8) :
    second u (ix4 i s h k) = u (ix3 i s ⟨64 * h.val + (8 + k.val), by omega⟩) := by
  unfold second
  refine Eq.trans ?_ (heads_apply u i s h ⟨8 + k.val, by omega⟩)
  pointwise

theorem others_apply (u : FVec Ideal S8x2048x512 .f32) (i : Fin 8) (s : Fin 2048) (h : Fin 8) (k : Fin 48) :
    others u (ix4 i s h k) = u (ix3 i s ⟨64 * h.val + (16 + k.val), by omega⟩) := by
  unfold others
  refine Eq.trans ?_ (heads_apply u i s h ⟨16 + k.val, by omega⟩)
  pointwise

/-- The rotation. -/
theorem turned_apply (u : FVec Ideal S8x2048x512 .f32) (i : Fin 8) (s : Fin 2048) (j : Fin 512) :
    turned u (ix3 i s j) = turnAt (fun j => u (ix3 i s j)) (cosAt s) (sinAt s) j := by
  unfold turned
  refine (shapeCast_apply _ _ (ix3 i s j) (ix4 i s (⟨j.val / 64, by omega⟩ : Fin 8) (⟨j.val % 64, by omega⟩ : Fin 64)) (by
    rw [Shape.rowMajor_val_three, Shape.rowMajor_val_four]
    show ((i.val * 2048 + s.val) * 8 + j.val / 64) * 64 + j.val % 64 = (i.val * 2048 + s.val) * 512 + j.val
    omega)).trans ?_
  have off : ∀ {n : ℕ} (k : Fin n) (b : Fin 4), b ≠ 3 → (ix4 i s (⟨j.val / 64, by omega⟩ : Fin 8) k b).val
      = (ix4 i s (⟨j.val / 64, by omega⟩ : Fin 8) (⟨j.val % 64, by omega⟩ : Fin 64) b).val := fun k b hb => match b with
    | ⟨0, _⟩ => rfl
    | ⟨1, _⟩ => rfl
    | ⟨2, _⟩ => rfl
    | ⟨3, _⟩ => absurd rfl hb
  have same : ∀ a b : Fin 512, a.val = b.val → u (ix3 i s a) = u (ix3 i s b) := fun a b h => by rw [Fin.ext h]
  unfold turnAt
  by_cases h : j.val % 64 < 8
  · rw [dif_pos h]
    refine (concatenate_apply_piece (t := S8x2048x8x64) 3 _ _ _ 0 (by show 0 < 3; omega) S8x2048x8x8 _ rfl rfl 0 rfl
      (ix4 i s (⟨j.val / 64, by omega⟩ : Fin 8) (⟨j.val % 64, h⟩ : Fin 8)) (off _) (by show 0 + j.val % 64 = j.val % 64; omega)).trans ?_
    show first u _ * every _ _ - second u _ * every _ _ = _
    rw [first_apply, second_apply, every_apply, every_apply, cos_apply, sin_apply]
    exact congrArg₂ (· - ·)
      (congrArg (· * _) (same _ _ (by show 64 * (j.val / 64) + j.val % 64 = j.val; omega)))
      (congrArg (· * _) (same _ _ (by show 64 * (j.val / 64) + (8 + j.val % 64) = j.val + 8; omega)))
  · rw [dif_neg h]
    by_cases h' : j.val % 64 < 16
    · rw [dif_pos h']
      refine (concatenate_apply_piece (t := S8x2048x8x64) 3 _ _ _ 1 (by show 1 < 3; omega) S8x2048x8x8 _ rfl rfl 8 rfl
        (ix4 i s (⟨j.val / 64, by omega⟩ : Fin 8) (⟨j.val % 64 - 8, by omega⟩ : Fin 8)) (off _) (by show 8 + (j.val % 64 - 8) = j.val % 64; omega)).trans ?_
      show second u _ * every _ _ + first u _ * every _ _ = _
      rw [first_apply, second_apply, every_apply, every_apply, cos_apply, sin_apply]
      exact congrArg₂ (· + ·)
        (congrArg (· * _) (same _ _ (by show 64 * (j.val / 64) + (8 + (j.val % 64 - 8)) = j.val; omega)))
        (congrArg (· * _) (same _ _ (by show 64 * (j.val / 64) + (j.val % 64 - 8) = j.val - 8; omega)))
    · rw [dif_neg h']
      refine (concatenate_apply_piece (t := S8x2048x8x64) 3 _ _ _ 2 (by show 2 < 3; omega) S8x2048x8x48 _ rfl rfl 16 rfl
        (ix4 i s (⟨j.val / 64, by omega⟩ : Fin 8) (⟨j.val % 64 - 16, by omega⟩ : Fin 48)) (off _) (by show 16 + (j.val % 64 - 16) = j.val % 64; omega)).trans ?_
      rw [others_apply]
      exact same _ _ (by show 64 * (j.val / 64) + (16 + (j.val % 64 - 16)) = j.val; omega)

/-- A block of 512 columns of the projection. -/
theorem cut_apply (o : ℕ) (ho : o + 512 ≤ 3072) (h : S8x2048x3072.Slices ![0, 0, o] S8x2048x512) (i : Fin 8) (s : Fin 2048) (j : Fin 512) :
    extractStridedSlice S8x2048x512 ![0, 0, o] (val_main_v13 (F := Ideal) x0 x1 x2) h (ix3 i s j) =
      projAt (Mlp.normAt (fun k => x0 (ix3 i s k)) (fun k => x1 (ix1 k))) (fun k => x2 (ix2 k ⟨o + j.val, by omega⟩)) := by
  refine (extractStridedSlice_apply _ _ h _ (ix3 i s (⟨o + j.val, by omega⟩ : Fin 3072)) (fun d => match d with
    | ⟨0, _⟩ => by show i.val = 0 + i.val; omega
    | ⟨1, _⟩ => by show s.val = 0 + s.val; omega
    | ⟨2, _⟩ => rfl)).trans (proj_apply x0 x1 x2 i s _)

/-- The batches' rows as one array. -/
theorem rows_apply (u : FVec Ideal S8x2048x512 .f32) (i : Fin 8) (s : Fin 2048) (j : Fin 512) :
    shapeCast S16384x512 u shapeCasts_S8x2048x512_S16384x512 (ix2 ⟨2048 * i.val + s.val, by omega⟩ j) = u (ix3 i s j) := by
  refine shapeCast_apply _ _ _ _ ?_
  rw [Shape.rowMajor_val_three, Shape.rowMajor_val_two]
  show (i.val * 2048 + s.val) * 512 + j.val = (2048 * i.val + s.val) * 512 + j.val
  omega

/-- Rows and lanes exchanged. -/
theorem cols_apply (u : FVec Ideal S8x2048x512 .f32) (b : Fin 8) (j : Fin 512) (s : Fin 2048) :
    transpose S8x512x2048 [0, 2, 1] u transposes_S8x2048x512_S8x512x2048_0_2_1 (ix3 b j s) = u (ix3 b s j) := by
  pointwise

end Cert.Proof.InProj.Ref
-- ==== Proof.InProj.Block.lean ====
/-
  The values of one grid point, entry by entry.
-/
module

public import proofs.«01_k».proof.Proof.Gen.InProjIdeal.Value
public import proofs.«01_k».proof.Proof.InProj.Spec
public import Idealize.ShloMosaic.Lib.Pointwise
public import Idealize.ShloMosaic.Lib.KernelVsHost

@[expose] public section

noncomputable section

namespace Cert.Proof.InProj

open Idealize.ShloMosaic Cert.InProjIdeal Cert.InProjIdeal.Gen

/-- The normalised rows. -/
theorem pay3_apply (x : Vec Ideal S512x1024 .f32) (g : Vec Ideal S1x1024 .f32) (r : Fin 512) (k : Fin 1024) :
    k0_pay3 x g (ix2 r k) = Mlp.normAt (fun k => x (ix2 r k)) (fun k => g (ix2 0 k)) k := by
  unfold k0_pay3 Mlp.normAt
  pointwise

/-- A block of the projection. -/
theorem pay22_apply (y : FVec Ideal S512x1024 .bf16) (w : Vec Ideal S1024x512 .bf16) (r j : Fin 512) :
    k0_pay22 y w (ix2 r j) = projAt (fun k => y (ix2 r k)) (fun k => w (ix2 k j)) := by
  unfold k0_pay22 projAt
  pointwise

/-- 128 lanes of a block turned by the tables. -/
def tile (u : FVec Ideal S512x512 .f32) (c a b : FVec Ideal S512x128 .f32) (o : Fin 2 → ℕ) (h : S512x512.Slices o S512x128) : FVec Ideal S512x128 .f32 :=
  addf (addf (mulf (extractStridedSlice S512x128 o u h) c)
    (mulf (dynamicRotate 1 120#32 none (extractStridedSlice S512x128 o u h) rotates_S512x128_d1) a))
    (mulf (dynamicRotate 1 8#32 none (extractStridedSlice S512x128 o u h) rotates_S512x128_d1) b)

/-- A lane of the tile that begins at lane `128 f`. -/
theorem tile_apply (u : FVec Ideal S512x512 .f32) (c a b : FVec Ideal S512x128 .f32) (f : Fin 4) (h) (r : Fin 512) (l : Fin 128) :
    tile u c a b ![0, 128 * f.val] h (ix2 r l) =
      u (ix2 r ⟨128 * f.val + l.val, by omega⟩) * c (ix2 r l)
        + u (ix2 r ⟨128 * f.val + (l.val + 8) % 128, by omega⟩) * a (ix2 r l)
        + u (ix2 r ⟨128 * f.val + (l.val + 120) % 128, by omega⟩) * b (ix2 r l) := by
  have s : ∀ l : Fin 128, extractStridedSlice S512x128 ![0, 128 * f.val] u h (ix2 r l) = u (ix2 r ⟨128 * f.val + l.val, by omega⟩) := fun l =>
    extractStridedSlice_apply _ _ h _ _ (fun d => match d with
      | ⟨0, _⟩ => by show r.val = 0 + r.val; omega
      | ⟨1, _⟩ => rfl)
  have t : ∀ (n : BitVec 32) (l' : Fin 128), (l.val + 128 - n.toNat % 128) % 128 = l'.val →
      dynamicRotate 1 n none (extractStridedSlice S512x128 ![0, 128 * f.val] u h) rotates_S512x128_d1 (ix2 r l) =
        u (ix2 r ⟨128 * f.val + l'.val, by omega⟩) := fun n l' e =>
    (dynamicRotate_apply (s := S512x128) (1 : Fin 2) n _ rotates_S512x128_d1 (ix2 r l) (ix2 r l') (fun d => match d with
      | ⟨0, _⟩ => rfl
      | ⟨1, _⟩ => e.symm)).trans (s l')
  show extractStridedSlice S512x128 ![0, 128 * f.val] u h (ix2 r l) * c (ix2 r l) + _ * a (ix2 r l) + _ * b (ix2 r l) = _
  rw [s l, t 120#32 ⟨(l.val + 8) % 128, by omega⟩ (by show (l.val + 128 - 120 % 128) % 128 = (l.val + 8) % 128; omega),
    t 8#32 ⟨(l.val + 120) % 128, by omega⟩ (by show (l.val + 128 - 8 % 128) % 128 = (l.val + 120) % 128; omega)]

/-- The offset of each tile's slice lies inside the block. -/
theorem slices_tile (f : Fin 4) : S512x512.Slices ![0, 128 * f.val] S512x128 :=
  match f with
  | ⟨0, _⟩ => slices_S512x512_o0_0_S512x128
  | ⟨1, _⟩ => slices_S512x512_o0_128_S512x128
  | ⟨2, _⟩ => slices_S512x512_o0_256_S512x128
  | ⟨3, _⟩ => slices_S512x512_o0_384_S512x128

/-- A turned block of the projection. -/
theorem pay24_apply (y : FVec Ideal S512x1024 .bf16) (w : Vec Ideal S1024x512 .bf16) (c a b : Vec Ideal S512x128 .f32) (r j : Fin 512) :
    k0_pay24 y w c a b (ix2 r j) =
      laneTurn (fun j => projAt (fun k => y (ix2 r k)) (fun k => w (ix2 k j))) (fun l => c (ix2 r l)) (fun l => a (ix2 r l))
        (fun l => b (ix2 r l)) j := by
  have id128 : ∀ v : Vec Ideal S512x128 .f32, shapeCast S512x128 v shapeCasts_S512x128_S512x128 = v := fun v => shapeCast_self v _
  have e : k0_pay24 y w c a b = concatenate S512x512 1 (List.ofFn fun f : Fin 4 =>
      (⟨S512x128, tile (k0_pay22 y w) (shapeCast S512x128 c shapeCasts_S512x128_S512x128) (shapeCast S512x128 a shapeCasts_S512x128_S512x128)
        (shapeCast S512x128 b shapeCasts_S512x128_S512x128) ![0, 128 * f.val] (slices_tile f)⟩ : (s : Shape) × (s.Idx → Elt Ideal .f32)))
      concatenates_S512x128_S512x128_S512x128_S512x128_S512x512_d1 := rfl
  rw [e]
  simp only [id128]
  refine (concatenate_ofFn_apply (t := S512x512) (s₁ := S512x128) 1 (fun f : Fin 4 => tile (k0_pay22 y w) c a b ![0, 128 * f.val] (slices_tile f)) _ rfl 128 rfl
    (ix2 r j) ⟨j.val / 128, by omega⟩ rfl (ix2 r ⟨j.val % 128, by omega⟩) rfl (fun d hd => match d with
      | ⟨0, _⟩ => rfl
      | ⟨1, _⟩ => absurd rfl hd)).trans ?_
  rw [tile_apply]
  simp only [pay22_apply]
  unfold laneTurn
  have e1 : (⟨128 * (j.val / 128) + j.val % 128, by omega⟩ : Fin 512) = j := Fin.ext (by show 128 * (j.val / 128) + j.val % 128 = j.val; omega)
  have e2 : (j.val % 128 + 8) % 128 = (j.val + 8) % 128 := by omega
  have e3 : (j.val % 128 + 120) % 128 = (j.val + 120) % 128 := by omega
  simp only [e1, e2, e3]

/-- The other turned blocks are the same operations. -/
theorem pay25_eq (y : FVec Ideal S512x1024 .bf16) (w : Vec Ideal S1024x512 .bf16) (c a b : Vec Ideal S512x128 .f32) :
    k0_pay25 y w c a b = k0_pay24 y w c a b := rfl

theorem pay20_eq (y : FVec Ideal S512x1024 .bf16) (w : Vec Ideal S1024x512 .bf16) (c a b : Vec Ideal S512x128 .f32) :
    k0_pay20 (k0_pay12 y w) (k0_pay13 c) (k0_pay14 a) (k0_pay15 b) (k0_pay16 y w c a b) (k0_pay17 y w) (k0_pay18 y w c) (k0_pay19 y w)
      = k0_pay24 y w c a b := rfl

theorem pay11_eq (x : Vec Ideal S512x1024 .f32) (g : Vec Ideal S1x1024 .f32) (w : Vec Ideal S1024x512 .bf16) (c a b : Vec Ideal S512x128 .f32) :
    k0_pay11 (k0_pay4 x g w) (k0_pay5 c) (k0_pay6 a) (k0_pay7 b) (k0_pay8 x g w c a b) (k0_pay9 x g w) (k0_pay10 x g w c a) 8#32
      = k0_pay24 (k0_pay3 x g) w c a b := rfl

theorem pay21_eq (y : FVec Ideal S512x1024 .bf16) (w : Vec Ideal S1024x512 .bf16) (c a b : Vec Ideal S512x128 .f32) :
    k0_pay21 (k0_pay12 y w) (k0_pay13 c) (k0_pay14 a) (k0_pay15 b) (k0_pay16 y w c a b) (k0_pay17 y w) (k0_pay18 y w c) (k0_pay19 y w)
      = k0_pay1 (k0_pay24 y w c a b) := rfl

theorem pay23_eq (y : FVec Ideal S512x1024 .bf16) (w : Vec Ideal S1024x512 .bf16) : k0_pay23 y w = k0_pay1 (k0_pay22 y w) := rfl

theorem pay2_eq (y : FVec Ideal S512x1024 .bf16) (w : Vec Ideal S1024x512 .bf16) : k0_pay2 y w = k0_pay22 y w := rfl

/-- A block with its rows and lanes exchanged. -/
theorem pay1_apply (u : FVec Ideal S512x512 .f32) (j r : Fin 512) : k0_pay1 u (ix3 0 j r) = u (ix2 r j) := by
  unfold k0_pay1
  pointwise

end Cert.Proof.InProj
-- ==== Proof.InProj.Out.lean ====
/-
  What a grid point stores in each of its nine blocks, from its six input blocks.
-/
module

public import proofs.«01_k».proof.Proof.InProj.Block
public import proofs.«01_k».proof.Proof.Gen.InProjIdeal.Value

@[expose] public section

noncomputable section

namespace Cert.Proof.InProj

open Idealize.ShloMosaic Cert.InProjIdeal Cert.InProjIdeal.Gen Cert.InProjIdeal.Value

/-- Loads of whole blocks. -/
theorem ld_rows {e : EltTy} (h : S512x1024.Idx → Elt Ideal e) : View.ld h r0_0 = h :=
  View.ld_unit_zero (by ext d; fin_cases d <;> rfl) _ h
theorem ld_gain {e : EltTy} (h : S1x1024.Idx → Elt Ideal e) : View.ld h r0_1 = h :=
  View.ld_unit_zero (by ext d; fin_cases d <;> rfl) _ h
theorem ld_table {e : EltTy} (h : S512x128.Idx → Elt Ideal e) : View.ld h r0_3 = h :=
  View.ld_unit_zero (by ext d; fin_cases d <;> rfl) _ h

/-- Stores of whole blocks. -/
theorem canon_rows {e : EltTy} (h : S512x512.Idx → Elt Ideal e) (l : List (View.Piece (Elt Ideal) S512x512 e)) :
    View.canon (⟨r0_4, h⟩ :: l) = h :=
  View.canon_cons_unit_zero (by ext d; fin_cases d <;> rfl) _ _ _
theorem canon_cols {e : EltTy} (h : S1x512x512.Idx → Elt Ideal e) (l : List (View.Piece (Elt Ideal) S1x512x512 e)) :
    View.canon (⟨r0_6, h⟩ :: l) = h :=
  View.canon_cons_unit_zero (by ext d; fin_cases d <;> rfl) _ _ _

variable (x : Vec Ideal S512x1024 .f32) (g : Vec Ideal S1x1024 .f32) (w : Vec Ideal S1024x3072 .bf16) (c a b : Vec Ideal S512x128 .f32)

theorem out6_eq : out0_6 x g w c a b = k0_pay24 (k0_pay3 x g) (View.ld w r0_2) c a b := by
  unfold_out out0_6
  rw [canon_rows, ld_rows, ld_gain, ld_table, ld_table, ld_table, pay11_eq]

theorem out7_eq : out0_7 x g w c a b = k0_pay24 (k0_pay3 x g) (View.ld w r0_5) c a b := by
  unfold_out out0_7
  rw [canon_rows, ld_rows, ld_gain, ld_table, ld_table, ld_table, pay20_eq]

theorem out8_eq : out0_8 x g w c a b = k0_pay22 (k0_pay3 x g) (View.ld w r0_7) := by
  unfold_out out0_8
  rw [canon_rows, ld_rows, ld_gain]

theorem out9_eq : out0_9 x g w c a b = k0_pay24 (k0_pay3 x g) (View.ld w r0_8) c a b := by
  unfold_out out0_9
  rw [canon_rows, ld_rows, ld_gain, ld_table, ld_table, ld_table]

theorem out10_eq : out0_10 x g w c a b = k0_pay24 (k0_pay3 x g) (View.ld w r0_9) c a b := by
  unfold_out out0_10
  rw [canon_rows, ld_rows, ld_gain, ld_table, ld_table, ld_table, pay25_eq]

theorem out11_eq : out0_11 x g w c a b = k0_pay22 (k0_pay3 x g) (View.ld w r0_10) := by
  unfold_out out0_11
  rw [canon_rows, ld_rows, ld_gain, pay2_eq]

theorem out12_eq : out0_12 x g w c a b = k0_pay1 (k0_pay24 (k0_pay3 x g) (View.ld w r0_5) c a b) := by
  unfold_out out0_12
  rw [canon_cols, ld_rows, ld_gain, ld_table, ld_table, ld_table, pay21_eq]

theorem out13_eq : out0_13 x g w c a b = k0_pay1 (k0_pay22 (k0_pay3 x g) (View.ld w r0_7)) := by
  unfold_out out0_13
  rw [canon_cols, ld_rows, ld_gain, pay23_eq]

theorem out14_eq : out0_14 x g w c a b = k0_pay1 (k0_pay24 (k0_pay3 x g) (View.ld w r0_9) c a b) := by
  unfold_out out0_14
  rw [canon_cols, ld_rows, ld_gain, ld_table, ld_table, ld_table, pay25_eq]

/-- A load of 512 columns of the weights. -/
theorem ld_columns (o : ℕ) (ho : o + 512 ≤ 3072) (h : ∀ d, (![0, o] : Fin 2 → ℕ) d + S1024x512.size d ≤ S1024x3072.size d) (k : Fin 1024) (j : Fin 512) :
    View.ld w (Rect.unit (s := S1024x3072) ![0, o] S1024x512.size h) (ix2 k j) = w (ix2 k ⟨o + j.val, by omega⟩) := by
  rw [View.ld_unit]
  exact extractStridedSlice_apply _ _ _ _ _ (fun d => match d with
    | ⟨0, _⟩ => by show k.val = 0 + k.val; omega
    | ⟨1, _⟩ => rfl)

/-- A row turned: its projection on 512 columns, through the tables' row. -/
theorem turned_block (o : ℕ) (ho : o + 512 ≤ 3072) (h : ∀ d, (![0, o] : Fin 2 → ℕ) d + S1024x512.size d ≤ S1024x3072.size d) (r j : Fin 512) :
    k0_pay24 (k0_pay3 x g) (View.ld w (Rect.unit (s := S1024x3072) ![0, o] S1024x512.size h)) c a b (ix2 r j) =
      laneTurn (fun j => projAt (Mlp.normAt (fun k => x (ix2 r k)) (fun k => g (ix2 0 k))) (fun k => w (ix2 k ⟨o + j.val, by omega⟩)))
        (fun l => c (ix2 r l)) (fun l => a (ix2 r l)) (fun l => b (ix2 r l)) j := by
  rw [pay24_apply]
  simp only [pay3_apply]
  congr 1
  funext j
  congr 1
  funext k
  exact ld_columns w o ho h k j

/-- The same without the turn. -/
theorem plain_block (o : ℕ) (ho : o + 512 ≤ 3072) (h : ∀ d, (![0, o] : Fin 2 → ℕ) d + S1024x512.size d ≤ S1024x3072.size d) (r j : Fin 512) :
    k0_pay22 (k0_pay3 x g) (View.ld w (Rect.unit (s := S1024x3072) ![0, o] S1024x512.size h)) (ix2 r j) =
      projAt (Mlp.normAt (fun k => x (ix2 r k)) (fun k => g (ix2 0 k))) (fun k => w (ix2 k ⟨o + j.val, by omega⟩)) := by
  rw [pay22_apply]
  simp only [pay3_apply]
  congr 1
  funext k
  exact ld_columns w o ho h k j

end Cert.Proof.InProj
-- ==== Proof.InProj.Tables.lean ====
/-
  The three tables the kernel turns the heads by: rows for the 2048 positions, 128 lanes for two heads.
-/
module

public import proofs.«01_k».proof.Proof.Gen.InProjIdeal.Value
public import proofs.«01_k».proof.Proof.InProj.Spec
public import Idealize.ShloMosaic.Lib.Pointwise

@[expose] public section

noncomputable section

namespace Cert.Proof.InProj

open Idealize.ShloMosaic Idealize.ShloMosaic.TcCoe Cert.InProjIdeal Cert.InProjIdeal.Gen Cert.InProjIdeal.Value

/-- The angles. -/
def angles : FVec Ideal S2048x8 .f32 :=
  mulf (broadcastInDim S2048x8 ![0, 1] bcast_S2048x1_S2048x8_0_1
      (broadcastInDim S2048x1 ![0] bcast_S2048_S2048x1_0 (sitofp (F := Ideal) .f32 (iotaInDim S2048 32 0))))
    (broadcastInDim S2048x8 ![0, 1] bcast_S1x8_S2048x8_0_1 (broadcastInDim S1x8 ![1] bcast_S8_S1x8_1
      (Host.exp (mulf (mulf (broadcastInDim S8 ![] bcast_S_S8 (constant (F := Ideal) S_ .f32 0xC151F533#32)) (sitofp (F := Ideal) .f32 (iotaInDim S8 32 0)))
        (broadcastInDim S8 ![] bcast_S_S8 (constant (F := Ideal) S_ .f32 0x3E000000#32))))))

def zeros : FVec Ideal S2048x8 .f32 := broadcastInDim S2048x8 ![] bcast_S_S2048x8 (constant (F := Ideal) S_ .f32 0x00000000#32)
def zeros48 : FVec Ideal S2048x48 .f32 := broadcastInDim S2048x48 ![] bcast_S_S2048x48 (constant (F := Ideal) S_ .f32 0x00000000#32)
def ones48 : FVec Ideal S2048x48 .f32 :=
  addf zeros48 (broadcastInDim S2048x48 ![] bcast_S_S2048x48 (constant (F := Ideal) S_ .f32 0x3F800000#32))

/-- One head's 64 lanes beside each other, from 8, 8 and 48. -/
def lanes (p q : FVec Ideal S2048x8 .f32) (o : FVec Ideal S2048x48 .f32) : FVec Ideal S2048x64 .f32 :=
  concatenate S2048x64 1 [⟨S2048x8, p⟩, ⟨S2048x8, q⟩, ⟨S2048x48, o⟩] concatenates_S2048x8_S2048x8_S2048x48_S2048x64_d1

/-- The same lanes for two heads. -/
def twice (v : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 v shapeCasts_S2048x64_S1x2048x1x64)) shapeCasts_S1x2048x2x64_S2048x128

def cosTable : FVec Ideal S2048x128 .f32 := twice (lanes (Host.cos angles) (Host.cos angles) ones48)
def upTable : FVec Ideal S2048x128 .f32 := twice (lanes (Host.negf (Host.sin angles)) zeros zeros48)
def downTable : FVec Ideal S2048x128 .f32 := twice (lanes zeros (Host.sin angles) zeros48)

section
variable (m : (ℓ : Loc nD τ sig) → Buf (Elt Ideal) ℓ) (c : Dev nD)

theorem V_main_v28 : V m c main_v28 = cosTable := by
  show StableHlo.after hostOps0 _ (Proc.devRef .tc main_v28) = _
  after_results
  rfl

theorem V_main_v31 : V m c main_v31 = upTable := by
  show StableHlo.after hostOps0 _ (Proc.devRef .tc main_v31) = _
  after_results
  rfl

theorem V_main_v34 : V m c main_v34 = downTable := by
  show StableHlo.after hostOps0 _ (Proc.devRef .tc main_v34) = _
  after_results
  rfl
end

theorem angles_apply (s : Fin 2048) (k : Fin 8) : angles (ix2 s k) = angAt s k := by
  unfold angles angAt
  pointwise

theorem cos_apply (s : Fin 2048) (k : Fin 8) : Host.cos angles (ix2 s k) = cosAt s k := by
  unfold cosAt
  pointwise [angles_apply]

theorem sin_apply (s : Fin 2048) (k : Fin 8) : Host.sin angles (ix2 s k) = sinAt s k := by
  unfold sinAt
  pointwise [angles_apply]

theorem neg_sin_apply (s : Fin 2048) (k : Fin 8) : Host.negf (Host.sin angles) (ix2 s k) = -sinAt s k := by
  show -(Host.sin angles (ix2 s k)) = _
  rw [sin_apply]

theorem zeros_apply (s : Fin 2048) (k : Fin 8) : zeros (ix2 s k) = 0 := by
  unfold zeros
  pointwise

theorem zeros48_apply (s : Fin 2048) (k : Fin 48) : zeros48 (ix2 s k) = 0 := by
  unfold zeros48
  pointwise

theorem ones48_apply (s : Fin 2048) (k : Fin 48) : ones48 (ix2 s k) = 1 := by
  show zeros48 (ix2 s k) + broadcastInDim S2048x48 ![] bcast_S_S2048x48 (constant (F := Ideal) S_ .f32 0x3F800000#32) (ix2 s k) = 1
  rw [zeros48_apply]
  pointwise

theorem twice_apply (v : FVec Ideal S2048x64 .f32) (s : Fin 2048) (l : Fin 128) :
    twice v (ix2 s l) = v (ix2 s ⟨l.val % 64, by omega⟩) := by
  unfold twice
  refine (shapeCast_apply _ _ (ix2 s l) (ix4 0 s (⟨l.val / 64, by omega⟩ : Fin 2) (⟨l.val % 64, by omega⟩ : Fin 64)) (by
    rw [Shape.rowMajor_val_two, Shape.rowMajor_val_four]
    show ((0 * 2048 + s.val) * 2 + l.val / 64) * 64 + l.val % 64 = s.val * 128 + l.val
    omega)).trans ?_
  refine Eq.trans ?_ (shapeCast_apply v shapeCasts_S2048x64_S1x2048x1x64 (ix4 0 s 0 (⟨l.val % 64, by omega⟩ : Fin 64)) (ix2 s ⟨l.val % 64, by omega⟩) (by
    rw [Shape.rowMajor_val_two, Shape.rowMajor_val_four]
    show s.val * 64 + l.val % 64 = ((0 * 2048 + s.val) * 1 + 0) * 64 + l.val % 64
    omega))
  pointwise

/-- The three parts of a head's lanes. -/
theorem lanes_apply (p q : FVec Ideal S2048x8 .f32) (o : FVec Ideal S2048x48 .f32) (s : Fin 2048) (l : Fin 64) :
    lanes p q o (ix2 s l) =
      if h : l.val < 8 then p (ix2 s ⟨l.val, h⟩)
      else if h' : l.val < 16 then q (ix2 s ⟨l.val - 8, by omega⟩) else o (ix2 s ⟨l.val - 16, by omega⟩) := by
  have off : ∀ {n : ℕ} (k : Fin n) (b : Fin 2), b ≠ 1 → (ix2 s k b).val = (ix2 s l b).val := fun k b hb => match b with
    | ⟨0, _⟩ => rfl
    | ⟨1, _⟩ => absurd rfl hb
  unfold lanes
  by_cases h : l.val < 8
  · rw [dif_pos h]
    exact concatenate_apply_piece (t := S2048x64) 1 _ _ _ 0 (by show 0 < 3; omega) S2048x8 _ rfl rfl 0 rfl
      (ix2 s (⟨l.val, h⟩ : Fin 8)) (off _) (by show 0 + l.val = l.val; omega)
  · rw [dif_neg h]
    by_cases h' : l.val < 16
    · rw [dif_pos h']
      exact concatenate_apply_piece (t := S2048x64) 1 _ _ _ 1 (by show 1 < 3; omega) S2048x8 _ rfl rfl 8 rfl
        (ix2 s (⟨l.val - 8, by omega⟩ : Fin 8)) (off _) (by show 8 + (l.val - 8) = l.val; omega)
    · rw [dif_neg h']
      exact concatenate_apply_piece (t := S2048x64) 1 _ _ _ 2 (by show 2 < 3; omega) S2048x48 _ rfl rfl 16 rfl
        (ix2 s (⟨l.val - 16, by omega⟩ : Fin 48)) (off _) (by show 16 + (l.val - 16) = l.val; omega)

theorem cosTable_apply (s : Fin 2048) (l : Fin 128) : cosTable (ix2 s l) = cosLane (cosAt s) l := by
  unfold cosTable cosLane
  rw [twice_apply, lanes_apply]
  simp only [cos_apply, ones48_apply]

theorem upTable_apply (s : Fin 2048) (l : Fin 128) : upTable (ix2 s l) = upLane (sinAt s) l := by
  unfold upTable upLane
  rw [twice_apply, lanes_apply]
  simp only [neg_sin_apply, zeros_apply, zeros48_apply, dite_eq_ite, ite_self]

theorem downTable_apply (s : Fin 2048) (l : Fin 128) : downTable (ix2 s l) = downLane (sinAt s) l := by
  unfold downTable downLane
  rw [twice_apply, lanes_apply]
  by_cases h : l.val % 64 < 8
  · simp only [dif_pos h, if_pos h, zeros_apply]
  · simp only [dif_neg h, if_neg h, sin_apply, zeros48_apply]

end Cert.Proof.InProj
-- ==== Proof.InProj.Windows.lean ====
/-
  What each window's block holds at a grid point, as entries of the argument arrays.

  At point `t` the rows' window holds the positions `512 (t % 4) …` of batch entry `t / 4`; the three tables' windows hold those
  positions' rows; the gain's and the weights' windows hold their whole array.
-/
module

public import proofs.«01_k».proof.Proof.InProj.Tables

@[expose] public section

noncomputable section

namespace Cert.Proof.InProj

open Idealize.ShloMosaic Idealize.ShloMosaic.TcCoe Cert.InProjIdeal Cert.InProjIdeal.Gen Cert.InProjIdeal.Value

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem V_main_v0 : V m c main_v0 = shapeCast S16384x1024 (arg m c main_arg0) shapeCasts_S8x2048x1024_S16384x1024 := by
  show StableHlo.after hostOps0 _ (Proc.devRef .tc main_v0) = _
  after_results
  rfl

theorem V_main_v1 : V m c main_v1 = truncf (F := Ideal) (φ := .f32) .bf16 (arg m c main_arg2) bitsLt_bf16_f32 := by
  show StableHlo.after hostOps0 _ (Proc.devRef .tc main_v1) = _
  after_results

theorem V_main_v35 : V m c main_v35 = shapeCast S1x1024 (arg m c main_arg1) shapeCasts_S1024_S1x1024 := by
  show StableHlo.after hostOps0 _ (Proc.devRef .tc main_v35) = _
  after_results
  rfl

/-- The grid has 32 points. -/
theorem point_lt (t : Fin cfg0.N) : t.val < 32 := lt_of_lt_of_eq t.isLt N_0

/-- The batch entry of a point, and the position of its row `r`. -/
def entry (t : Fin cfg0.N) : Fin 8 := ⟨t.val / 4, by have := point_lt t; omega⟩
def position (t : Fin cfg0.N) (r : Fin 512) : Fin 2048 := ⟨512 * (t.val % 4) + r.val, by omega⟩

theorem index0 : ∀ t : Fin cfg0.N, win0_0.index t (0 : Fin 2) = t.val ∧ win0_0.index t (1 : Fin 2) = 0 :=
  (by decide +kernel : ∀ t : Fin grid0.N, _)
theorem index1 : ∀ (t : Fin cfg0.N) (a : Fin 2), win0_1.index t a = 0 :=
  (by decide +kernel : ∀ (t : Fin grid0.N) (a : Fin 2), _)
theorem index2 : ∀ (t : Fin cfg0.N) (a : Fin 2), win0_2.index t a = 0 :=
  (by decide +kernel : ∀ (t : Fin grid0.N) (a : Fin 2), _)
theorem index3 : ∀ t : Fin cfg0.N, win0_3.index t (0 : Fin 2) = t.val % 4 ∧ win0_3.index t (1 : Fin 2) = 0 :=
  (by decide +kernel : ∀ t : Fin grid0.N, _)
theorem index4 : ∀ t : Fin cfg0.N, win0_4.index t (0 : Fin 2) = t.val % 4 ∧ win0_4.index t (1 : Fin 2) = 0 :=
  (by decide +kernel : ∀ t : Fin grid0.N, _)
theorem index5 : ∀ t : Fin cfg0.N, win0_5.index t (0 : Fin 2) = t.val % 4 ∧ win0_5.index t (1 : Fin 2) = 0 :=
  (by decide +kernel : ∀ t : Fin grid0.N, _)

/-- The batch entries' rows as one array. -/
theorem flat_apply (x : Vec Ideal S8x2048x1024 .f32) (t : Fin cfg0.N) (r : Fin 512) (k : Fin 1024) :
    shapeCast S16384x1024 x shapeCasts_S8x2048x1024_S16384x1024 (ix2 ⟨512 * t.val + r.val, by have := point_lt t; omega⟩ k) =
      x (ix3 (entry t) (position t r) k) := by
  refine shapeCast_apply _ _ _ _ ?_
  rw [Shape.rowMajor_val_three, Shape.rowMajor_val_two]
  show (t.val / 4 * 2048 + (512 * (t.val % 4) + r.val)) * 1024 + k.val = (512 * t.val + r.val) * 1024 + k.val
  omega

/-- The rows. -/
theorem block0_apply (t : Fin cfg0.N) (r : Fin 512) (k : Fin 1024) :
    (iblk m c 0 t : Vec Ideal S512x1024 .f32) (ix2 r k) = (arg m c main_arg0 : Vec Ideal S8x2048x1024 .f32) (ix3 (entry t) (position t r) k) := by
  obtain ⟨i0, i1⟩ := index0 t
  unfold iblk
  rw [View.read_apply]
  refine Eq.trans ?_ ((congrFun (V_main_v0 m c) (ix2 ⟨512 * t.val + r.val, by have := point_lt t; omega⟩ k)).trans (flat_apply _ t r k))
  show V m c main_v0 _ = V m c main_v0 _
  congr 1
  funext a
  apply Fin.ext
  match a with
  | ⟨0, _⟩ => show win0_0.index t 0 * 512 + 1 * r.val = 512 * t.val + r.val; rw [i0]; omega
  | ⟨1, _⟩ => show win0_0.index t 1 * 1024 + 1 * k.val = k.val; rw [i1]; omega

/-- The gain. -/
theorem block1_apply (t : Fin cfg0.N) (k : Fin 1024) :
    (iblk m c 1 t : Vec Ideal S1x1024 .f32) (ix2 0 k) = (arg m c main_arg1 : Vec Ideal S1024 .f32) (ix1 k) := by
  have hz : (fun a => win0_1.index t a * main_v35.ty.shape.size a) = fun _ => 0 := funext fun a => by
    rw [index1 t a, Nat.zero_mul]
  have e : (iblk m c 1 t : Vec Ideal S1x1024 .f32) = V m c main_v35 :=
    Memref.read_access_unit_zero (Elt Ideal) main_v35 hz (fun a => by rw [congrFun hz a]; simp) (V m c main_v35)
  rw [e, V_main_v35]
  pointwise

/-- The weights. -/
theorem block2_apply (t : Fin cfg0.N) (k : Fin 1024) (j : Fin 3072) :
    (iblk m c 2 t : Vec Ideal S1024x3072 .bf16) (ix2 k j) = (arg m c main_arg2 : Vec Ideal S1024x3072 .f32) (ix2 k j) := by
  have hz : (fun a => win0_2.index t a * main_v1.ty.shape.size a) = fun _ => 0 := funext fun a => by
    rw [index2 t a, Nat.zero_mul]
  have e : (iblk m c 2 t : Vec Ideal S1024x3072 .bf16) = V m c main_v1 :=
    Memref.read_access_unit_zero (Elt Ideal) main_v1 hz (fun a => by rw [congrFun hz a]; simp) (V m c main_v1)
  rw [e, V_main_v1]
  rfl

/-- The three tables. -/
theorem block3_apply (t : Fin cfg0.N) (r : Fin 512) (l : Fin 128) :
    (iblk m c 3 t : Vec Ideal S512x128 .f32) (ix2 r l) = cosLane (cosAt (position t r)) l := by
  obtain ⟨i0, i1⟩ := index3 t
  unfold iblk
  rw [View.read_apply, ← cosTable_apply]
  refine Eq.trans ?_ (congrFun (V_main_v28 m c) (ix2 (position t r) l))
  show V m c main_v28 _ = V m c main_v28 _
  congr 1
  funext a
  apply Fin.ext
  match a with
  | ⟨0, _⟩ => show win0_3.index t 0 * 512 + 1 * r.val = 512 * (t.val % 4) + r.val; rw [i0]; omega
  | ⟨1, _⟩ => show win0_3.index t 1 * 128 + 1 * l.val = l.val; rw [i1]; omega

theorem block4_apply (t : Fin cfg0.N) (r : Fin 512) (l : Fin 128) :
    (iblk m c 4 t : Vec Ideal S512x128 .f32) (ix2 r l) = upLane (sinAt (position t r)) l := by
  obtain ⟨i0, i1⟩ := index4 t
  unfold iblk
  rw [View.read_apply, ← upTable_apply]
  refine Eq.trans ?_ (congrFun (V_main_v31 m c) (ix2 (position t r) l))
  show V m c main_v31 _ = V m c main_v31 _
  congr 1
  funext a
  apply Fin.ext
  match a with
  | ⟨0, _⟩ => show win0_4.index t 0 * 512 + 1 * r.val = 512 * (t.val % 4) + r.val; rw [i0]; omega
  | ⟨1, _⟩ => show win0_4.index t 1 * 128 + 1 * l.val = l.val; rw [i1]; omega

theorem block5_apply (t : Fin cfg0.N) (r : Fin 512) (l : Fin 128) :
    (iblk m c 5 t : Vec Ideal S512x128 .f32) (ix2 r l) = downLane (sinAt (position t r)) l := by
  obtain ⟨i0, i1⟩ := index5 t
  unfold iblk
  rw [View.read_apply, ← downTable_apply]
  refine Eq.trans ?_ (congrFun (V_main_v34 m c) (ix2 (position t r) l))
  show V m c main_v34 _ = V m c main_v34 _
  congr 1
  funext a
  apply Fin.ext
  match a with
  | ⟨0, _⟩ => show win0_5.index t 0 * 512 + 1 * r.val = 512 * (t.val % 4) + r.val; rw [i0]; omega
  | ⟨1, _⟩ => show win0_5.index t 1 * 128 + 1 * l.val = l.val; rw [i1]; omega

end Cert.Proof.InProj
-- ==== Proof.InProj.Arrays.lean ====
/-
  The nine arrays the input projection leaves, entry by entry.
-/
module

public import proofs.«01_k».proof.Proof.InProj.Out
public import proofs.«01_k».proof.Proof.InProj.Windows

@[expose] public section

noncomputable section

namespace Cert.Proof.InProj

open Idealize.ShloMosaic Idealize.ShloMosaic.TcCoe Cert.InProjIdeal Cert.InProjIdeal.Gen Cert.InProjIdeal.Value

/-- The row of batch entry `i` at position `s` on the columns from `o`. -/
def rowAt (x : Vec Ideal S8x2048x1024 .f32) (g : Vec Ideal S1024 .f32) (w : Vec Ideal S1024x3072 .f32) (o : ℕ) (ho : o + 512 ≤ 3072)
    (i : Fin 8) (s : Fin 2048) (j : Fin 512) : EReal :=
  projAt (Mlp.normAt (fun k => x (ix3 i s k)) (fun k => g (ix1 k))) (fun k => w (ix2 k ⟨o + j.val, by omega⟩))

variable (m : (ℓ : Loc nD τ sig) → Buf (Elt Ideal) ℓ) (c : Dev nD)

/-- The row, of the arguments as launched. -/
abbrev row (o : ℕ) (ho : o + 512 ≤ 3072) (i : Fin 8) (s : Fin 2048) : Fin 512 → EReal :=
  rowAt (arg m c main_arg0) (arg m c main_arg1) (arg m c main_arg2) o ho i s

/-- What a point stores, without the turn … -/
theorem plain_point (o : ℕ) (ho : o + 512 ≤ 3072) (h) (t : Fin cfg0.N) (r j : Fin 512) :
    k0_pay22 (k0_pay3 (iblk m c 0 t) (iblk m c 1 t)) (View.ld (iblk m c 2 t) (Rect.unit (s := S1024x3072) ![0, o] S1024x512.size h)) (ix2 r j) =
      row m c o ho (entry t) (position t r) j := by
  rw [plain_block _ _ _ o ho h]
  simp only [block0_apply, block1_apply, block2_apply]
  rfl

/-- … and with it. -/
theorem turned_point (o : ℕ) (ho : o + 512 ≤ 3072) (h) (t : Fin cfg0.N) (r j : Fin 512) :
    k0_pay24 (k0_pay3 (iblk m c 0 t) (iblk m c 1 t)) (View.ld (iblk m c 2 t) (Rect.unit (s := S1024x3072) ![0, o] S1024x512.size h))
        (iblk m c 3 t) (iblk m c 4 t) (iblk m c 5 t) (ix2 r j) =
      turnAt (row m c o ho (entry t) (position t r)) (cosAt (position t r)) (sinAt (position t r)) j := by
  rw [turned_block _ _ _ _ _ _ o ho h]
  simp only [block0_apply, block1_apply, block2_apply, block3_apply, block4_apply, block5_apply]
  exact laneTurn_eq _ _ _ _

/-- The point holding a row, and the row within its block. -/
def pointOf (i : Fin 8) (s : Fin 2048) : Fin cfg0.N := ⟨4 * i.val + s.val / 512, lt_of_lt_of_eq (by omega) N_0.symm⟩
def within (s : Fin 2048) : Fin 512 := ⟨s.val % 512, by omega⟩

theorem entry_pointOf (i : Fin 8) (s : Fin 2048) : entry (pointOf i s) = i :=
  Fin.ext (by show (4 * i.val + s.val / 512) / 4 = i.val; omega)
theorem position_pointOf (i : Fin 8) (s : Fin 2048) : position (pointOf i s) (within s) = s :=
  Fin.ext (by show 512 * ((4 * i.val + s.val / 512) % 4) + s.val % 512 = s.val; omega)

/-- The row's number among all. -/
def flat (i : Fin 8) (s : Fin 2048) : Fin 16384 := ⟨2048 * i.val + s.val, by omega⟩

/-- Every point writes its nine blocks. -/
theorem flushes : ∀ (w : Fin 15) (t : Fin cfg0.N), 6 ≤ w.val → (cfg0.win w).flush t = true :=
  (by decide +kernel : ∀ (w : Fin 15) (t : Fin grid0.N), 6 ≤ w.val → _)

theorem plain_here (o : ℕ) (ho : o + 512 ≤ 3072) (h) (i : Fin 8) (s : Fin 2048) (j : Fin 512) :
    k0_pay22 (k0_pay3 (iblk m c 0 (pointOf i s)) (iblk m c 1 (pointOf i s)))
        (View.ld (iblk m c 2 (pointOf i s)) (Rect.unit (s := S1024x3072) ![0, o] S1024x512.size h)) (ix2 (within s) j) =
      row m c o ho i s j := by
  rw [plain_point m c o ho h, entry_pointOf, position_pointOf]

theorem turned_here (o : ℕ) (ho : o + 512 ≤ 3072) (h) (i : Fin 8) (s : Fin 2048) (j : Fin 512) :
    k0_pay24 (k0_pay3 (iblk m c 0 (pointOf i s)) (iblk m c 1 (pointOf i s)))
        (View.ld (iblk m c 2 (pointOf i s)) (Rect.unit (s := S1024x3072) ![0, o] S1024x512.size h))
        (iblk m c 3 (pointOf i s)) (iblk m c 4 (pointOf i s)) (iblk m c 5 (pointOf i s)) (ix2 (within s) j) =
      turnAt (row m c o ho i s) (cosAt s) (sinAt s) j := by
  rw [turned_point m c o ho h, entry_pointOf, position_pointOf]

/-! ## The six arrays of rows -/

theorem index6 : ∀ t : Fin cfg0.N, win0_6.index t (0 : Fin 2) = t.val ∧ win0_6.index t (1 : Fin 2) = 0 :=
  (by decide +kernel : ∀ t : Fin grid0.N, _)

/-- An entry's place: in the block of its point, at its row there. -/
theorem rows_of (A : Vec Ideal S16384x512 .f32) (q : S16384x512.Idx) (i : Fin 8) (s : Fin 2048) (j : Fin 512)
    (h0 : (q 0).val = win0_6.index (pointOf i s) (0 : Fin 2) * 512 + 1 * (within s).val)
    (h1 : (q 1).val = win0_6.index (pointOf i s) (1 : Fin 2) * 512 + 1 * j.val) : A (ix2 (flat i s) j) = A q := by
  rw [(index6 _).1] at h0
  rw [(index6 _).2] at h1
  congr 1
  funext a
  apply Fin.ext
  match a with
  | ⟨0, _⟩ =>
    refine Eq.trans ?_ h0.symm
    show 2048 * i.val + s.val = (4 * i.val + s.val / 512) * 512 + 1 * (s.val % 512)
    omega
  | ⟨1, _⟩ =>
    refine Eq.trans ?_ h1.symm
    show j.val = 0 * 512 + 1 * j.val
    omega

section
variable (i : Fin 8) (s : Fin 2048) (j : Fin 512)

theorem array6 : ((dats m 0 c).arrAt 6 cfg0.N : Vec Ideal S16384x512 .f32) (ix2 (flat i s) j) =
    turnAt (row m c 0 (by omega) i s) (cosAt s) (sinAt s) j := by
  have e := congrFun ((blocks6 m c (pointOf i s) (flushes 6 _ (by decide))).trans (flushed6 m c (pointOf i s))) (ix2 (within s) j)
  rw [View.read_apply, out6_eq] at e
  exact (rows_of _ _ i s j rfl rfl).trans (e.trans (turned_here m c 0 _ _ i s j))

theorem array7 : ((dats m 0 c).arrAt 7 cfg0.N : Vec Ideal S16384x512 .f32) (ix2 (flat i s) j) =
    turnAt (row m c 512 (by omega) i s) (cosAt s) (sinAt s) j := by
  have e := congrFun ((blocks7 m c (pointOf i s) (flushes 7 _ (by decide))).trans (flushed7 m c (pointOf i s))) (ix2 (within s) j)
  rw [View.read_apply, out7_eq] at e
  exact (rows_of _ _ i s j rfl rfl).trans (e.trans (turned_here m c 512 _ _ i s j))

theorem array8 : ((dats m 0 c).arrAt 8 cfg0.N : Vec Ideal S16384x512 .f32) (ix2 (flat i s) j) =
    row m c 1024 (by omega) i s j := by
  have e := congrFun ((blocks8 m c (pointOf i s) (flushes 8 _ (by decide))).trans (flushed8 m c (pointOf i s))) (ix2 (within s) j)
  rw [View.read_apply, out8_eq] at e
  exact (rows_of _ _ i s j rfl rfl).trans (e.trans (plain_here m c 1024 _ _ i s j))

theorem array9 : ((dats m 0 c).arrAt 9 cfg0.N : Vec Ideal S16384x512 .f32) (ix2 (flat i s) j) =
    turnAt (row m c 1536 (by omega) i s) (cosAt s) (sinAt s) j := by
  have e := congrFun ((blocks9 m c (pointOf i s) (flushes 9 _ (by decide))).trans (flushed9 m c (pointOf i s))) (ix2 (within s) j)
  rw [View.read_apply, out9_eq] at e
  exact (rows_of _ _ i s j rfl rfl).trans (e.trans (turned_here m c 1536 _ _ i s j))

theorem array10 : ((dats m 0 c).arrAt 10 cfg0.N : Vec Ideal S16384x512 .f32) (ix2 (flat i s) j) =
    turnAt (row m c 2048 (by omega) i s) (cosAt s) (sinAt s) j := by
  have e := congrFun ((blocks10 m c (pointOf i s) (flushes 10 _ (by decide))).trans (flushed10 m c (pointOf i s))) (ix2 (within s) j)
  rw [View.read_apply, out10_eq] at e
  exact (rows_of _ _ i s j rfl rfl).trans (e.trans (turned_here m c 2048 _ _ i s j))

theorem array11 : ((dats m 0 c).arrAt 11 cfg0.N : Vec Ideal S16384x512 .f32) (ix2 (flat i s) j) =
    row m c 2560 (by omega) i s j := by
  have e := congrFun ((blocks11 m c (pointOf i s) (flushes 11 _ (by decide))).trans (flushed11 m c (pointOf i s))) (ix2 (within s) j)
  rw [View.read_apply, out11_eq] at e
  exact (rows_of _ _ i s j rfl rfl).trans (e.trans (plain_here m c 2560 _ _ i s j))

end

/-! ## The three arrays with rows and lanes exchanged -/

theorem index12 : ∀ t : Fin cfg0.N, win0_12.index t (0 : Fin 3) = t.val / 4 ∧ win0_12.index t (1 : Fin 3) = 0 ∧ win0_12.index t (2 : Fin 3) = t.val % 4 :=
  (by decide +kernel : ∀ t : Fin grid0.N, _)

theorem cols_of (A : Vec Ideal S8x512x2048 .f32) (q : S8x512x2048.Idx) (i : Fin 8) (j : Fin 512) (s : Fin 2048)
    (h0 : (q 0).val = win0_12.index (pointOf i s) (0 : Fin 3) * 1 + 1 * 0)
    (h1 : (q 1).val = win0_12.index (pointOf i s) (1 : Fin 3) * 512 + 1 * j.val)
    (h2 : (q 2).val = win0_12.index (pointOf i s) (2 : Fin 3) * 512 + 1 * (within s).val) : A (ix3 i j s) = A q := by
  rw [(index12 _).1] at h0
  rw [(index12 _).2.1] at h1
  rw [(index12 _).2.2] at h2
  congr 1
  funext a
  apply Fin.ext
  match a with
  | ⟨0, _⟩ =>
    refine Eq.trans ?_ h0.symm
    show i.val = (4 * i.val + s.val / 512) / 4 * 1 + 1 * 0
    omega
  | ⟨1, _⟩ =>
    refine Eq.trans ?_ h1.symm
    show j.val = 0 * 512 + 1 * j.val
    omega
  | ⟨2, _⟩ =>
    refine Eq.trans ?_ h2.symm
    show s.val = (4 * i.val + s.val / 512) % 4 * 512 + 1 * (s.val % 512)
    omega

section
variable (i : Fin 8) (j : Fin 512) (s : Fin 2048)

theorem array12 : ((dats m 0 c).arrAt 12 cfg0.N : Vec Ideal S8x512x2048 .f32) (ix3 i j s) =
    turnAt (row m c 512 (by omega) i s) (cosAt s) (sinAt s) j := by
  have e := congrFun ((blocks12 m c (pointOf i s) (flushes 12 _ (by decide))).trans (flushed12 m c (pointOf i s))) (ix3 0 j (within s))
  rw [View.read_apply, out12_eq] at e
  exact (cols_of _ _ i j s rfl rfl rfl).trans (e.trans ((pay1_apply _ _ _).trans (turned_here m c 512 _ _ i s j)))

theorem array13 : ((dats m 0 c).arrAt 13 cfg0.N : Vec Ideal S8x512x2048 .f32) (ix3 i j s) =
    row m c 1024 (by omega) i s j := by
  have e := congrFun ((blocks13 m c (pointOf i s) (flushes 13 _ (by decide))).trans (flushed13 m c (pointOf i s))) (ix3 0 j (within s))
  rw [View.read_apply, out13_eq] at e
  exact (cols_of _ _ i j s rfl rfl rfl).trans (e.trans ((pay1_apply _ _ _).trans (plain_here m c 1024 _ _ i s j)))

theorem array14 : ((dats m 0 c).arrAt 14 cfg0.N : Vec Ideal S8x512x2048 .f32) (ix3 i j s) =
    turnAt (row m c 2048 (by omega) i s) (cosAt s) (sinAt s) j := by
  have e := congrFun ((blocks14 m c (pointOf i s) (flushes 14 _ (by decide))).trans (flushed14 m c (pointOf i s))) (ix3 0 j (within s))
  rw [View.read_apply, out14_eq] at e
  exact (cols_of _ _ i j s rfl rfl rfl).trans (e.trans ((pay1_apply _ _ _).trans (turned_here m c 2048 _ _ i s j)))

end

end Cert.Proof.InProj
-- ==== Proof.InProj.Equation.lean ====
/-
  The two sides of the input projection: entry by entry the same nine arrays.
-/
module

public import proofs.«01_k».proof.Proof.InProj.Ref
public import proofs.«01_k».proof.Proof.InProj.Arrays

@[expose] public section

noncomputable section

namespace Cert.Proof.InProj

open Idealize.ShloMosaic

/-- Two arrays of rows that agree on every position of every batch entry. -/
theorem rows_ext (A B : Vec Ideal InProjIdeal.S16384x512 .f32) (h : ∀ i s j, A (ix2 (flat i s) j) = B (ix2 (flat i s) j)) : A = B := by
  funext q
  have hq : q = ix2 (flat ⟨(q 0).val / 2048, Nat.div_lt_of_lt_mul (q 0).isLt⟩ ⟨(q 0).val % 2048, Nat.mod_lt _ (by omega)⟩) (q 1) :=
    funext fun a => match a with
      | ⟨0, _⟩ => Fin.ext (Nat.div_add_mod _ 2048).symm
      | ⟨1, _⟩ => rfl
  rw [hq]
  exact h _ _ _

theorem cols_ext (A B : Vec Ideal InProjIdeal.S8x512x2048 .f32) (h : ∀ i j s, A (ix3 i j s) = B (ix3 i j s)) : A = B := by
  funext q
  have hq : q = ix3 (q 0) (q 1) (q 2) := funext fun a => match a with
    | ⟨0, _⟩ => rfl
    | ⟨1, _⟩ => rfl
    | ⟨2, _⟩ => rfl
  rw [hq]
  exact h _ _ _

section
variable (x : Vec Ideal InProjReferenceIdeal.S8x2048x1024 .f32) (g : Vec Ideal InProjReferenceIdeal.S1024 .f32)
  (w : Vec Ideal InProjReferenceIdeal.S1024x3072 .f32) (o : ℕ) (ho : o + 512 ≤ 3072)
  (h : InProjReferenceIdeal.S8x2048x3072.Slices ![0, 0, o] InProjReferenceIdeal.S8x2048x512) (i : Fin 8) (s : Fin 2048) (j : Fin 512)

/-- The reference's block of columns, plain … -/
theorem ref_plain : extractStridedSlice InProjReferenceIdeal.S8x2048x512 ![0, 0, o] (InProjReferenceIdeal.Read.val_main_v13 (F := Ideal) x g w) h (ix3 i s j) =
    rowAt x g w o ho i s j := Ref.cut_apply x g w o ho h i s j

/-- … and turned. -/
theorem ref_turned : Ref.turned (extractStridedSlice InProjReferenceIdeal.S8x2048x512 ![0, 0, o] (InProjReferenceIdeal.Read.val_main_v13 (F := Ideal) x g w) h) (ix3 i s j) =
    turnAt (rowAt x g w o ho i s) (cosAt s) (sinAt s) j :=
  (Ref.turned_apply _ i s j).trans (congrArg (fun u => turnAt u (cosAt s) (sinAt s) j) (funext fun j => ref_plain x g w o ho h i s j))
end

variable (m : (ℓ : Loc InProjIdeal.nD InProjIdeal.τ InProjIdeal.sig) → Buf (Elt Ideal) ℓ) (c : Dev InProjIdeal.nD)

theorem same0 : InProjReferenceIdeal.Read.val_main_v116 (F := Ideal) (arg m c InProjIdeal.main_arg0) (arg m c InProjIdeal.main_arg1)
    (arg m c InProjIdeal.main_arg2) = (InProjIdeal.Gen.dats m 0 c).arrAt 6 InProjIdeal.cfg0.N :=
  rows_ext _ _ fun i s j => (Ref.rows_apply _ i s j).trans ((ref_turned _ _ _ 0 (by omega) _ i s j).trans (array6 m c i s j).symm)

theorem same1 : InProjReferenceIdeal.Read.val_main_v117 (F := Ideal) (arg m c InProjIdeal.main_arg0) (arg m c InProjIdeal.main_arg1)
    (arg m c InProjIdeal.main_arg2) = (InProjIdeal.Gen.dats m 0 c).arrAt 7 InProjIdeal.cfg0.N :=
  rows_ext _ _ fun i s j => (Ref.rows_apply _ i s j).trans ((ref_turned _ _ _ 512 (by omega) _ i s j).trans (array7 m c i s j).symm)

theorem same2 : InProjReferenceIdeal.Read.val_main_v118 (F := Ideal) (arg m c InProjIdeal.main_arg0) (arg m c InProjIdeal.main_arg1)
    (arg m c InProjIdeal.main_arg2) = (InProjIdeal.Gen.dats m 0 c).arrAt 8 InProjIdeal.cfg0.N :=
  rows_ext _ _ fun i s j => (Ref.rows_apply _ i s j).trans ((ref_plain _ _ _ 1024 (by omega) _ i s j).trans (array8 m c i s j).symm)

theorem same3 : InProjReferenceIdeal.Read.val_main_v119 (F := Ideal) (arg m c InProjIdeal.main_arg0) (arg m c InProjIdeal.main_arg1)
    (arg m c InProjIdeal.main_arg2) = (InProjIdeal.Gen.dats m 0 c).arrAt 9 InProjIdeal.cfg0.N :=
  rows_ext _ _ fun i s j => (Ref.rows_apply _ i s j).trans ((ref_turned _ _ _ 1536 (by omega) _ i s j).trans (array9 m c i s j).symm)

theorem same4 : InProjReferenceIdeal.Read.val_main_v120 (F := Ideal) (arg m c InProjIdeal.main_arg0) (arg m c InProjIdeal.main_arg1)
    (arg m c InProjIdeal.main_arg2) = (InProjIdeal.Gen.dats m 0 c).arrAt 10 InProjIdeal.cfg0.N :=
  rows_ext _ _ fun i s j => (Ref.rows_apply _ i s j).trans ((ref_turned _ _ _ 2048 (by omega) _ i s j).trans (array10 m c i s j).symm)

theorem same5 : InProjReferenceIdeal.Read.val_main_v121 (F := Ideal) (arg m c InProjIdeal.main_arg0) (arg m c InProjIdeal.main_arg1)
    (arg m c InProjIdeal.main_arg2) = (InProjIdeal.Gen.dats m 0 c).arrAt 11 InProjIdeal.cfg0.N :=
  rows_ext _ _ fun i s j => (Ref.rows_apply _ i s j).trans ((ref_plain _ _ _ 2560 (by omega) _ i s j).trans (array11 m c i s j).symm)

theorem same6 : InProjReferenceIdeal.Read.val_main_v122 (F := Ideal) (arg m c InProjIdeal.main_arg0) (arg m c InProjIdeal.main_arg1)
    (arg m c InProjIdeal.main_arg2) = (InProjIdeal.Gen.dats m 0 c).arrAt 12 InProjIdeal.cfg0.N :=
  cols_ext _ _ fun i j s => (Ref.cols_apply _ i j s).trans ((ref_turned _ _ _ 512 (by omega) _ i s j).trans (array12 m c i j s).symm)

theorem same7 : InProjReferenceIdeal.Read.val_main_v123 (F := Ideal) (arg m c InProjIdeal.main_arg0) (arg m c InProjIdeal.main_arg1)
    (arg m c InProjIdeal.main_arg2) = (InProjIdeal.Gen.dats m 0 c).arrAt 13 InProjIdeal.cfg0.N :=
  cols_ext _ _ fun i j s => (Ref.cols_apply _ i j s).trans ((ref_plain _ _ _ 1024 (by omega) _ i s j).trans (array13 m c i j s).symm)

theorem same8 : InProjReferenceIdeal.Read.val_main_v124 (F := Ideal) (arg m c InProjIdeal.main_arg0) (arg m c InProjIdeal.main_arg1)
    (arg m c InProjIdeal.main_arg2) = (InProjIdeal.Gen.dats m 0 c).arrAt 14 InProjIdeal.cfg0.N :=
  cols_ext _ _ fun i j s => (Ref.cols_apply _ i j s).trans ((ref_turned _ _ _ 2048 (by omega) _ i s j).trans (array14 m c i j s).symm)

end Cert.Proof.InProj
-- ==== Proof.RnnIn.Block.lean ====
/-
  The recurrent layer's input projection: what a grid point stores in its two blocks, entry by entry.
-/
module

public import proofs.«01_k».proof.Proof.Gen.RnnInIdeal.Value
public import proofs.«01_k».proof.Proof.InProj.Spec
public import Idealize.ShloMosaic.Lib.Pointwise
public import Idealize.ShloMosaic.Lib.KernelVsHost

@[expose] public section

noncomputable section

namespace Cert.Proof.RnnIn

open Idealize.ShloMosaic Cert.RnnInIdeal Cert.RnnInIdeal.Gen Cert.RnnInIdeal.Value

/-- The normalised rows. -/
theorem pay1_apply (x : Vec Ideal S512x1024 .f32) (g : Vec Ideal S1x1024 .f32) (r : Fin 512) (k : Fin 1024) :
    k0_pay1 x g (ix2 r k) = Mlp.normAt (fun k => x (ix2 r k)) (fun k => g (ix2 0 k)) k := by
  unfold k0_pay1 Mlp.normAt
  pointwise

/-- Their projection on 1024 columns. -/
theorem pay2_apply (x : Vec Ideal S512x1024 .f32) (g : Vec Ideal S1x1024 .f32) (w : Vec Ideal S1024x1024 .bf16) (r : Fin 512) (j : Fin 1024) :
    k0_pay2 x g w (ix2 r j) = InProj.projAt (Mlp.normAt (fun k => x (ix2 r k)) (fun k => g (ix2 0 k))) (fun k => w (ix2 k j)) := by
  unfold k0_pay2 InProj.projAt
  pointwise [pay1_apply]

/-- The second block of columns is the same operations. -/
theorem pay3_eq (x : Vec Ideal S512x1024 .f32) (g : Vec Ideal S1x1024 .f32) (w : Vec Ideal S1024x1024 .bf16) : k0_pay3 x g w = k0_pay2 x g w := rfl

/-- Loads and stores of whole blocks. -/
theorem ld_rows {e : EltTy} (h : S512x1024.Idx → Elt Ideal e) : View.ld h r0_0 = h :=
  View.ld_unit_zero (by ext d; fin_cases d <;> rfl) _ h
theorem ld_gain {e : EltTy} (h : S1x1024.Idx → Elt Ideal e) : View.ld h r0_1 = h :=
  View.ld_unit_zero (by ext d; fin_cases d <;> rfl) _ h
theorem canon_rows {e : EltTy} (h : S512x1024.Idx → Elt Ideal e) (l : List (View.Piece (Elt Ideal) S512x1024 e)) :
    View.canon (⟨r0_0, h⟩ :: l) = h :=
  View.canon_cons_unit_zero (by ext d; fin_cases d <;> rfl) _ _ _

variable (x : Vec Ideal S512x1024 .f32) (g : Vec Ideal S1x1024 .f32) (w : Vec Ideal S1024x2048 .bf16)

/-- A load of 1024 columns of the weights. -/
theorem ld_columns (o : ℕ) (ho : o + 1024 ≤ 2048) (h : ∀ d, (![0, o] : Fin 2 → ℕ) d + S1024x1024.size d ≤ S1024x2048.size d) (k j : Fin 1024) :
    View.ld w (Rect.unit (s := S1024x2048) ![0, o] S1024x1024.size h) (ix2 k j) = w (ix2 k ⟨o + j.val, by omega⟩) := by
  rw [View.ld_unit]
  exact extractStridedSlice_apply _ _ _ _ _ (fun d => match d with
    | ⟨0, _⟩ => by show k.val = 0 + k.val; omega
    | ⟨1, _⟩ => rfl)

/-- The projection on the 1024 columns from `o`. -/
theorem columns_apply (o : ℕ) (ho : o + 1024 ≤ 2048) (h : ∀ d, (![0, o] : Fin 2 → ℕ) d + S1024x1024.size d ≤ S1024x2048.size d)
    (r : Fin 512) (j : Fin 1024) :
    k0_pay2 x g (View.ld w (Rect.unit (s := S1024x2048) ![0, o] S1024x1024.size h)) (ix2 r j) =
      InProj.projAt (Mlp.normAt (fun k => x (ix2 r k)) (fun k => g (ix2 0 k))) (fun k => w (ix2 k ⟨o + j.val, by omega⟩)) := by
  rw [pay2_apply]
  congr 1
  funext k
  exact ld_columns w o ho h k j

theorem out6_apply (c a b : Vec Ideal S512x128 .f32) (r : Fin 512) (j : Fin 1024) : out0_6 x g w c a b (ix2 r j) =
    InProj.projAt (Mlp.normAt (fun k => x (ix2 r k)) (fun k => g (ix2 0 k))) (fun k => w (ix2 k ⟨0 + j.val, by omega⟩)) := by
  unfold out0_6
  rw [canon_rows, ld_rows, ld_gain]
  exact columns_apply x g w 0 (by omega) _ r j

theorem out7_apply (c a b : Vec Ideal S512x128 .f32) (r : Fin 512) (j : Fin 1024) : out0_7 x g w c a b (ix2 r j) =
    InProj.projAt (Mlp.normAt (fun k => x (ix2 r k)) (fun k => g (ix2 0 k))) (fun k => w (ix2 k ⟨1024 + j.val, by omega⟩)) := by
  unfold out0_7
  rw [canon_rows, ld_rows, ld_gain, pay3_eq]
  exact columns_apply x g w 1024 (by omega) _ r j

end Cert.Proof.RnnIn
-- ==== Proof.RnnIn.Arrays.lean ====
/-
  The two arrays the recurrent layer's input projection leaves, entry by entry: grid point `t` reads and writes the rows `512 t …`,
  and reads the whole gain and the whole weights.
-/
module

public import proofs.«01_k».proof.Proof.RnnIn.Block

@[expose] public section

noncomputable section

namespace Cert.Proof.RnnIn

open Idealize.ShloMosaic Idealize.ShloMosaic.TcCoe Cert.RnnInIdeal Cert.RnnInIdeal.Gen Cert.RnnInIdeal.Value

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem V_main_arg0 : V m c main_arg0 = arg m c main_arg0 := by
  show StableHlo.after hostOps0 _ (Proc.devRef .tc main_arg0) = _
  after_results

theorem V_main_v0 : V m c main_v0 = truncf (F := Ideal) (φ := .f32) .bf16 (arg m c main_arg2) bitsLt_bf16_f32 := by
  show StableHlo.after hostOps0 _ (Proc.devRef .tc main_v0) = _
  after_results

theorem V_main_v34 : V m c main_v34 = shapeCast S1x1024 (arg m c main_arg1) shapeCasts_S1024_S1x1024 := by
  show StableHlo.after hostOps0 _ (Proc.devRef .tc main_v34) = _
  after_results
  rfl

/-- The grid has 32 points. -/
theorem point_lt (t : Fin cfg0.N) : t.val < 32 := lt_of_lt_of_eq t.isLt N_0

/-- Row `r` of point `t`. -/
def rowOf (t : Fin cfg0.N) (r : Fin 512) : Fin 16384 := ⟨512 * t.val + r.val, by have := point_lt t; omega⟩

theorem index0 : ∀ t : Fin cfg0.N, win0_0.index t (0 : Fin 2) = t.val ∧ win0_0.index t (1 : Fin 2) = 0 :=
  (by decide +kernel : ∀ t : Fin grid0.N, _)
theorem index1 : ∀ (t : Fin cfg0.N) (a : Fin 2), win0_1.index t a = 0 :=
  (by decide +kernel : ∀ (t : Fin grid0.N) (a : Fin 2), _)
theorem index2 : ∀ (t : Fin cfg0.N) (a : Fin 2), win0_2.index t a = 0 :=
  (by decide +kernel : ∀ (t : Fin grid0.N) (a : Fin 2), _)
theorem index6 : ∀ t : Fin cfg0.N, win0_6.index t (0 : Fin 2) = t.val ∧ win0_6.index t (1 : Fin 2) = 0 :=
  (by decide +kernel : ∀ t : Fin grid0.N, _)

/-- The rows. -/
theorem block0_apply (t : Fin cfg0.N) (r : Fin 512) (k : Fin 1024) :
    (iblk m c 0 t : Vec Ideal S512x1024 .f32) (ix2 r k) = (arg m c main_arg0 : Vec Ideal S16384x1024 .f32) (ix2 (rowOf t r) k) := by
  obtain ⟨i0, i1⟩ := index0 t
  unfold iblk
  rw [View.read_apply]
  refine Eq.trans ?_ (congrFun (V_main_arg0 m c) (ix2 (rowOf t r) k))
  show V m c main_arg0 _ = V m c main_arg0 _
  congr 1
  funext a
  apply Fin.ext
  match a with
  | ⟨0, _⟩ => show win0_0.index t 0 * 512 + 1 * r.val = 512 * t.val + r.val; rw [i0]; omega
  | ⟨1, _⟩ => show win0_0.index t 1 * 1024 + 1 * k.val = k.val; rw [i1]; omega

/-- The gain. -/
theorem block1_apply (t : Fin cfg0.N) (k : Fin 1024) :
    (iblk m c 1 t : Vec Ideal S1x1024 .f32) (ix2 0 k) = (arg m c main_arg1 : Vec Ideal S1024 .f32) (ix1 k) := by
  have hz : (fun a => win0_1.index t a * main_v34.ty.shape.size a) = fun _ => 0 := funext fun a => by
    rw [index1 t a, Nat.zero_mul]
  have e : (iblk m c 1 t : Vec Ideal S1x1024 .f32) = V m c main_v34 :=
    Memref.read_access_unit_zero (Elt Ideal) main_v34 hz (fun a => by rw [congrFun hz a]; simp) (V m c main_v34)
  rw [e, V_main_v34]
  pointwise

/-- The weights. -/
theorem block2_apply (t : Fin cfg0.N) (k : Fin 1024) (j : Fin 2048) :
    (iblk m c 2 t : Vec Ideal S1024x2048 .bf16) (ix2 k j) = (arg m c main_arg2 : Vec Ideal S1024x2048 .f32) (ix2 k j) := by
  have hz : (fun a => win0_2.index t a * main_v0.ty.shape.size a) = fun _ => 0 := funext fun a => by
    rw [index2 t a, Nat.zero_mul]
  have e : (iblk m c 2 t : Vec Ideal S1024x2048 .bf16) = V m c main_v0 :=
    Memref.read_access_unit_zero (Elt Ideal) main_v0 hz (fun a => by rw [congrFun hz a]; simp) (V m c main_v0)
  rw [e, V_main_v0]
  rfl

/-- Row `i` of the projection on the columns from `o`. -/
def rowAt (x : Vec Ideal S16384x1024 .f32) (g : Vec Ideal S1024 .f32) (w : Vec Ideal S1024x2048 .f32) (o : ℕ) (ho : o + 1024 ≤ 2048)
    (i : Fin 16384) (j : Fin 1024) : EReal :=
  InProj.projAt (Mlp.normAt (fun k => x (ix2 i k)) (fun k => g (ix1 k))) (fun k => w (ix2 k ⟨o + j.val, by omega⟩))

/-- The point holding a row, and the row within its block. -/
def pointOf (i : Fin 16384) : Fin cfg0.N := ⟨i.val / 512, lt_of_lt_of_eq (by omega) N_0.symm⟩
def within (i : Fin 16384) : Fin 512 := ⟨i.val % 512, by omega⟩

theorem rowOf_pointOf (i : Fin 16384) : rowOf (pointOf i) (within i) = i :=
  Fin.ext (by show 512 * (i.val / 512) + i.val % 512 = i.val; omega)

/-- Every point writes its two blocks. -/
theorem flushes : ∀ (w : Fin 8) (t : Fin cfg0.N), 6 ≤ w.val → (cfg0.win w).flush t = true :=
  (by decide +kernel : ∀ (w : Fin 8) (t : Fin grid0.N), 6 ≤ w.val → _)

/-- An entry's place: in the block of its point, at its row there. -/
theorem rows_of (A : Vec Ideal S16384x1024 .f32) (q : S16384x1024.Idx) (i : Fin 16384) (j : Fin 1024)
    (h0 : (q 0).val = win0_6.index (pointOf i) (0 : Fin 2) * 512 + 1 * (within i).val)
    (h1 : (q 1).val = win0_6.index (pointOf i) (1 : Fin 2) * 1024 + 1 * j.val) : A (ix2 i j) = A q := by
  rw [(index6 _).1] at h0
  rw [(index6 _).2] at h1
  congr 1
  funext a
  apply Fin.ext
  match a with
  | ⟨0, _⟩ =>
    refine Eq.trans ?_ h0.symm
    show i.val = i.val / 512 * 512 + 1 * (i.val % 512)
    omega
  | ⟨1, _⟩ =>
    refine Eq.trans ?_ h1.symm
    show j.val = 0 * 1024 + 1 * j.val
    omega

theorem array6 (i : Fin 16384) (j : Fin 1024) : ((dats m 0 c).arrAt 6 cfg0.N : Vec Ideal S16384x1024 .f32) (ix2 i j) =
    rowAt (arg m c main_arg0) (arg m c main_arg1) (arg m c main_arg2) 0 (by omega) i j := by
  have e := congrFun ((blocks6 m c (pointOf i) (flushes 6 _ (by decide))).trans (flushed6 m c (pointOf i))) (ix2 (within i) j)
  rw [View.read_apply] at e
  refine (rows_of _ _ i j rfl rfl).trans (e.trans ((out6_apply _ _ _ _ _ _ (within i) j).trans ?_))
  simp only [block0_apply, block1_apply, block2_apply, rowOf_pointOf]
  rfl

theorem array7 (i : Fin 16384) (j : Fin 1024) : ((dats m 0 c).arrAt 7 cfg0.N : Vec Ideal S16384x1024 .f32) (ix2 i j) =
    rowAt (arg m c main_arg0) (arg m c main_arg1) (arg m c main_arg2) 1024 (by omega) i j := by
  have e := congrFun ((blocks7 m c (pointOf i) (flushes 7 _ (by decide))).trans (flushed7 m c (pointOf i))) (ix2 (within i) j)
  rw [View.read_apply] at e
  refine (rows_of _ _ i j rfl rfl).trans (e.trans ((out7_apply _ _ _ _ _ _ (within i) j).trans ?_))
  simp only [block0_apply, block1_apply, block2_apply, rowOf_pointOf]
  rfl

end Cert.Proof.RnnIn
-- ==== Proof.RnnIn.Equation.lean ====
/-
  The two sides of the recurrent layer's input projection: entry by entry the same two arrays.
-/
module

public import proofs.«01_k».proof.Proof.Gen.RnnInReferenceIdeal.Read
public import proofs.«01_k».proof.Proof.RnnIn.Arrays

@[expose] public section

noncomputable section

namespace Cert.Proof.RnnIn

open Idealize.ShloMosaic

namespace Ref

open Cert.RnnInReferenceIdeal Cert.RnnInReferenceIdeal.Gen Cert.RnnInReferenceIdeal.Read

variable (x0 : FVec Ideal S16384x1024 .f32) (x1 : FVec Ideal S1024 .f32) (x2 : FVec Ideal S1024x2048 .f32)

/-- The reference's normalised rows. -/
theorem norm_apply (i : Fin 16384) (k : Fin 1024) :
    val_main_v12 (F := Ideal) x0 x1 (ix2 i k) = Mlp.normAt (fun k => x0 (ix2 i k)) (fun k => x1 (ix1 k)) k := by
  unfold val_main_v12 val_main_v11 val_main_v10 val_main_v9 val_main_v8 val_main_v7 val_main_v6 val_main_v5 val_main_v4 val_main_v3
    val_main_v2 val_main_v1 val_main_v0 val_main_cst val_main_cst_0 val_main_cst_1 Mlp.normAt
  pointwise

/-- Their projection. -/
theorem proj_apply (i : Fin 16384) (j : Fin 2048) :
    val_main_v13 (F := Ideal) x0 x1 x2 (ix2 i j) =
      InProj.projAt (Mlp.normAt (fun k => x0 (ix2 i k)) (fun k => x1 (ix1 k))) (fun k => x2 (ix2 k j)) := by
  unfold val_main_v13 InProj.projAt
  pointwise [norm_apply]

/-- Its columns from `o`. -/
theorem cut_apply (o : ℕ) (ho : o + 1024 ≤ 2048) (h : S16384x2048.Slices ![0, o] S16384x1024) (i : Fin 16384) (j : Fin 1024) :
    extractStridedSlice S16384x1024 ![0, o] (val_main_v13 (F := Ideal) x0 x1 x2) h (ix2 i j) = rowAt x0 x1 x2 o ho i j :=
  (extractStridedSlice_apply _ _ h _ (ix2 i ⟨o + j.val, by omega⟩) (fun d => match d with
    | ⟨0, _⟩ => by show i.val = 0 + i.val; omega
    | ⟨1, _⟩ => rfl)).trans (proj_apply x0 x1 x2 i _)

end Ref

/-- Two arrays that agree on every row and column. -/
theorem rows_ext (A B : Vec Ideal RnnInIdeal.S16384x1024 .f32) (h : ∀ i j, A (ix2 i j) = B (ix2 i j)) : A = B := by
  funext q
  have hq : q = ix2 (q 0) (q 1) := funext fun a => match a with
    | ⟨0, _⟩ => rfl
    | ⟨1, _⟩ => rfl
  rw [hq]
  exact h _ _

variable (m : (ℓ : Loc RnnInIdeal.nD RnnInIdeal.τ RnnInIdeal.sig) → Buf (Elt Ideal) ℓ) (c : Dev RnnInIdeal.nD)

theorem same0 : RnnInReferenceIdeal.Read.val_main_v14 (F := Ideal) (arg m c RnnInIdeal.main_arg0) (arg m c RnnInIdeal.main_arg1)
    (arg m c RnnInIdeal.main_arg2) = (RnnInIdeal.Gen.dats m 0 c).arrAt 6 RnnInIdeal.cfg0.N :=
  rows_ext _ _ fun i j => (Ref.cut_apply _ _ _ 0 (by omega) _ i j).trans (array6 m c i j).symm

theorem same1 : RnnInReferenceIdeal.Read.val_main_v15 (F := Ideal) (arg m c RnnInIdeal.main_arg0) (arg m c RnnInIdeal.main_arg1)
    (arg m c RnnInIdeal.main_arg2) = (RnnInIdeal.Gen.dats m 0 c).arrAt 7 RnnInIdeal.cfg0.N :=
  rows_ext _ _ fun i j => (Ref.cut_apply _ _ _ 1024 (by omega) _ i j).trans (array7 m c i j).symm

end Cert.Proof.RnnIn
-- ==== Proof.AttnOut.Block.lean ====
/-
  The attention layer's output projection: what a grid point stores, entry by entry.
-/
module

public import proofs.«01_k».proof.Proof.Gen.AttnOutIdeal.Value
public import proofs.«01_k».proof.Proof.Mlp.Spec
public import Idealize.ShloMosaic.Lib.Pointwise
public import Idealize.ShloMosaic.Lib.KernelVsHost

@[expose] public section

noncomputable section

namespace Cert.Proof.AttnOut

open Idealize.ShloMosaic Cert.AttnOutIdeal Cert.AttnOutIdeal.Gen Cert.AttnOutIdeal.Value

/-- One entry of the projection of a row made of two halves. -/
def projAt (a b : Fin 512 → EReal) (w : Fin 1024 → Fin 1024 → EReal) (j : Fin 1024) : EReal :=
  ∑ k : Fin 512, a k * w ⟨k.val, by omega⟩ j + ∑ k : Fin 512, b k * w ⟨512 + k.val, by omega⟩ j

/-- The row the layer adds to its input: the projection, normalised. -/
def addedAt (a b : Fin 512 → EReal) (w : Fin 1024 → Fin 1024 → EReal) (g x : Fin 1024 → EReal) (j : Fin 1024) : EReal :=
  x j + Mlp.normAt (projAt a b w) g j

/-- A grid point's rows, from the halves of the weights. -/
theorem pay1_apply (p : Vec Ideal S512x512 .f32) (u : Vec Ideal S512x1024 .bf16) (q : Vec Ideal S512x512 .f32) (v : Vec Ideal S512x1024 .bf16)
    (x : Vec Ideal S512x1024 .f32) (g : Vec Ideal S1x1024 .f32) (r : Fin 512) (j : Fin 1024) :
    k0_pay1 p u q v x g (ix2 r j) =
      x (ix2 r j) + Mlp.normAt (fun j => ∑ k : Fin 512, p (ix2 r k) * u (ix2 k j) + ∑ k : Fin 512, q (ix2 r k) * v (ix2 k j))
        (fun j => g (ix2 0 j)) j := by
  unfold k0_pay1 Mlp.normAt
  pointwise

/-- Loads and stores of whole blocks. -/
theorem ld_half {e : EltTy} (h : S512x512.Idx → Elt Ideal e) : View.ld h r0_0 = h :=
  View.ld_unit_zero (by ext d; fin_cases d <;> rfl) _ h
theorem ld_rows {e : EltTy} (h : S512x1024.Idx → Elt Ideal e) : View.ld h r0_3 = h :=
  View.ld_unit_zero (by ext d; fin_cases d <;> rfl) _ h
theorem ld_gain {e : EltTy} (h : S1x1024.Idx → Elt Ideal e) : View.ld h r0_4 = h :=
  View.ld_unit_zero (by ext d; fin_cases d <;> rfl) _ h
theorem canon_rows {e : EltTy} (h : S512x1024.Idx → Elt Ideal e) (l : List (View.Piece (Elt Ideal) S512x1024 e)) :
    View.canon (⟨r0_3, h⟩ :: l) = h :=
  View.canon_cons_unit_zero (by ext d; fin_cases d <;> rfl) _ _ _

/-- Loads of the two halves of the weights. -/
theorem ld_upper (w : Vec Ideal S1024x1024 .bf16) (k : Fin 512) (j : Fin 1024) : View.ld w r0_1 (ix2 k j) = w (ix2 ⟨k.val, by omega⟩ j) := by
  rw [View.ld_unit]
  exact extractStridedSlice_apply _ _ _ _ _ (fun d => match d with
    | ⟨0, _⟩ => by show k.val = 0 + k.val; omega
    | ⟨1, _⟩ => by show j.val = 0 + j.val; omega)
theorem ld_lower (w : Vec Ideal S1024x1024 .bf16) (k : Fin 512) (j : Fin 1024) : View.ld w r0_2 (ix2 k j) = w (ix2 ⟨512 + k.val, by omega⟩ j) := by
  rw [View.ld_unit]
  exact extractStridedSlice_apply _ _ _ _ _ (fun d => match d with
    | ⟨0, _⟩ => rfl
    | ⟨1, _⟩ => by show j.val = 0 + j.val; omega)

/-- What the point stores. -/
theorem out5_apply (p q : Vec Ideal S512x512 .f32) (w : Vec Ideal S1024x1024 .bf16) (g : Vec Ideal S1x1024 .f32) (x : Vec Ideal S512x1024 .f32)
    (r : Fin 512) (j : Fin 1024) : out0_5 p q w g x (ix2 r j) =
      addedAt (fun k => p (ix2 r k)) (fun k => q (ix2 r k)) (fun k j => w (ix2 k j)) (fun j => g (ix2 0 j)) (fun j => x (ix2 r j)) j := by
  unfold out0_5
  rw [canon_rows, ld_half, ld_half, ld_rows, ld_gain, pay1_apply]
  exact congrArg (fun f => x (ix2 r j) + Mlp.normAt f (fun j => g (ix2 0 j)) j) (funext fun j => congrArg₂ (· + ·)
    (Finset.sum_congr rfl fun k _ => congrArg (_ * ·) (ld_upper w k j))
    (Finset.sum_congr rfl fun k _ => congrArg (_ * ·) (ld_lower w k j)))

end Cert.Proof.AttnOut
-- ==== Proof.AttnOut.Arrays.lean ====
/-
  The array the attention layer's output projection leaves, entry by entry: grid point `t` reads and writes the rows `512 t …`, and
  reads the whole gain and the whole weights.
-/
module

public import proofs.«01_k».proof.Proof.AttnOut.Block

@[expose] public section

noncomputable section

namespace Cert.Proof.AttnOut

open Idealize.ShloMosaic Idealize.ShloMosaic.TcCoe Cert.AttnOutIdeal Cert.AttnOutIdeal.Gen Cert.AttnOutIdeal.Value

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem V_main_arg0 : V m c main_arg0 = arg m c main_arg0 := by
  show StableHlo.after hostOps0 _ (Proc.devRef .tc main_arg0) = _
  after_results

theorem V_main_arg1 : V m c main_arg1 = arg m c main_arg1 := by
  show StableHlo.after hostOps0 _ (Proc.devRef .tc main_arg1) = _
  after_results

theorem V_main_arg4 : V m c main_arg4 = arg m c main_arg4 := by
  show StableHlo.after hostOps0 _ (Proc.devRef .tc main_arg4) = _
  after_results

theorem V_main_v0 : V m c main_v0 = truncf (F := Ideal) (φ := .f32) .bf16 (arg m c main_arg2) bitsLt_bf16_f32 := by
  show StableHlo.after hostOps0 _ (Proc.devRef .tc main_v0) = _
  after_results

theorem V_main_v1 : V m c main_v1 = shapeCast S1x1024 (arg m c main_arg3) shapeCasts_S1024_S1x1024 := by
  show StableHlo.after hostOps0 _ (Proc.devRef .tc main_v1) = _
  after_results
  rfl

/-- The grid has 32 points. -/
theorem point_lt (t : Fin cfg0.N) : t.val < 32 := lt_of_lt_of_eq t.isLt N_0

/-- Row `r` of point `t`. -/
def rowOf (t : Fin cfg0.N) (r : Fin 512) : Fin 16384 := ⟨512 * t.val + r.val, by have := point_lt t; omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ (t : Fin cfg0.N) (a : Fin 2), win0_2.index t a = 0 :=
  (by decide +kernel : ∀ (t : Fin grid0.N) (a : Fin 2), _)
theorem index3 : ∀ (t : Fin cfg0.N) (a : Fin 2), win0_3.index t a = 0 :=
  (by decide +kernel : ∀ (t : Fin grid0.N) (a : Fin 2), _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- The rows of the two attentions. -/
theorem block0_apply (t : Fin cfg0.N) (r k : Fin 512) :
    (iblk m c 0 t : Vec Ideal S512x512 .f32) (ix2 r k) = (arg m c main_arg0 : Vec Ideal S16384x512 .f32) (ix2 (rowOf t r) k) := by
  obtain ⟨i0, i1⟩ := index0 t
  unfold iblk
  rw [View.read_apply]
  refine Eq.trans ?_ (congrFun (V_main_arg0 m c) (ix2 (rowOf t r) k))
  show V m c main_arg0 _ = V m c main_arg0 _
  congr 1
  funext a
  apply Fin.ext
  match a with
  | ⟨0, _⟩ => show win0_0.index t 0 * 512 + 1 * r.val = 512 * t.val + r.val; rw [i0]; omega
  | ⟨1, _⟩ => show win0_0.index t 1 * 512 + 1 * k.val = k.val; rw [i1]; omega

theorem block1_apply (t : Fin cfg0.N) (r k : Fin 512) :
    (iblk m c 1 t : Vec Ideal S512x512 .f32) (ix2 r k) = (arg m c main_arg1 : Vec Ideal S16384x512 .f32) (ix2 (rowOf t r) k) := by
  obtain ⟨i0, i1⟩ := index1 t
  unfold iblk
  rw [View.read_apply]
  refine Eq.trans ?_ (congrFun (V_main_arg1 m c) (ix2 (rowOf t r) k))
  show V m c main_arg1 _ = V m c main_arg1 _
  congr 1
  funext a
  apply Fin.ext
  match a with
  | ⟨0, _⟩ => show win0_1.index t 0 * 512 + 1 * r.val = 512 * t.val + r.val; rw [i0]; omega
  | ⟨1, _⟩ => show win0_1.index t 1 * 512 + 1 * k.val = k.val; rw [i1]; omega

/-- The rows the projection is added to. -/
theorem block4_apply (t : Fin cfg0.N) (r : Fin 512) (k : Fin 1024) :
    (iblk m c 4 t : Vec Ideal S512x1024 .f32) (ix2 r k) = (arg m c main_arg4 : Vec Ideal S16384x1024 .f32) (ix2 (rowOf t r) k) := by
  obtain ⟨i0, i1⟩ := index4 t
  unfold iblk
  rw [View.read_apply]
  refine Eq.trans ?_ (congrFun (V_main_arg4 m c) (ix2 (rowOf t r) k))
  show V m c main_arg4 _ = V m c main_arg4 _
  congr 1
  funext a
  apply Fin.ext
  match a with
  | ⟨0, _⟩ => show win0_4.index t 0 * 512 + 1 * r.val = 512 * t.val + r.val; rw [i0]; omega
  | ⟨1, _⟩ => show win0_4.index t 1 * 1024 + 1 * k.val = k.val; rw [i1]; omega

/-- The weights. -/
theorem block2_apply (t : Fin cfg0.N) (k j : Fin 1024) :
    (iblk m c 2 t : Vec Ideal S1024x1024 .bf16) (ix2 k j) = (arg m c main_arg2 : Vec Ideal S1024x1024 .f32) (ix2 k j) := by
  have hz : (fun a => win0_2.index t a * main_v0.ty.shape.size a) = fun _ => 0 := funext fun a => by
    rw [index2 t a, Nat.zero_mul]
  have e : (iblk m c 2 t : Vec Ideal S1024x1024 .bf16) = V m c main_v0 :=
    Memref.read_access_unit_zero (Elt Ideal) main_v0 hz (fun a => by rw [congrFun hz a]; simp) (V m c main_v0)
  rw [e, V_main_v0]
  rfl

/-- The gain. -/
theorem block3_apply (t : Fin cfg0.N) (k : Fin 1024) :
    (iblk m c 3 t : Vec Ideal S1x1024 .f32) (ix2 0 k) = (arg m c main_arg3 : Vec Ideal S1024 .f32) (ix1 k) := by
  have hz : (fun a => win0_3.index t a * main_v1.ty.shape.size a) = fun _ => 0 := funext fun a => by
    rw [index3 t a, Nat.zero_mul]
  have e : (iblk m c 3 t : Vec Ideal S1x1024 .f32) = V m c main_v1 :=
    Memref.read_access_unit_zero (Elt Ideal) main_v1 hz (fun a => by rw [congrFun hz a]; simp) (V m c main_v1)
  rw [e, V_main_v1]
  pointwise

/-- Row `i` of the result. -/
def rowAt (p q : Vec Ideal S16384x512 .f32) (w : Vec Ideal S1024x1024 .f32) (g : Vec Ideal S1024 .f32) (x : Vec Ideal S16384x1024 .f32)
    (i : Fin 16384) : Fin 1024 → EReal :=
  addedAt (fun k => p (ix2 i k)) (fun k => q (ix2 i k)) (fun k j => w (ix2 k j)) (fun j => g (ix1 j)) (fun j => x (ix2 i j))

/-- The point holding a row, and the row within its block. -/
def pointOf (i : Fin 16384) : Fin cfg0.N := ⟨i.val / 512, lt_of_lt_of_eq (by omega) N_0.symm⟩
def within (i : Fin 16384) : Fin 512 := ⟨i.val % 512, by omega⟩

theorem rowOf_pointOf (i : Fin 16384) : rowOf (pointOf i) (within i) = i :=
  Fin.ext (by show 512 * (i.val / 512) + i.val % 512 = i.val; omega)

/-- Every point writes its block. -/
theorem flushes : ∀ t : Fin cfg0.N, (cfg0.win 5).flush t = true := (by decide +kernel : ∀ t : Fin grid0.N, _)

/-- An entry's place: in the block of its point, at its row there. -/
theorem rows_of (A : Vec Ideal S16384x1024 .f32) (q : S16384x1024.Idx) (i : Fin 16384) (j : Fin 1024)
    (h0 : (q 0).val = win0_5.index (pointOf i) (0 : Fin 2) * 512 + 1 * (within i).val)
    (h1 : (q 1).val = win0_5.index (pointOf i) (1 : Fin 2) * 1024 + 1 * j.val) : A (ix2 i j) = A q := by
  rw [(index5 _).1] at h0
  rw [(index5 _).2] at h1
  congr 1
  funext a
  apply Fin.ext
  match a with
  | ⟨0, _⟩ =>
    refine Eq.trans ?_ h0.symm
    show i.val = i.val / 512 * 512 + 1 * (i.val % 512)
    omega
  | ⟨1, _⟩ =>
    refine Eq.trans ?_ h1.symm
    show j.val = 0 * 1024 + 1 * j.val
    omega

theorem array5 (i : Fin 16384) (j : Fin 1024) : ((dats m 0 c).arrAt 5 cfg0.N : Vec Ideal S16384x1024 .f32) (ix2 i j) =
    rowAt (arg m c main_arg0) (arg m c main_arg1) (arg m c main_arg2) (arg m c main_arg3) (arg m c main_arg4) i j := by
  have e := congrFun ((blocks5 m c (pointOf i) (flushes _)).trans (flushed5 m c (pointOf i))) (ix2 (within i) j)
  rw [View.read_apply] at e
  refine (rows_of _ _ i j rfl rfl).trans (e.trans ((out5_apply _ _ _ _ _ (within i) j).trans ?_))
  simp only [block0_apply, block1_apply, block2_apply, block3_apply, block4_apply, rowOf_pointOf]
  rfl

end Cert.Proof.AttnOut
-- ==== Proof.AttnOut.Equation.lean ====
/-
  The two sides of the attention layer's output projection: entry by entry the same array.
-/
module

public import proofs.«01_k».proof.Proof.Gen.AttnOutReferenceIdeal.Read
public import proofs.«01_k».proof.Proof.AttnOut.Arrays

@[expose] public section

noncomputable section

namespace Cert.Proof.AttnOut

open Idealize.ShloMosaic

namespace Ref

open Cert.AttnOutReferenceIdeal Cert.AttnOutReferenceIdeal.Gen Cert.AttnOutReferenceIdeal.Read

variable (x0 x1 : FVec Ideal S16384x512 .f32) (x2 : FVec Ideal S1024x1024 .f32) (x3 : FVec Ideal S1024 .f32) (x4 : FVec Ideal S16384x1024 .f32)

/-- The joined row's first half … -/
theorem joined_left (i : Fin 16384) (k : Fin 512) : val_main_v0 (F := Ideal) x0 x1 (ix2 i ⟨k.val, by omega⟩) = x0 (ix2 i k) := by
  unfold val_main_v0
  exact concatenate_apply_piece (t := S16384x1024) 1 _ _ (ix2 i ⟨k.val, by omega⟩) 0 (by show 0 < 2; omega) S16384x512 _ rfl rfl 0 rfl (ix2 i k)
    (fun d hd => match d with
      | ⟨0, _⟩ => rfl
      | ⟨1, _⟩ => absurd rfl hd) (by show 0 + k.val = k.val; omega)

/-- … and its second. -/
theorem joined_right (i : Fin 16384) (k : Fin 512) : val_main_v0 (F := Ideal) x0 x1 (ix2 i ⟨512 + k.val, by omega⟩) = x1 (ix2 i k) := by
  unfold val_main_v0
  exact concatenate_apply_piece (t := S16384x1024) 1 _ _ (ix2 i ⟨512 + k.val, by omega⟩) 1 (by show 1 < 2; omega) S16384x512 _ rfl rfl 512 rfl (ix2 i k)
    (fun d hd => match d with
      | ⟨0, _⟩ => rfl
      | ⟨1, _⟩ => absurd rfl hd) (by show 512 + k.val = 512 + k.val; rfl)

/-- The projection, over the two halves. -/
theorem proj_apply (i : Fin 16384) (j : Fin 1024) : val_main_v1 (F := Ideal) x0 x1 x2 (ix2 i j) =
    projAt (fun k => x0 (ix2 i k)) (fun k => x1 (ix2 i k)) (fun k j => x2 (ix2 k j)) j := by
  have e : val_main_v1 (F := Ideal) x0 x1 x2 (ix2 i j) = ∑ k : Fin 1024, val_main_v0 (F := Ideal) x0 x1 (ix2 i k) * x2 (ix2 k j) := by
    unfold val_main_v1
    pointwise
  rw [e]
  refine (Fin.sum_univ_add (a := 512) (b := 512) fun k => val_main_v0 (F := Ideal) x0 x1 (ix2 i k) * x2 (ix2 k j)).trans ?_
  exact congrArg₂ (· + ·) (Finset.sum_congr rfl fun k _ => congrArg (· * _) (joined_left x0 x1 i k))
    (Finset.sum_congr rfl fun k _ => congrArg (· * _) (joined_right x0 x1 i k))

/-- The result. -/
theorem out_apply (i : Fin 16384) (j : Fin 1024) : val_main_v15 (F := Ideal) x0 x1 x2 x3 x4 (ix2 i j) = rowAt x0 x1 x2 x3 x4 i j := by
  unfold val_main_v15 val_main_v14 val_main_v13 val_main_v12 val_main_v11 val_main_v10 val_main_v9 val_main_v8 val_main_v7 val_main_v6
    val_main_v5 val_main_v4 val_main_v3 val_main_v2 val_main_cst val_main_cst_0 val_main_cst_1 rowAt addedAt Mlp.normAt
  pointwise [proj_apply]

end Ref

/-- Two arrays that agree on every row and column. -/
theorem rows_ext (A B : Vec Ideal AttnOutIdeal.S16384x1024 .f32) (h : ∀ i j, A (ix2 i j) = B (ix2 i j)) : A = B := by
  funext q
  have hq : q = ix2 (q 0) (q 1) := funext fun a => match a with
    | ⟨0, _⟩ => rfl
    | ⟨1, _⟩ => rfl
  rw [hq]
  exact h _ _

variable (m : (ℓ : Loc AttnOutIdeal.nD AttnOutIdeal.τ AttnOutIdeal.sig) → Buf (Elt Ideal) ℓ) (c : Dev AttnOutIdeal.nD)

theorem same : AttnOutReferenceIdeal.Read.val_main_v15 (F := Ideal) (arg m c AttnOutIdeal.main_arg0) (arg m c AttnOutIdeal.main_arg1)
    (arg m c AttnOutIdeal.main_arg2) (arg m c AttnOutIdeal.main_arg3) (arg m c AttnOutIdeal.main_arg4) =
      (AttnOutIdeal.Gen.dats m 0 c).arrAt 5 AttnOutIdeal.cfg0.N :=
  rows_ext _ _ fun i j => (Ref.out_apply _ _ _ _ _ i j).trans (array5 m c i j).symm

end Cert.Proof.AttnOut
-- ==== Proof.SampleIn.Block.lean ====
/-
  The sample group's input projection: what its one grid point stores in its six blocks, entry by entry.
-/
module

public import proofs.«01_k».proof.Proof.Gen.SampleInIdeal.Value
public import proofs.«01_k».proof.Proof.InProj.Spec
public import Idealize.ShloMosaic.Lib.Pointwise
public import Idealize.ShloMosaic.Lib.KernelVsHost

@[expose] public section

noncomputable section

namespace Cert.Proof.SampleIn

open Idealize.ShloMosaic Cert.SampleInIdeal Cert.SampleInIdeal.Gen Cert.SampleInIdeal.Value
open Cert.Proof.InProj (projAt laneTurn)

/-- The normalised rows. -/
theorem pay1_apply (x : Vec Ideal S32x1024 .f32) (g : Vec Ideal S1x1024 .f32) (r : Fin 32) (k : Fin 1024) :
    k0_pay1 x g (ix2 r k) = Mlp.normAt (fun k => x (ix2 r k)) (fun k => g (ix2 0 k)) k := by
  unfold k0_pay1 Mlp.normAt
  pointwise

/-- A block of the projection. -/
theorem pay10_apply (y : FVec Ideal S32x1024 .bf16) (w : Vec Ideal S1024x512 .bf16) (r : Fin 32) (j : Fin 512) :
    k0_pay10 y w (ix2 r j) = projAt (fun k => y (ix2 r k)) (fun k => w (ix2 k j)) := by
  unfold k0_pay10 projAt
  pointwise

/-- 128 lanes of a block turned by the tables. -/
def tile (u : FVec Ideal S32x512 .f32) (c a b : FVec Ideal S32x128 .f32) (o : Fin 2 → ℕ) (h : S32x512.Slices o S32x128) : FVec Ideal S32x128 .f32 :=
  addf (addf (mulf (extractStridedSlice S32x128 o u h) c)
    (mulf (dynamicRotate 1 120#32 none (extractStridedSlice S32x128 o u h) rotates_S32x128_d1) a))
    (mulf (dynamicRotate 1 8#32 none (extractStridedSlice S32x128 o u h) rotates_S32x128_d1) b)

/-- A lane of the tile that begins at lane `128 f`. -/
theorem tile_apply (u : FVec Ideal S32x512 .f32) (c a b : FVec Ideal S32x128 .f32) (f : Fin 4) (h) (r : Fin 32) (l : Fin 128) :
    tile u c a b ![0, 128 * f.val] h (ix2 r l) =
      u (ix2 r ⟨128 * f.val + l.val, by omega⟩) * c (ix2 r l)
        + u (ix2 r ⟨128 * f.val + (l.val + 8) % 128, by omega⟩) * a (ix2 r l)
        + u (ix2 r ⟨128 * f.val + (l.val + 120) % 128, by omega⟩) * b (ix2 r l) := by
  have s : ∀ l : Fin 128, extractStridedSlice S32x128 ![0, 128 * f.val] u h (ix2 r l) = u (ix2 r ⟨128 * f.val + l.val, by omega⟩) := fun l =>
    extractStridedSlice_apply _ _ h _ _ (fun d => match d with
      | ⟨0, _⟩ => by show r.val = 0 + r.val; omega
      | ⟨1, _⟩ => rfl)
  have t : ∀ (n : BitVec 32) (l' : Fin 128), (l.val + 128 - n.toNat % 128) % 128 = l'.val →
      dynamicRotate 1 n none (extractStridedSlice S32x128 ![0, 128 * f.val] u h) rotates_S32x128_d1 (ix2 r l) =
        u (ix2 r ⟨128 * f.val + l'.val, by omega⟩) := fun n l' e =>
    (dynamicRotate_apply (s := S32x128) (1 : Fin 2) n _ rotates_S32x128_d1 (ix2 r l) (ix2 r l') (fun d => match d with
      | ⟨0, _⟩ => rfl
      | ⟨1, _⟩ => e.symm)).trans (s l')
  show extractStridedSlice S32x128 ![0, 128 * f.val] u h (ix2 r l) * c (ix2 r l) + _ * a (ix2 r l) + _ * b (ix2 r l) = _
  rw [s l, t 120#32 ⟨(l.val + 8) % 128, by omega⟩ (by show (l.val + 128 - 120 % 128) % 128 = (l.val + 8) % 128; omega),
    t 8#32 ⟨(l.val + 120) % 128, by omega⟩ (by show (l.val + 128 - 8 % 128) % 128 = (l.val + 120) % 128; omega)]

/-- The offset of each tile's slice lies inside the block. -/
theorem slices_tile (f : Fin 4) : S32x512.Slices ![0, 128 * f.val] S32x128 :=
  match f with
  | ⟨0, _⟩ => slices_S32x512_o0_0_S32x128
  | ⟨1, _⟩ => slices_S32x512_o0_128_S32x128
  | ⟨2, _⟩ => slices_S32x512_o0_256_S32x128
  | ⟨3, _⟩ => slices_S32x512_o0_384_S32x128

/-- A whole block turned by the tables: its four tiles beside each other. -/
def turnBlock (u : FVec Ideal S32x512 .f32) (c a b : Vec Ideal S32x128 .f32) : FVec Ideal S32x512 .f32 :=
  concatenate S32x512 1 (List.ofFn fun f : Fin 4 =>
      (⟨S32x128, tile u (shapeCast S32x128 c shapeCasts_S32x128_S32x128) (shapeCast S32x128 a shapeCasts_S32x128_S32x128)
        (shapeCast S32x128 b shapeCasts_S32x128_S32x128) ![0, 128 * f.val] (slices_tile f)⟩ : (s : Shape) × (s.Idx → Elt Ideal .f32)))
    concatenates_S32x128_S32x128_S32x128_S32x128_S32x512_d1

theorem turnBlock_apply (u : FVec Ideal S32x512 .f32) (c a b : Vec Ideal S32x128 .f32) (r : Fin 32) (j : Fin 512) :
    turnBlock u c a b (ix2 r j) =
      laneTurn (fun j => u (ix2 r j)) (fun l => c (ix2 r l)) (fun l => a (ix2 r l)) (fun l => b (ix2 r l)) j := by
  have id128 : ∀ v : Vec Ideal S32x128 .f32, shapeCast S32x128 v shapeCasts_S32x128_S32x128 = v := fun v => shapeCast_self v _
  unfold turnBlock
  simp only [id128]
  refine (concatenate_ofFn_apply (t := S32x512) (s₁ := S32x128) 1 (fun f : Fin 4 => tile u c a b ![0, 128 * f.val] (slices_tile f)) _ rfl 128 rfl
    (ix2 r j) ⟨j.val / 128, by omega⟩ rfl (ix2 r ⟨j.val % 128, by omega⟩) rfl (fun d hd => match d with
      | ⟨0, _⟩ => rfl
      | ⟨1, _⟩ => absurd rfl hd)).trans ?_
  rw [tile_apply]
  unfold laneTurn
  have e1 : (⟨128 * (j.val / 128) + j.val % 128, by omega⟩ : Fin 512) = j := Fin.ext (by show 128 * (j.val / 128) + j.val % 128 = j.val; omega)
  have e2 : (j.val % 128 + 8) % 128 = (j.val + 8) % 128 := by omega
  have e3 : (j.val % 128 + 120) % 128 = (j.val + 120) % 128 := by omega
  simp only [e1, e2, e3]

/-! ## The four turned blocks are the same operations on other columns -/

theorem pay9_eq (x : Vec Ideal S32x1024 .f32) (g : Vec Ideal S1x1024 .f32) (w : Vec Ideal S1024x512 .bf16) (c a b : Vec Ideal S32x128 .f32) :
    k0_pay9 (k0_pay2 x g w) (k0_pay3 c) (k0_pay4 a) (k0_pay5 b) (k0_pay6 x g w c a b) (k0_pay7 x g w) (k0_pay8 x g w c a) 8#32
      = turnBlock (k0_pay10 (k0_pay1 x g) w) c a b := rfl

variable (y : FVec Ideal S32x1024 .bf16) (v : Vec Ideal S1024x512 .bf16)

theorem pay18_eq (c a b : Vec Ideal S32x128 .f32) :
    k0_pay18 (k0_pay10 y v) (k0_pay11 c) (k0_pay12 a) (k0_pay13 b) (k0_pay14 y v c a b) (k0_pay15 y v) (k0_pay16 y v c) (k0_pay17 y v)
      = turnBlock (k0_pay10 y v) c a b := rfl

theorem pay25_eq (c a b : Vec Ideal S32x128 .f32) :
    k0_pay25 (k0_pay20 y v) (k0_pay21 c) (k0_pay22 a) (k0_pay23 b) (k0_pay24 y v) = turnBlock (k0_pay10 y v) c a b := rfl

theorem pay29_eq (c a b : Vec Ideal S32x128 .f32) :
    k0_pay29 (k0_pay26 y v) (k0_pay27 c) (k0_pay28 a) b = turnBlock (k0_pay10 y v) c a b := rfl

theorem pay19_eq : k0_pay19 y v = k0_pay10 y v := rfl
theorem pay30_eq : k0_pay30 y v = k0_pay10 y v := rfl

/-! ## The six blocks -/

/-- Loads and stores of whole blocks. -/
theorem ld_rows {e : EltTy} (h : S32x1024.Idx → Elt Ideal e) : View.ld h r0_0 = h :=
  View.ld_unit_zero (by ext d; fin_cases d <;> rfl) _ h
theorem ld_gain {e : EltTy} (h : S1x1024.Idx → Elt Ideal e) : View.ld h r0_1 = h :=
  View.ld_unit_zero (by ext d; fin_cases d <;> rfl) _ h
theorem ld_table {e : EltTy} (h : S32x128.Idx → Elt Ideal e) : View.ld h r0_3 = h :=
  View.ld_unit_zero (by ext d; fin_cases d <;> rfl) _ h
theorem canon_rows {e : EltTy} (h : S32x512.Idx → Elt Ideal e) (l : List (View.Piece (Elt Ideal) S32x512 e)) :
    View.canon (⟨r0_4, h⟩ :: l) = h :=
  View.canon_cons_unit_zero (by ext d; fin_cases d <;> rfl) _ _ _

variable (x : Vec Ideal S32x1024 .f32) (g : Vec Ideal S1x1024 .f32) (w : Vec Ideal S1024x3072 .bf16) (c a b : Vec Ideal S32x128 .f32)

theorem pay31_eq : k0_pay31 x g w c a b = k0_pay1 x g := by
  unfold k0_pay31
  rw [ld_rows, ld_gain]

theorem out6_eq : out0_6 x g w c a b = turnBlock (k0_pay10 (k0_pay1 x g) (View.ld w r0_2)) c a b := by
  unfold out0_6
  rw [canon_rows, ld_rows, ld_gain, ld_table, ld_table, ld_table, pay9_eq]

theorem out7_eq : out0_7 x g w c a b = turnBlock (k0_pay10 (k0_pay1 x g) (View.ld w r0_5)) c a b := by
  unfold out0_7
  rw [canon_rows, ld_table, ld_table, ld_table, pay18_eq, pay31_eq]

theorem out8_eq : out0_8 x g w c a b = k0_pay10 (k0_pay1 x g) (View.ld w r0_6) := by
  unfold out0_8
  rw [canon_rows, pay19_eq, pay31_eq]

theorem out9_eq : out0_9 x g w c a b = turnBlock (k0_pay10 (k0_pay1 x g) (View.ld w r0_7)) c a b := by
  unfold out0_9
  rw [canon_rows, ld_table, ld_table, ld_table, pay25_eq, pay31_eq]

theorem out10_eq : out0_10 x g w c a b = turnBlock (k0_pay10 (k0_pay1 x g) (View.ld w r0_8)) c a b := by
  unfold out0_10
  rw [canon_rows, ld_table, ld_table, ld_table, pay29_eq, pay31_eq]

theorem out11_eq : out0_11 x g w c a b = k0_pay10 (k0_pay1 x g) (View.ld w r0_9) := by
  unfold out0_11
  rw [canon_rows, pay30_eq, pay31_eq]

/-- A load of 512 columns of the weights. -/
theorem ld_columns (o : ℕ) (ho : o + 512 ≤ 3072) (h : ∀ d, (![0, o] : Fin 2 → ℕ) d + S1024x512.size d ≤ S1024x3072.size d) (k : Fin 1024) (j : Fin 512) :
    View.ld w (Rect.unit (s := S1024x3072) ![0, o] S1024x512.size h) (ix2 k j) = w (ix2 k ⟨o + j.val, by omega⟩) := by
  rw [View.ld_unit]
  exact extractStridedSlice_apply _ _ _ _ _ (fun d => match d with
    | ⟨0, _⟩ => by show k.val = 0 + k.val; omega
    | ⟨1, _⟩ => rfl)

/-- A row's projection on 512 columns … -/
theorem plain_block (o : ℕ) (ho : o + 512 ≤ 3072) (h : ∀ d, (![0, o] : Fin 2 → ℕ) d + S1024x512.size d ≤ S1024x3072.size d) (r : Fin 32) (j : Fin 512) :
    k0_pay10 (k0_pay1 x g) (View.ld w (Rect.unit (s := S1024x3072) ![0, o] S1024x512.size h)) (ix2 r j) =
      projAt (Mlp.normAt (fun k => x (ix2 r k)) (fun k => g (ix2 0 k))) (fun k => w (ix2 k ⟨o + j.val, by omega⟩)) := by
  rw [pay10_apply]
  simp only [pay1_apply]
  congr 1
  funext k
  exact ld_columns w o ho h k j

/-- … and turned through the tables' row. -/
theorem turned_block (o : ℕ) (ho : o + 512 ≤ 3072) (h : ∀ d, (![0, o] : Fin 2 → ℕ) d + S1024x512.size d ≤ S1024x3072.size d) (r : Fin 32) (j : Fin 512) :
    turnBlock (k0_pay10 (k0_pay1 x g) (View.ld w (Rect.unit (s := S1024x3072) ![0, o] S1024x512.size h))) c a b (ix2 r j) =
      laneTurn (fun j => projAt (Mlp.normAt (fun k => x (ix2 r k)) (fun k => g (ix2 0 k))) (fun k => w (ix2 k ⟨o + j.val, by omega⟩)))
        (fun l => c (ix2 r l)) (fun l => a (ix2 r l)) (fun l => b (ix2 r l)) j := by
  rw [turnBlock_apply]
  simp only [plain_block x g w o ho h]

end Cert.Proof.SampleIn
-- ==== Proof.SampleIn.Tables.lean ====
/-
  The three tables the sample group's heads are turned by: 32 rows, all of the one position 16384, and 128 lanes for two heads.
-/
module

public import proofs.«01_k».proof.Proof.SampleIn.Block

@[expose] public section

noncomputable section

namespace Cert.Proof.SampleIn

open Idealize.ShloMosaic Idealize.ShloMosaic.TcCoe Cert.SampleInIdeal Cert.SampleInIdeal.Gen Cert.SampleInIdeal.Value
open Cert.Proof.InProj (cosLane upLane downLane)

/-- The angle of the position at lane `k`. -/
def angAt (k : Fin 8) : EReal :=
  FloatOps.sitofp (F := Ideal) FTy.f32 16384#32 *
    Ideal.exp (Ideal.ofBits .f32 0xC151F533#32 * FloatOps.sitofp (F := Ideal) FTy.f32 (BitVec.ofNat 32 k.val) * Ideal.ofBits .f32 0x3E000000#32)

def cosAt (k : Fin 8) : EReal := Ideal.cos (angAt k)
def sinAt (k : Fin 8) : EReal := Ideal.sin (angAt k)

/-- The angles, row by row. -/
def angles : FVec Ideal S32x8 .f32 :=
  mulf (broadcastInDim S32x8 ![0, 1] bcast_S32x1_S32x8_0_1
      (broadcastInDim S32x1 ![0] bcast_S32_S32x1_0 (sitofp (F := Ideal) .f32 (broadcastInDim S32 ![] bcast_S_S32 (constantI S_ 32 16384#32)))))
    (broadcastInDim S32x8 ![0, 1] bcast_S1x8_S32x8_0_1 (broadcastInDim S1x8 ![1] bcast_S8_S1x8_1
      (Host.exp (mulf (mulf (broadcastInDim S8 ![] bcast_S_S8 (constant (F := Ideal) S_ .f32 0xC151F533#32)) (sitofp (F := Ideal) .f32 (iotaInDim S8 32 0)))
        (broadcastInDim S8 ![] bcast_S_S8 (constant (F := Ideal) S_ .f32 0x3E000000#32))))))

def zeros : FVec Ideal S32x8 .f32 := broadcastInDim S32x8 ![] bcast_S_S32x8 (constant (F := Ideal) S_ .f32 0x00000000#32)
def zeros48 : FVec Ideal S32x48 .f32 := broadcastInDim S32x48 ![] bcast_S_S32x48 (constant (F := Ideal) S_ .f32 0x00000000#32)
def ones48 : FVec Ideal S32x48 .f32 :=
  addf zeros48 (broadcastInDim S32x48 ![] bcast_S_S32x48 (constant (F := Ideal) S_ .f32 0x3F800000#32))

/-- One head's 64 lanes beside each other, from 8, 8 and 48. -/
def lanes (p q : FVec Ideal S32x8 .f32) (o : FVec Ideal S32x48 .f32) : FVec Ideal S32x64 .f32 :=
  concatenate S32x64 1 [⟨S32x8, p⟩, ⟨S32x8, q⟩, ⟨S32x48, o⟩] concatenates_S32x8_S32x8_S32x48_S32x64_d1

/-- The same lanes for two heads. -/
def twice (v : FVec Ideal S32x64 .f32) : FVec Ideal S32x128 .f32 :=
  shapeCast S32x128 (broadcastInDim S1x32x2x64 ![0, 1, 2, 3] bcast_S1x32x1x64_S1x32x2x64_0_1_2_3
    (shapeCast S1x32x1x64 v shapeCasts_S32x64_S1x32x1x64)) shapeCasts_S1x32x2x64_S32x128

def cosTable : FVec Ideal S32x128 .f32 := twice (lanes (Host.cos angles) (Host.cos angles) ones48)
def upTable : FVec Ideal S32x128 .f32 := twice (lanes (Host.negf (Host.sin angles)) zeros zeros48)
def downTable : FVec Ideal S32x128 .f32 := twice (lanes zeros (Host.sin angles) zeros48)

section
variable (m : (ℓ : Loc nD τ sig) → Buf (Elt Ideal) ℓ) (c : Dev nD)

theorem V_main_v28 : V m c main_v28 = cosTable := by
  show StableHlo.after hostOps0 _ (Proc.devRef .tc main_v28) = _
  after_results
  rfl

theorem V_main_v31 : V m c main_v31 = upTable := by
  show StableHlo.after hostOps0 _ (Proc.devRef .tc main_v31) = _
  after_results
  rfl

theorem V_main_v34 : V m c main_v34 = downTable := by
  show StableHlo.after hostOps0 _ (Proc.devRef .tc main_v34) = _
  after_results
  rfl
end

theorem angles_apply (s : Fin 32) (k : Fin 8) : angles (ix2 s k) = angAt k := by
  unfold angles angAt
  pointwise

theorem cos_apply (s : Fin 32) (k : Fin 8) : Host.cos angles (ix2 s k) = cosAt k := by
  unfold cosAt
  pointwise [angles_apply]

theorem sin_apply (s : Fin 32) (k : Fin 8) : Host.sin angles (ix2 s k) = sinAt k := by
  unfold sinAt
  pointwise [angles_apply]

theorem neg_sin_apply (s : Fin 32) (k : Fin 8) : Host.negf (Host.sin angles) (ix2 s k) = -sinAt k := by
  show -(Host.sin angles (ix2 s k)) = _
  rw [sin_apply]

theorem zeros_apply (s : Fin 32) (k : Fin 8) : zeros (ix2 s k) = 0 := by
  unfold zeros
  pointwise

theorem zeros48_apply (s : Fin 32) (k : Fin 48) : zeros48 (ix2 s k) = 0 := by
  unfold zeros48
  pointwise

theorem ones48_apply (s : Fin 32) (k : Fin 48) : ones48 (ix2 s k) = 1 := by
  show zeros48 (ix2 s k) + broadcastInDim S32x48 ![] bcast_S_S32x48 (constant (F := Ideal) S_ .f32 0x3F800000#32) (ix2 s k) = 1
  rw [zeros48_apply]
  pointwise

theorem twice_apply (v : FVec Ideal S32x64 .f32) (s : Fin 32) (l : Fin 128) :
    twice v (ix2 s l) = v (ix2 s ⟨l.val % 64, by omega⟩) := by
  unfold twice
  refine (shapeCast_apply _ _ (ix2 s l) (ix4 0 s (⟨l.val / 64, by omega⟩ : Fin 2) (⟨l.val % 64, by omega⟩ : Fin 64)) (by
    rw [Shape.rowMajor_val_two, Shape.rowMajor_val_four]
    show ((0 * 32 + s.val) * 2 + l.val / 64) * 64 + l.val % 64 = s.val * 128 + l.val
    omega)).trans ?_
  refine Eq.trans ?_ (shapeCast_apply v shapeCasts_S32x64_S1x32x1x64 (ix4 0 s 0 (⟨l.val % 64, by omega⟩ : Fin 64)) (ix2 s ⟨l.val % 64, by omega⟩) (by
    rw [Shape.rowMajor_val_two, Shape.rowMajor_val_four]
    show s.val * 64 + l.val % 64 = ((0 * 32 + s.val) * 1 + 0) * 64 + l.val % 64
    omega))
  pointwise

/-- The three parts of a head's lanes. -/
theorem lanes_apply (p q : FVec Ideal S32x8 .f32) (o : FVec Ideal S32x48 .f32) (s : Fin 32) (l : Fin 64) :
    lanes p q o (ix2 s l) =
      if h : l.val < 8 then p (ix2 s ⟨l.val, h⟩)
      else if h' : l.val < 16 then q (ix2 s ⟨l.val - 8, by omega⟩) else o (ix2 s ⟨l.val - 16, by omega⟩) := by
  have off : ∀ {n : ℕ} (k : Fin n) (b : Fin 2), b ≠ 1 → (ix2 s k b).val = (ix2 s l b).val := fun k b hb => match b with
    | ⟨0, _⟩ => rfl
    | ⟨1, _⟩ => absurd rfl hb
  unfold lanes
  by_cases h : l.val < 8
  · rw [dif_pos h]
    exact concatenate_apply_piece (t := S32x64) 1 _ _ _ 0 (by show 0 < 3; omega) S32x8 _ rfl rfl 0 rfl
      (ix2 s (⟨l.val, h⟩ : Fin 8)) (off _) (by show 0 + l.val = l.val; omega)
  · rw [dif_neg h]
    by_cases h' : l.val < 16
    · rw [dif_pos h']
      exact concatenate_apply_piece (t := S32x64) 1 _ _ _ 1 (by show 1 < 3; omega) S32x8 _ rfl rfl 8 rfl
        (ix2 s (⟨l.val - 8, by omega⟩ : Fin 8)) (off _) (by show 8 + (l.val - 8) = l.val; omega)
    · rw [dif_neg h']
      exact concatenate_apply_piece (t := S32x64) 1 _ _ _ 2 (by show 2 < 3; omega) S32x48 _ rfl rfl 16 rfl
        (ix2 s (⟨l.val - 16, by omega⟩ : Fin 48)) (off _) (by show 16 + (l.val - 16) = l.val; omega)

theorem cosTable_apply (s : Fin 32) (l : Fin 128) : cosTable (ix2 s l) = cosLane cosAt l := by
  unfold cosTable cosLane
  rw [twice_apply, lanes_apply]
  simp only [cos_apply, ones48_apply]

theorem upTable_apply (s : Fin 32) (l : Fin 128) : upTable (ix2 s l) = upLane sinAt l := by
  unfold upTable upLane
  rw [twice_apply, lanes_apply]
  simp only [neg_sin_apply, zeros_apply, zeros48_apply, dite_eq_ite, ite_self]

theorem downTable_apply (s : Fin 32) (l : Fin 128) : downTable (ix2 s l) = downLane sinAt l := by
  unfold downTable downLane
  rw [twice_apply, lanes_apply]
  by_cases h : l.val % 64 < 8
  · simp only [dif_pos h, if_pos h, zeros_apply]
  · simp only [dif_neg h, if_neg h, sin_apply, zeros48_apply]

end Cert.Proof.SampleIn
-- ==== Proof.SampleIn.Arrays.lean ====
/-
  The six arrays the sample group's input projection leaves, entry by entry. Its one grid point reads and writes whole arrays.
-/
module

public import proofs.«01_k».proof.Proof.SampleIn.Tables

@[expose] public section

noncomputable section

namespace Cert.Proof.SampleIn

open Idealize.ShloMosaic Idealize.ShloMosaic.TcCoe Cert.SampleInIdeal Cert.SampleInIdeal.Gen Cert.SampleInIdeal.Value
open Cert.Proof.InProj (projAt turnAt cosLane upLane downLane laneTurn_eq)

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem V_main_v0 : V m c main_v0 = shapeCast S32x1024 (arg m c main_arg0) shapeCasts_S32x1x1024_S32x1024 := by
  show StableHlo.after hostOps0 _ (Proc.devRef .tc main_v0) = _
  after_results
  rfl

theorem V_main_v1 : V m c main_v1 = truncf (F := Ideal) (φ := .f32) .bf16 (arg m c main_arg2) bitsLt_bf16_f32 := by
  show StableHlo.after hostOps0 _ (Proc.devRef .tc main_v1) = _
  after_results

theorem V_main_v35 : V m c main_v35 = shapeCast S1x1024 (arg m c main_arg1) shapeCasts_S1024_S1x1024 := by
  show StableHlo.after hostOps0 _ (Proc.devRef .tc main_v35) = _
  after_results
  rfl

/-! ## The six blocks read -/

theorem index0 : ∀ (t : Fin cfg0.N) (a : Fin 2), win0_0.index t a = 0 := (by decide +kernel : ∀ (t : Fin grid0.N) (a : Fin 2), _)
theorem index1 : ∀ (t : Fin cfg0.N) (a : Fin 2), win0_1.index t a = 0 := (by decide +kernel : ∀ (t : Fin grid0.N) (a : Fin 2), _)
theorem index2 : ∀ (t : Fin cfg0.N) (a : Fin 2), win0_2.index t a = 0 := (by decide +kernel : ∀ (t : Fin grid0.N) (a : Fin 2), _)
theorem index3 : ∀ (t : Fin cfg0.N) (a : Fin 2), win0_3.index t a = 0 := (by decide +kernel : ∀ (t : Fin grid0.N) (a : Fin 2), _)
theorem index4 : ∀ (t : Fin cfg0.N) (a : Fin 2), win0_4.index t a = 0 := (by decide +kernel : ∀ (t : Fin grid0.N) (a : Fin 2), _)
theorem index5 : ∀ (t : Fin cfg0.N) (a : Fin 2), win0_5.index t a = 0 := (by decide +kernel : ∀ (t : Fin grid0.N) (a : Fin 2), _)
theorem index6 : ∀ (t : Fin cfg0.N) (a : Fin 2), win0_6.index t a = 0 := (by decide +kernel : ∀ (t : Fin grid0.N) (a : Fin 2), _)

/-- The entries' rows as one array. -/
theorem flat_apply (x : Vec Ideal S32x1x1024 .f32) (r : Fin 32) (k : Fin 1024) :
    shapeCast S32x1024 x shapeCasts_S32x1x1024_S32x1024 (ix2 r k) = x (ix3 r 0 k) := by
  refine shapeCast_apply _ _ _ _ ?_
  rw [Shape.rowMajor_val_three, Shape.rowMajor_val_two]
  show (r.val * 1 + 0) * 1024 + k.val = r.val * 1024 + k.val
  omega

/-- The rows. -/
theorem block0_apply (t : Fin cfg0.N) (r : Fin 32) (k : Fin 1024) :
    (iblk m c 0 t : Vec Ideal S32x1024 .f32) (ix2 r k) = (arg m c main_arg0 : Vec Ideal S32x1x1024 .f32) (ix3 r 0 k) := by
  have hz : (fun a => win0_0.index t a * main_v0.ty.shape.size a) = fun _ => 0 := funext fun a => by
    rw [index0 t a, Nat.zero_mul]
  have e : (iblk m c 0 t : Vec Ideal S32x1024 .f32) = V m c main_v0 :=
    Memref.read_access_unit_zero (Elt Ideal) main_v0 hz (fun a => by rw [congrFun hz a]; simp) (V m c main_v0)
  rw [e, V_main_v0]
  exact flat_apply _ r k

/-- The gain. -/
theorem block1_apply (t : Fin cfg0.N) (k : Fin 1024) :
    (iblk m c 1 t : Vec Ideal S1x1024 .f32) (ix2 0 k) = (arg m c main_arg1 : Vec Ideal S1024 .f32) (ix1 k) := by
  have hz : (fun a => win0_1.index t a * main_v35.ty.shape.size a) = fun _ => 0 := funext fun a => by
    rw [index1 t a, Nat.zero_mul]
  have e : (iblk m c 1 t : Vec Ideal S1x1024 .f32) = V m c main_v35 :=
    Memref.read_access_unit_zero (Elt Ideal) main_v35 hz (fun a => by rw [congrFun hz a]; simp) (V m c main_v35)
  rw [e, V_main_v35]
  pointwise

/-- The weights. -/
theorem block2_apply (t : Fin cfg0.N) (k : Fin 1024) (j : Fin 3072) :
    (iblk m c 2 t : Vec Ideal S1024x3072 .bf16) (ix2 k j) = (arg m c main_arg2 : Vec Ideal S1024x3072 .f32) (ix2 k j) := by
  have hz : (fun a => win0_2.index t a * main_v1.ty.shape.size a) = fun _ => 0 := funext fun a => by
    rw [index2 t a, Nat.zero_mul]
  have e : (iblk m c 2 t : Vec Ideal S1024x3072 .bf16) = V m c main_v1 :=
    Memref.read_access_unit_zero (Elt Ideal) main_v1 hz (fun a => by rw [congrFun hz a]; simp) (V m c main_v1)
  rw [e, V_main_v1]
  rfl

/-- The three tables. -/
theorem block3_apply (t : Fin cfg0.N) (r : Fin 32) (l : Fin 128) : (iblk m c 3 t : Vec Ideal S32x128 .f32) (ix2 r l) = cosLane cosAt l := by
  have hz : (fun a => win0_3.index t a * main_v28.ty.shape.size a) = fun _ => 0 := funext fun a => by
    rw [index3 t a, Nat.zero_mul]
  have e : (iblk m c 3 t : Vec Ideal S32x128 .f32) = V m c main_v28 :=
    Memref.read_access_unit_zero (Elt Ideal) main_v28 hz (fun a => by rw [congrFun hz a]; simp) (V m c main_v28)
  rw [e, V_main_v28, cosTable_apply]

theorem block4_apply (t : Fin cfg0.N) (r : Fin 32) (l : Fin 128) : (iblk m c 4 t : Vec Ideal S32x128 .f32) (ix2 r l) = upLane sinAt l := by
  have hz : (fun a => win0_4.index t a * main_v31.ty.shape.size a) = fun _ => 0 := funext fun a => by
    rw [index4 t a, Nat.zero_mul]
  have e : (iblk m c 4 t : Vec Ideal S32x128 .f32) = V m c main_v31 :=
    Memref.read_access_unit_zero (Elt Ideal) main_v31 hz (fun a => by rw [congrFun hz a]; simp) (V m c main_v31)
  rw [e, V_main_v31, upTable_apply]

theorem block5_apply (t : Fin cfg0.N) (r : Fin 32) (l : Fin 128) : (iblk m c 5 t : Vec Ideal S32x128 .f32) (ix2 r l) = downLane sinAt l := by
  have hz : (fun a => win0_5.index t a * main_v34.ty.shape.size a) = fun _ => 0 := funext fun a => by
    rw [index5 t a, Nat.zero_mul]
  have e : (iblk m c 5 t : Vec Ideal S32x128 .f32) = V m c main_v34 :=
    Memref.read_access_unit_zero (Elt Ideal) main_v34 hz (fun a => by rw [congrFun hz a]; simp) (V m c main_v34)
  rw [e, V_main_v34, downTable_apply]

/-! ## What the point stores -/

/-- Row `i` on the columns from `o`. -/
def rowAt (x : Vec Ideal S32x1x1024 .f32) (g : Vec Ideal S1024 .f32) (w : Vec Ideal S1024x3072 .f32) (o : ℕ) (ho : o + 512 ≤ 3072)
    (i : Fin 32) (j : Fin 512) : EReal :=
  projAt (Mlp.normAt (fun k => x (ix3 i 0 k)) (fun k => g (ix1 k))) (fun k => w (ix2 k ⟨o + j.val, by omega⟩))

/-- The row, of the arguments as launched. -/
abbrev row (o : ℕ) (ho : o + 512 ≤ 3072) (i : Fin 32) : Fin 512 → EReal :=
  rowAt (arg m c main_arg0) (arg m c main_arg1) (arg m c main_arg2) o ho i

theorem plain_point (o : ℕ) (ho : o + 512 ≤ 3072) (h) (t : Fin cfg0.N) (i : Fin 32) (j : Fin 512) :
    k0_pay10 (k0_pay1 (iblk m c 0 t) (iblk m c 1 t)) (View.ld (iblk m c 2 t) (Rect.unit (s := S1024x3072) ![0, o] S1024x512.size h)) (ix2 i j) =
      row m c o ho i j := by
  rw [plain_block _ _ _ o ho h]
  simp only [block0_apply, block1_apply, block2_apply]
  rfl

theorem turned_point (o : ℕ) (ho : o + 512 ≤ 3072) (h) (t : Fin cfg0.N) (i : Fin 32) (j : Fin 512) :
    turnBlock (k0_pay10 (k0_pay1 (iblk m c 0 t) (iblk m c 1 t)) (View.ld (iblk m c 2 t) (Rect.unit (s := S1024x3072) ![0, o] S1024x512.size h)))
        (iblk m c 3 t) (iblk m c 4 t) (iblk m c 5 t) (ix2 i j) =
      turnAt (row m c o ho i) cosAt sinAt j := by
  rw [turned_block _ _ _ _ _ _ o ho h]
  simp only [block0_apply, block1_apply, block2_apply, block3_apply, block4_apply, block5_apply]
  exact laneTurn_eq _ _ _ _

/-- The point writes its six blocks. -/
theorem flushes : ∀ (w : Fin 12) (t : Fin cfg0.N), 6 ≤ w.val → (cfg0.win w).flush t = true :=
  (by decide +kernel : ∀ (w : Fin 12) (t : Fin grid0.N), 6 ≤ w.val → _)

/-- An entry's place in the block is its place in the array. -/
theorem rows_of (A : Vec Ideal S32x512 .f32) (q : S32x512.Idx) (i : Fin 32) (j : Fin 512)
    (h0 : (q 0).val = win0_6.index t0_0 (0 : Fin 2) * 32 + 1 * i.val)
    (h1 : (q 1).val = win0_6.index t0_0 (1 : Fin 2) * 512 + 1 * j.val) : A (ix2 i j) = A q := by
  rw [index6] at h0 h1
  congr 1
  funext a
  apply Fin.ext
  match a with
  | ⟨0, _⟩ =>
    refine Eq.trans ?_ h0.symm
    show i.val = 0 * 32 + 1 * i.val
    omega
  | ⟨1, _⟩ =>
    refine Eq.trans ?_ h1.symm
    show j.val = 0 * 512 + 1 * j.val
    omega

variable (i : Fin 32) (j : Fin 512)

theorem array6 : ((dats m 0 c).arrAt 6 cfg0.N : Vec Ideal S32x512 .f32) (ix2 i j) = turnAt (row m c 0 (by omega) i) cosAt sinAt j := by
  have e := congrFun ((blocks6 m c t0_0 (flushes 6 _ (by decide))).trans (flushed6 m c t0_0)) (ix2 i j)
  rw [View.read_apply, out6_eq] at e
  exact (rows_of _ _ i j rfl rfl).trans (e.trans (turned_point m c 0 _ _ _ i j))

theorem array7 : ((dats m 0 c).arrAt 7 cfg0.N : Vec Ideal S32x512 .f32) (ix2 i j) = turnAt (row m c 512 (by omega) i) cosAt sinAt j := by
  have e := congrFun ((blocks7 m c t0_0 (flushes 7 _ (by decide))).trans (flushed7 m c t0_0)) (ix2 i j)
  rw [View.read_apply, out7_eq] at e
  exact (rows_of _ _ i j rfl rfl).trans (e.trans (turned_point m c 512 _ _ _ i j))

theorem array8 : ((dats m 0 c).arrAt 8 cfg0.N : Vec Ideal S32x512 .f32) (ix2 i j) = row m c 1024 (by omega) i j := by
  have e := congrFun ((blocks8 m c t0_0 (flushes 8 _ (by decide))).trans (flushed8 m c t0_0)) (ix2 i j)
  rw [View.read_apply, out8_eq] at e
  exact (rows_of _ _ i j rfl rfl).trans (e.trans (plain_point m c 1024 _ _ _ i j))

theorem array9 : ((dats m 0 c).arrAt 9 cfg0.N : Vec Ideal S32x512 .f32) (ix2 i j) = turnAt (row m c 1536 (by omega) i) cosAt sinAt j := by
  have e := congrFun ((blocks9 m c t0_0 (flushes 9 _ (by decide))).trans (flushed9 m c t0_0)) (ix2 i j)
  rw [View.read_apply, out9_eq] at e
  exact (rows_of _ _ i j rfl rfl).trans (e.trans (turned_point m c 1536 _ _ _ i j))

theorem array10 : ((dats m 0 c).arrAt 10 cfg0.N : Vec Ideal S32x512 .f32) (ix2 i j) = turnAt (row m c 2048 (by omega) i) cosAt sinAt j := by
  have e := congrFun ((blocks10 m c t0_0 (flushes 10 _ (by decide))).trans (flushed10 m c t0_0)) (ix2 i j)
  rw [View.read_apply, out10_eq] at e
  exact (rows_of _ _ i j rfl rfl).trans (e.trans (turned_point m c 2048 _ _ _ i j))

theorem array11 : ((dats m 0 c).arrAt 11 cfg0.N : Vec Ideal S32x512 .f32) (ix2 i j) = row m c 2560 (by omega) i j := by
  have e := congrFun ((blocks11 m c t0_0 (flushes 11 _ (by decide))).trans (flushed11 m c t0_0)) (ix2 i j)
  rw [View.read_apply, out11_eq] at e
  exact (rows_of _ _ i j rfl rfl).trans (e.trans (plain_point m c 2560 _ _ _ i j))

end Cert.Proof.SampleIn
-- ==== Proof.SampleIn.Ref.lean ====
/-
  The reference of the sample group's input projection, entry by entry.
-/
module

public import proofs.«01_k».proof.Proof.Gen.SampleInReferenceIdeal.Read
public import proofs.«01_k».proof.Proof.SampleIn.Arrays

@[expose] public section

noncomputable section

namespace Cert.Proof.SampleIn.Ref

open Idealize.ShloMosaic Cert.SampleInReferenceIdeal Cert.SampleInReferenceIdeal.Gen Cert.SampleInReferenceIdeal.Read
open Cert.Proof.InProj (projAt turnAt)

variable (x0 : FVec Ideal S32x1x1024 .f32) (x1 : FVec Ideal S1024 .f32) (x2 : FVec Ideal S1024x3072 .f32)

/-- The normalised rows. -/
theorem norm_apply (i : Fin 32) (k : Fin 1024) :
    val_main_v12 (F := Ideal) x0 x1 (ix3 i 0 k) = Mlp.normAt (fun k => x0 (ix3 i 0 k)) (fun k => x1 (ix1 k)) k := by
  unfold val_main_v12 val_main_v11 val_main_v10 val_main_v9 val_main_v8 val_main_v7 val_main_v6 val_main_v5 val_main_v4 val_main_v3
    val_main_v2 val_main_v1 val_main_v0 val_main_cst val_main_cst_0 val_main_cst_1 Mlp.normAt
  pointwise

/-- The projection. -/
theorem proj_apply (i : Fin 32) (j : Fin 3072) :
    val_main_v13 (F := Ideal) x0 x1 x2 (ix3 i 0 j) =
      projAt (Mlp.normAt (fun k => x0 (ix3 i 0 k)) (fun k => x1 (ix1 k))) (fun k => x2 (ix2 k j)) := by
  unfold val_main_v13 projAt
  pointwise [norm_apply]

/-- The position: 16384, and none after it. -/
theorem position_apply : val_main_v16 (F := Ideal) (ix1 0) = 16384#32 := by
  unfold val_main_v16 val_main_v15 val_main_v14 val_main_c
  rfl

/-- The angle at a lane. -/
theorem angle_apply (k : Fin 8) : val_main_v28 (F := Ideal) (ix3 0 0 k) = angAt k := by
  unfold val_main_v28 val_main_v27 val_main_v26 val_main_v25 val_main_v24 val_main_v23 val_main_v22 val_main_v21 val_main_v20 val_main_v19
    val_main_v18 val_main_v17 val_main_cst_2 val_main_cst_3 angAt
  pointwise [position_apply]

theorem cos_apply (k : Fin 8) : val_main_v29 (F := Ideal) (ix3 0 0 k) = cosAt k := by
  unfold val_main_v29 cosAt
  pointwise [angle_apply]

theorem sin_apply (k : Fin 8) : val_main_v30 (F := Ideal) (ix3 0 0 k) = sinAt k := by
  unfold val_main_v30 sinAt
  pointwise [angle_apply]

/-- The lanes as eight heads. -/
def heads (u : FVec Ideal S32x1x512 .f32) : FVec Ideal S32x1x8x64 .f32 := shapeCast S32x1x8x64 u shapeCasts_S32x1x512_S32x1x8x64

/-- A table's row, for every entry and head. -/
def every (v : FVec Ideal S1x1x8 .f32) : FVec Ideal S32x1x8x8 .f32 :=
  broadcastInDim S32x1x8x8 ![0, 1, 2, 3] bcast_S1x1x1x8_S32x1x8x8_0_1_2_3
    (broadcastInDim S1x1x1x8 ![1, 2, 3] bcast_S1x1x8_S1x1x1x8_1_2_3 v)

/-- The first 8 lanes of each head, the next 8, and the others. -/
def first (u : FVec Ideal S32x1x512 .f32) : FVec Ideal S32x1x8x8 .f32 :=
  extractStridedSlice S32x1x8x8 ![0, 0, 0, 0] (heads u) slices_S32x1x8x64_S32x1x8x8_0_0_0_0
def second (u : FVec Ideal S32x1x512 .f32) : FVec Ideal S32x1x8x8 .f32 :=
  extractStridedSlice S32x1x8x8 ![0, 0, 0, 8] (heads u) slices_S32x1x8x64_S32x1x8x8_0_0_0_8
def others (u : FVec Ideal S32x1x512 .f32) : FVec Ideal S32x1x8x48 .f32 :=
  extractStridedSlice S32x1x8x48 ![0, 0, 0, 16] (heads u) slices_S32x1x8x64_S32x1x8x48_0_0_0_16

/-- The heads turned by the position. -/
def turned (u : FVec Ideal S32x1x512 .f32) : FVec Ideal S32x1x512 .f32 :=
  shapeCast S32x1x512 (concatenate S32x1x8x64 3
    [⟨S32x1x8x8, subf (mulf (first u) (every (val_main_v29 (F := Ideal)))) (mulf (second u) (every (val_main_v30 (F := Ideal))))⟩,
     ⟨S32x1x8x8, addf (mulf (second u) (every (val_main_v29 (F := Ideal)))) (mulf (first u) (every (val_main_v30 (F := Ideal))))⟩,
     ⟨S32x1x8x48, others u⟩]
    concatenates_S32x1x8x8_S32x1x8x8_S32x1x8x48_S32x1x8x64_d3) shapeCasts_S32x1x8x64_S32x1x512

theorem heads_apply (u : FVec Ideal S32x1x512 .f32) (i : Fin 32) (h : Fin 8) (l : Fin 64) :
    heads u (ix4 i 0 h l) = u (ix3 i 0 ⟨64 * h.val + l.val, by omega⟩) := by
  unfold heads
  refine shapeCast_apply _ _ _ _ ?_
  rw [Shape.rowMajor_val_three, Shape.rowMajor_val_four]
  show (i.val * 1 + 0) * 512 + (64 * h.val + l.val) = ((i.val * 1 + 0) * 8 + h.val) * 64 + l.val
  omega

theorem every_apply (v : FVec Ideal S1x1x8 .f32) (i : Fin 32) (h k : Fin 8) : every v (ix4 i 0 h k) = v (ix3 0 0 k) := by
  unfold every
  pointwise

theorem first_apply (u : FVec Ideal S32x1x512 .f32) (i : Fin 32) (h k : Fin 8) :
    first u (ix4 i 0 h k) = u (ix3 i 0 ⟨64 * h.val + k.val, by omega⟩) := by
  unfold first
  refine Eq.trans ?_ (heads_apply u i h ⟨k.val, by omega⟩)
  pointwise

theorem second_apply (u : FVec Ideal S32x1x512 .f32) (i : Fin 32) (h k : Fin 8) :
    second u (ix4 i 0 h k) = u (ix3 i 0 ⟨64 * h.val + (8 + k.val), by omega⟩) := by
  unfold second
  refine Eq.trans ?_ (heads_apply u i h ⟨8 + k.val, by omega⟩)
  pointwise

theorem others_apply (u : FVec Ideal S32x1x512 .f32) (i : Fin 32) (h : Fin 8) (k : Fin 48) :
    others u (ix4 i 0 h k) = u (ix3 i 0 ⟨64 * h.val + (16 + k.val), by omega⟩) := by
  unfold others
  refine Eq.trans ?_ (heads_apply u i h ⟨16 + k.val, by omega⟩)
  pointwise

/-- The rotation. -/
theorem turned_apply (u : FVec Ideal S32x1x512 .f32) (i : Fin 32) (j : Fin 512) :
    turned u (ix3 i 0 j) = turnAt (fun j => u (ix3 i 0 j)) cosAt sinAt j := by
  unfold turned
  refine (shapeCast_apply _ _ (ix3 i 0 j) (ix4 i 0 (⟨j.val / 64, by omega⟩ : Fin 8) (⟨j.val % 64, by omega⟩ : Fin 64)) (by
    rw [Shape.rowMajor_val_three, Shape.rowMajor_val_four]
    show ((i.val * 1 + 0) * 8 + j.val / 64) * 64 + j.val % 64 = (i.val * 1 + 0) * 512 + j.val
    omega)).trans ?_
  have off : ∀ {n : ℕ} (k : Fin n) (b : Fin 4), b ≠ 3 → (ix4 i (0 : Fin 1) (⟨j.val / 64, by omega⟩ : Fin 8) k b).val
      = (ix4 i (0 : Fin 1) (⟨j.val / 64, by omega⟩ : Fin 8) (⟨j.val % 64, by omega⟩ : Fin 64) b).val := fun k b hb => match b with
    | ⟨0, _⟩ => rfl
    | ⟨1, _⟩ => rfl
    | ⟨2, _⟩ => rfl
    | ⟨3, _⟩ => absurd rfl hb
  have same : ∀ a b : Fin 512, a.val = b.val → u (ix3 i 0 a) = u (ix3 i 0 b) := fun a b h => by rw [Fin.ext h]
  unfold turnAt
  by_cases h : j.val % 64 < 8
  · rw [dif_pos h]
    refine (concatenate_apply_piece (t := S32x1x8x64) 3 _ _ _ 0 (by show 0 < 3; omega) S32x1x8x8 _ rfl rfl 0 rfl
      (ix4 i 0 (⟨j.val / 64, by omega⟩ : Fin 8) (⟨j.val % 64, h⟩ : Fin 8)) (off _) (by show 0 + j.val % 64 = j.val % 64; omega)).trans ?_
    show first u _ * every _ _ - second u _ * every _ _ = _
    rw [first_apply, second_apply, every_apply, every_apply, cos_apply, sin_apply]
    exact congrArg₂ (· - ·)
      (congrArg (· * _) (same _ _ (by show 64 * (j.val / 64) + j.val % 64 = j.val; omega)))
      (congrArg (· * _) (same _ _ (by show 64 * (j.val / 64) + (8 + j.val % 64) = j.val + 8; omega)))
  · rw [dif_neg h]
    by_cases h' : j.val % 64 < 16
    · rw [dif_pos h']
      refine (concatenate_apply_piece (t := S32x1x8x64) 3 _ _ _ 1 (by show 1 < 3; omega) S32x1x8x8 _ rfl rfl 8 rfl
        (ix4 i 0 (⟨j.val / 64, by omega⟩ : Fin 8) (⟨j.val % 64 - 8, by omega⟩ : Fin 8)) (off _) (by show 8 + (j.val % 64 - 8) = j.val % 64; omega)).trans ?_
      show second u _ * every _ _ + first u _ * every _ _ = _
      rw [first_apply, second_apply, every_apply, every_apply, cos_apply, sin_apply]
      exact congrArg₂ (· + ·)
        (congrArg (· * _) (same _ _ (by show 64 * (j.val / 64) + (8 + (j.val % 64 - 8)) = j.val; omega)))
        (congrArg (· * _) (same _ _ (by show 64 * (j.val / 64) + (j.val % 64 - 8) = j.val - 8; omega)))
    · rw [dif_neg h']
      refine (concatenate_apply_piece (t := S32x1x8x64) 3 _ _ _ 2 (by show 2 < 3; omega) S32x1x8x48 _ rfl rfl 16 rfl
        (ix4 i 0 (⟨j.val / 64, by omega⟩ : Fin 8) (⟨j.val % 64 - 16, by omega⟩ : Fin 48)) (off _) (by show 16 + (j.val % 64 - 16) = j.val % 64; omega)).trans ?_
      rw [others_apply]
      exact same _ _ (by show 64 * (j.val / 64) + (16 + (j.val % 64 - 16)) = j.val; omega)

/-- A block of 512 columns of the projection … -/
theorem cut_apply (o : ℕ) (ho : o + 512 ≤ 3072) (h : S32x1x3072.Slices ![0, 0, o] S32x1x512) (i : Fin 32) (j : Fin 512) :
    extractStridedSlice S32x1x512 ![0, 0, o] (val_main_v13 (F := Ideal) x0 x1 x2) h (ix3 i 0 j) = rowAt x0 x1 x2 o ho i j :=
  (extractStridedSlice_apply _ _ h _ (ix3 i 0 (⟨o + j.val, by omega⟩ : Fin 3072)) (fun d => match d with
    | ⟨0, _⟩ => by show i.val = 0 + i.val; omega
    | ⟨1, _⟩ => rfl
    | ⟨2, _⟩ => rfl)).trans (proj_apply x0 x1 x2 i _)

/-- … and turned. -/
theorem turned_cut_apply (o : ℕ) (ho : o + 512 ≤ 3072) (h : S32x1x3072.Slices ![0, 0, o] S32x1x512) (i : Fin 32) (j : Fin 512) :
    turned (extractStridedSlice S32x1x512 ![0, 0, o] (val_main_v13 (F := Ideal) x0 x1 x2) h) (ix3 i 0 j) =
      turnAt (rowAt x0 x1 x2 o ho i) cosAt sinAt j :=
  (turned_apply _ i j).trans (congrArg (fun u => turnAt u cosAt sinAt j) (funext fun j => cut_apply x0 x1 x2 o ho h i j))

/-- The entries' rows as one array. -/
theorem rows_apply (u : FVec Ideal S32x1x512 .f32) (i : Fin 32) (j : Fin 512) :
    shapeCast S32x512 u shapeCasts_S32x1x512_S32x512 (ix2 i j) = u (ix3 i 0 j) := by
  refine shapeCast_apply _ _ _ _ ?_
  rw [Shape.rowMajor_val_three, Shape.rowMajor_val_two]
  show (i.val * 1 + 0) * 512 + j.val = i.val * 512 + j.val
  omega

end Cert.Proof.SampleIn.Ref
-- ==== Proof.SampleIn.Equation.lean ====
/-
  The two sides of the sample group's input projection: entry by entry the same six arrays.
-/
module

public import proofs.«01_k».proof.Proof.SampleIn.Ref

@[expose] public section

noncomputable section

namespace Cert.Proof.SampleIn

open Idealize.ShloMosaic

/-- Two arrays that agree on every row and column. -/
theorem rows_ext (A B : Vec Ideal SampleInIdeal.S32x512 .f32) (h : ∀ i j, A (ix2 i j) = B (ix2 i j)) : A = B := by
  funext q
  have hq : q = ix2 (q 0) (q 1) := funext fun a => match a with
    | ⟨0, _⟩ => rfl
    | ⟨1, _⟩ => rfl
  rw [hq]
  exact h _ _

variable (m : (ℓ : Loc SampleInIdeal.nD SampleInIdeal.τ SampleInIdeal.sig) → Buf (Elt Ideal) ℓ) (c : Dev SampleInIdeal.nD)

theorem same0 : SampleInReferenceIdeal.Read.val_main_v117 (F := Ideal) (arg m c SampleInIdeal.main_arg0) (arg m c SampleInIdeal.main_arg1)
    (arg m c SampleInIdeal.main_arg2) = (SampleInIdeal.Gen.dats m 0 c).arrAt 6 SampleInIdeal.cfg0.N :=
  rows_ext _ _ fun i j => (Ref.rows_apply _ i j).trans ((Ref.turned_cut_apply _ _ _ 0 (by omega) _ i j).trans (array6 m c i j).symm)

theorem same1 : SampleInReferenceIdeal.Read.val_main_v118 (F := Ideal) (arg m c SampleInIdeal.main_arg0) (arg m c SampleInIdeal.main_arg1)
    (arg m c SampleInIdeal.main_arg2) = (SampleInIdeal.Gen.dats m 0 c).arrAt 7 SampleInIdeal.cfg0.N :=
  rows_ext _ _ fun i j => (Ref.rows_apply _ i j).trans ((Ref.turned_cut_apply _ _ _ 512 (by omega) _ i j).trans (array7 m c i j).symm)

theorem same2 : SampleInReferenceIdeal.Read.val_main_v119 (F := Ideal) (arg m c SampleInIdeal.main_arg0) (arg m c SampleInIdeal.main_arg1)
    (arg m c SampleInIdeal.main_arg2) = (SampleInIdeal.Gen.dats m 0 c).arrAt 8 SampleInIdeal.cfg0.N :=
  rows_ext _ _ fun i j => (Ref.rows_apply _ i j).trans ((Ref.cut_apply _ _ _ 1024 (by omega) _ i j).trans (array8 m c i j).symm)

theorem same3 : SampleInReferenceIdeal.Read.val_main_v120 (F := Ideal) (arg m c SampleInIdeal.main_arg0) (arg m c SampleInIdeal.main_arg1)
    (arg m c SampleInIdeal.main_arg2) = (SampleInIdeal.Gen.dats m 0 c).arrAt 9 SampleInIdeal.cfg0.N :=
  rows_ext _ _ fun i j => (Ref.rows_apply _ i j).trans ((Ref.turned_cut_apply _ _ _ 1536 (by omega) _ i j).trans (array9 m c i j).symm)

theorem same4 : SampleInReferenceIdeal.Read.val_main_v121 (F := Ideal) (arg m c SampleInIdeal.main_arg0) (arg m c SampleInIdeal.main_arg1)
    (arg m c SampleInIdeal.main_arg2) = (SampleInIdeal.Gen.dats m 0 c).arrAt 10 SampleInIdeal.cfg0.N :=
  rows_ext _ _ fun i j => (Ref.rows_apply _ i j).trans ((Ref.turned_cut_apply _ _ _ 2048 (by omega) _ i j).trans (array10 m c i j).symm)

theorem same5 : SampleInReferenceIdeal.Read.val_main_v122 (F := Ideal) (arg m c SampleInIdeal.main_arg0) (arg m c SampleInIdeal.main_arg1)
    (arg m c SampleInIdeal.main_arg2) = (SampleInIdeal.Gen.dats m 0 c).arrAt 11 SampleInIdeal.cfg0.N :=
  rows_ext _ _ fun i j => (Ref.rows_apply _ i j).trans ((Ref.cut_apply _ _ _ 2560 (by omega) _ i j).trans (array11 m c i j).symm)

end Cert.Proof.SampleIn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.RnnIn
public import proofs.«01_k».proof.Proof.Gen.RnnIn.Skeleton
public import proofs.«01_k».proof.Proof.Gen.RnnIn.Launch
public import proofs.«01_k».proof.Proof.Gen.RnnIn.Points
public import proofs.«01_k».proof.Proof.Gen.RnnIn.Frame
public import proofs.«01_k».proof.Proof.Gen.RnnInIdeal
public import proofs.«01_k».proof.Proof.Gen.RnnInIdeal.Skeleton
public import proofs.«01_k».proof.Proof.Gen.RnnInIdeal.Launch
public import proofs.«01_k».proof.Proof.Gen.RnnInIdeal.Points
public import proofs.«01_k».proof.Proof.Gen.RnnInIdeal.Frame
public import proofs.«01_k».proof.Proof.Gen.RnnInIdeal.Value
public import proofs.«01_k».proof.Proof.Gen.RnnInReferenceIdeal
public import proofs.«01_k».proof.Proof.Gen.RnnInReferenceIdeal.Run
public import proofs.«01_k».proof.Proof.Gen.RnnInReferenceIdeal.Read
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Gen.SampleIn
public import proofs.«01_k».proof.Proof.Gen.SampleIn.Skeleton
public import proofs.«01_k».proof.Proof.Gen.SampleIn.Launch
public import proofs.«01_k».proof.Proof.Gen.SampleIn.Points
public import proofs.«01_k».proof.Proof.Gen.SampleIn.Frame
public import proofs.«01_k».proof.Proof.Gen.SampleInIdeal
public import proofs.«01_k».proof.Proof.Gen.SampleInIdeal.Skeleton
public import proofs.«01_k».proof.Proof.Gen.SampleInIdeal.Launch
public import proofs.«01_k».proof.Proof.Gen.SampleInIdeal.Points
public import proofs.«01_k».proof.Proof.Gen.SampleInIdeal.Frame
public import proofs.«01_k».proof.Proof.Gen.SampleInIdeal.Value
public import proofs.«01_k».proof.Proof.Gen.SampleInReferenceIdeal
public import proofs.«01_k».proof.Proof.Gen.SampleInReferenceIdeal.Run
public import proofs.«01_k».proof.Proof.Gen.SampleInReferenceIdeal.Read
public import proofs.«01_k».proof.Proof.Equation
public import proofs.«01_k».proof.Proof.Mlp.Equation
public import proofs.«01_k».proof.Proof.InProj.Equation
public import proofs.«01_k».proof.Proof.RnnIn.Equation
public import proofs.«01_k».proof.Proof.AttnOut.Equation
public import proofs.«01_k».proof.Proof.SampleIn.Equation
public import Idealize.ShloMosaic.Adequacy
public import Idealize.ShloMosaic.Init

@[expose] public section

noncomputable section

namespace Cert.Proof

open Idealize.ShloMosaic Idealize.SL.Sem

/-- The reference's frame: its run leaves its arguments as they were, and it declares no semaphore. -/
theorem frame_reference : Cert.quiescent_ReferenceIdeal := by
  intro m ρ _
  exact (θ_run Cert.ReferenceIdeal.defs _ _).mono
    (fun r h => ⟨fun c => (h c).2.2.2, sem_eq_zero_of_no_sems (by decide) r.2⟩)
    (Cert.ReferenceIdeal.StepRun.run_iter (F := Ideal) m ρ
      (fun c n => Nat.rec (motive := fun _ => Cert.ReferenceIdeal.Step.State Ideal)
        (Cert.ReferenceIdeal.StepRun.initState m c) (fun k s => Cert.ReferenceIdeal.Step.step k s) n)
      (fun _ => rfl) (fun _ _ => rfl))

/-- The value claim: on the same arguments the kernel and the reference end with the same three arrays. -/
theorem algebraic : Cert.algebraic_KernelIdeal_ReferenceIdeal := by
  intro m ρ m' ρ' _ hagree
  refine ⟨fun c => Cert.KernelIdeal.Value.G12 m c, fun c => Cert.KernelIdeal.Value.G13 m c,
    fun c => Cert.KernelIdeal.Value.G14 m c, Cert.KernelIdeal.Value.run m ρ, ?_⟩
  refine (θ_run Cert.ReferenceIdeal.defs _ _).mono (fun r h c => ?_)
    (Cert.ReferenceIdeal.StepRun.run_iter (F := Ideal) m' ρ' (fun c => Rglru.refStates m c)
      (fun c => ?_) (fun _ _ => rfl))
  · obtain ⟨h0, h1, h2, h3, h4, h5, h6, h7, h8, h9, h10, h11⟩ := hagree c
    obtain ⟨ry, rb, rh, rest⟩ := h c
    refine ⟨ry.trans ?_, rb.trans ?_, rh.trans (Rglru.same_hl m c), rest⟩
    · rw [h0, h2, h10, h11]; exact Rglru.same_y m c
    · rw [h1]; exact Rglru.same_buf m c
  · obtain ⟨h0, h1, h2, h3, h4, h5, h6, h7, h8, h9, h10, h11⟩ := hagree c
    unfold Cert.ReferenceIdeal.StepRun.initState
    rw [h1, h3, h4, h5, h6, h7, h8, h9]
    rfl

/-- The MLP's reference's frame: its run leaves its arguments as they were, and it declares no semaphore. -/
theorem frame_mlp_reference : Cert.quiescent_MlpReferenceIdeal := by
  intro m ρ _
  exact (θ_run Cert.MlpReferenceIdeal.defs _ _).mono
    (fun r h => ⟨fun c => (h c).2, sem_eq_zero_of_no_sems (by decide) r.2⟩)
    (Cert.MlpReferenceIdeal.Value.run (F := Ideal) m ρ)

/-- The MLP's value claim: on the same arguments its kernel and its reference end with the same array. -/
theorem algebraic_mlp : Cert.algebraic_MlpIdeal_MlpReferenceIdeal := by
  intro m ρ m' ρ' _ hagree
  refine ⟨fun c => Cert.MlpIdeal.Value.G5 m c, Cert.MlpIdeal.Value.run m ρ, ?_⟩
  refine (θ_run Cert.MlpReferenceIdeal.defs _ _).mono (fun r h c => ?_) (Cert.MlpReferenceIdeal.Value.run (F := Ideal) m' ρ')
  obtain ⟨h0, h1, h2, h3, h4⟩ := hagree c
  refine ⟨(h c).1.trans ?_, (h c).2⟩
  rw [Cert.MlpReferenceIdeal.Read.val_main_v30_eq, h0, h1, h2, h3, h4]
  exact Mlp.same m c

/-- The input projection's reference's frame: its run leaves its arguments as they were, and it declares no semaphore. -/
theorem frame_inproj_reference : Cert.quiescent_InProjReferenceIdeal := by
  intro m ρ _
  exact (θ_run Cert.InProjReferenceIdeal.defs _ _).mono
    (fun r h => ⟨fun c => (h c).2.2.2.2.2.2.2.2.2, sem_eq_zero_of_no_sems (by decide) r.2⟩)
    (Cert.InProjReferenceIdeal.Value.run (F := Ideal) m ρ)

/-- The input projection's value claim: on the same arguments its kernel and its reference end with the same nine arrays. -/
theorem algebraic_inproj : Cert.algebraic_InProjIdeal_InProjReferenceIdeal := by
  intro m ρ m' ρ' _ hagree
  refine ⟨fun c => (Cert.InProjIdeal.Gen.dats m 0 c).arrAt 6 Cert.InProjIdeal.cfg0.N,
    fun c => (Cert.InProjIdeal.Gen.dats m 0 c).arrAt 7 Cert.InProjIdeal.cfg0.N,
    fun c => (Cert.InProjIdeal.Gen.dats m 0 c).arrAt 8 Cert.InProjIdeal.cfg0.N,
    fun c => (Cert.InProjIdeal.Gen.dats m 0 c).arrAt 9 Cert.InProjIdeal.cfg0.N,
    fun c => (Cert.InProjIdeal.Gen.dats m 0 c).arrAt 10 Cert.InProjIdeal.cfg0.N,
    fun c => (Cert.InProjIdeal.Gen.dats m 0 c).arrAt 11 Cert.InProjIdeal.cfg0.N,
    fun c => (Cert.InProjIdeal.Gen.dats m 0 c).arrAt 12 Cert.InProjIdeal.cfg0.N,
    fun c => (Cert.InProjIdeal.Gen.dats m 0 c).arrAt 13 Cert.InProjIdeal.cfg0.N,
    fun c => (Cert.InProjIdeal.Gen.dats m 0 c).arrAt 14 Cert.InProjIdeal.cfg0.N, Cert.InProjIdeal.Value.run_blocks m ρ, ?_⟩
  refine (θ_run Cert.InProjReferenceIdeal.defs _ _).mono (fun r h c => ?_) (Cert.InProjReferenceIdeal.Value.run (F := Ideal) m' ρ')
  obtain ⟨h0, h1, h2⟩ := hagree c
  obtain ⟨r0, r1, r2, r3, r4, r5, r6, r7, r8, rest⟩ := h c
  rw [Cert.InProjReferenceIdeal.Read.val_main_v116_eq] at r0
  rw [Cert.InProjReferenceIdeal.Read.val_main_v117_eq] at r1
  rw [Cert.InProjReferenceIdeal.Read.val_main_v118_eq] at r2
  rw [Cert.InProjReferenceIdeal.Read.val_main_v119_eq] at r3
  rw [Cert.InProjReferenceIdeal.Read.val_main_v120_eq] at r4
  rw [Cert.InProjReferenceIdeal.Read.val_main_v121_eq] at r5
  rw [Cert.InProjReferenceIdeal.Read.val_main_v122_eq] at r6
  rw [Cert.InProjReferenceIdeal.Read.val_main_v123_eq] at r7
  rw [Cert.InProjReferenceIdeal.Read.val_main_v124_eq] at r8
  rw [h0, h1, h2] at r0 r1 r2 r3 r4 r5 r6 r7 r8
  exact ⟨r0.trans (InProj.same0 m c), r1.trans (InProj.same1 m c), r2.trans (InProj.same2 m c), r3.trans (InProj.same3 m c),
    r4.trans (InProj.same4 m c), r5.trans (InProj.same5 m c), r6.trans (InProj.same6 m c), r7.trans (InProj.same7 m c),
    r8.trans (InProj.same8 m c), rest⟩

theorem frame_rnnin_reference : Cert.quiescent_RnnInReferenceIdeal := by
  intro m ρ _
  exact (θ_run Cert.RnnInReferenceIdeal.defs _ _).mono
    (fun r h => ⟨fun c => (h c).2.2, sem_eq_zero_of_no_sems (by decide) r.2⟩)
    (Cert.RnnInReferenceIdeal.Value.run (F := Ideal) m ρ)

/-- The value claim of the recurrent layer's input projection. -/
theorem algebraic_rnnin : Cert.algebraic_RnnInIdeal_RnnInReferenceIdeal := by
  intro m ρ m' ρ' _ hagree
  refine ⟨fun c => (Cert.RnnInIdeal.Gen.dats m 0 c).arrAt 6 Cert.RnnInIdeal.cfg0.N,
    fun c => (Cert.RnnInIdeal.Gen.dats m 0 c).arrAt 7 Cert.RnnInIdeal.cfg0.N, Cert.RnnInIdeal.Value.run_blocks m ρ, ?_⟩
  refine (θ_run Cert.RnnInReferenceIdeal.defs _ _).mono (fun r h c => ?_) (Cert.RnnInReferenceIdeal.Value.run (F := Ideal) m' ρ')
  obtain ⟨h0, h1, h2⟩ := hagree c
  obtain ⟨r0, r1, rest⟩ := h c
  rw [Cert.RnnInReferenceIdeal.Read.val_main_v14_eq] at r0
  rw [Cert.RnnInReferenceIdeal.Read.val_main_v15_eq] at r1
  rw [h0, h1, h2] at r0 r1
  exact ⟨r0.trans (RnnIn.same0 m c), r1.trans (RnnIn.same1 m c), rest⟩

theorem frame_attnout_reference : Cert.quiescent_AttnOutReferenceIdeal := by
  intro m ρ _
  exact (θ_run Cert.AttnOutReferenceIdeal.defs _ _).mono
    (fun r h => ⟨fun c => (h c).2, sem_eq_zero_of_no_sems (by decide) r.2⟩)
    (Cert.AttnOutReferenceIdeal.Value.run (F := Ideal) m ρ)

/-- The value claim of the attention layer's output projection. -/
theorem algebraic_attnout : Cert.algebraic_AttnOutIdeal_AttnOutReferenceIdeal := by
  intro m ρ m' ρ' _ hagree
  refine ⟨fun c => (Cert.AttnOutIdeal.Gen.dats m 0 c).arrAt 5 Cert.AttnOutIdeal.cfg0.N, Cert.AttnOutIdeal.Value.run_blocks m ρ, ?_⟩
  refine (θ_run Cert.AttnOutReferenceIdeal.defs _ _).mono (fun r h c => ?_) (Cert.AttnOutReferenceIdeal.Value.run (F := Ideal) m' ρ')
  obtain ⟨h0, h1, h2, h3, h4⟩ := hagree c
  obtain ⟨r0, rest⟩ := h c
  rw [Cert.AttnOutReferenceIdeal.Read.val_main_v15_eq] at r0
  rw [h0, h1, h2, h3, h4] at r0
  exact ⟨r0.trans (AttnOut.same m c), rest⟩

theorem frame_samplein_reference : Cert.quiescent_SampleInReferenceIdeal := by
  intro m ρ _
  exact (θ_run Cert.SampleInReferenceIdeal.defs _ _).mono
    (fun r h => ⟨fun c => (h c).2.2.2.2.2.2, sem_eq_zero_of_no_sems (by decide) r.2⟩)
    (Cert.SampleInReferenceIdeal.Value.run (F := Ideal) m ρ)

/-- The value claim of the sample group's input projection. -/
theorem algebraic_samplein : Cert.algebraic_SampleInIdeal_SampleInReferenceIdeal := by
  intro m ρ m' ρ' _ hagree
  refine ⟨fun c => (Cert.SampleInIdeal.Gen.dats m 0 c).arrAt 6 Cert.SampleInIdeal.cfg0.N,
    fun c => (Cert.SampleInIdeal.Gen.dats m 0 c).arrAt 7 Cert.SampleInIdeal.cfg0.N,
    fun c => (Cert.SampleInIdeal.Gen.dats m 0 c).arrAt 8 Cert.SampleInIdeal.cfg0.N,
    fun c => (Cert.SampleInIdeal.Gen.dats m 0 c).arrAt 9 Cert.SampleInIdeal.cfg0.N,
    fun c => (Cert.SampleInIdeal.Gen.dats m 0 c).arrAt 10 Cert.SampleInIdeal.cfg0.N,
    fun c => (Cert.SampleInIdeal.Gen.dats m 0 c).arrAt 11 Cert.SampleInIdeal.cfg0.N, Cert.SampleInIdeal.Value.run_blocks m ρ, ?_⟩
  refine (θ_run Cert.SampleInReferenceIdeal.defs _ _).mono (fun r h c => ?_) (Cert.SampleInReferenceIdeal.Value.run (F := Ideal) m' ρ')
  obtain ⟨h0, h1, h2⟩ := hagree c
  obtain ⟨r0, r1, r2, r3, r4, r5, rest⟩ := h c
  rw [Cert.SampleInReferenceIdeal.Read.val_main_v117_eq] at r0
  rw [Cert.SampleInReferenceIdeal.Read.val_main_v118_eq] at r1
  rw [Cert.SampleInReferenceIdeal.Read.val_main_v119_eq] at r2
  rw [Cert.SampleInReferenceIdeal.Read.val_main_v120_eq] at r3
  rw [Cert.SampleInReferenceIdeal.Read.val_main_v121_eq] at r4
  rw [Cert.SampleInReferenceIdeal.Read.val_main_v122_eq] at r5
  rw [h0, h1, h2] at r0 r1 r2 r3 r4 r5
  exact ⟨r0.trans (SampleIn.same0 m c), r1.trans (SampleIn.same1 m c), r2.trans (SampleIn.same2 m c), r3.trans (SampleIn.same3 m c),
    r4.trans (SampleIn.same4 m c), r5.trans (SampleIn.same5 m c), rest⟩

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.InProj.Gen.facts, Cert.InProjIdeal.Gen.facts, Cert.InProjReferenceIdeal.Gen.facts,
  Cert.RnnIn.Gen.facts, Cert.RnnInIdeal.Gen.facts, Cert.RnnInReferenceIdeal.Gen.facts,
  Cert.AttnOut.Gen.facts, Cert.AttnOutIdeal.Gen.facts, Cert.AttnOutReferenceIdeal.Gen.facts,
  Cert.SampleIn.Gen.facts, Cert.SampleInIdeal.Gen.facts, Cert.SampleInReferenceIdeal.Gen.facts,
  fun m ρ _ => Cert.Kernel.Gen.frame m ρ, fun m ρ _ => Cert.KernelIdeal.Gen.frame m ρ, frame_reference,
  fun m ρ _ => Cert.Mlp.Gen.frame m ρ, fun m ρ _ => Cert.MlpIdeal.Gen.frame m ρ, frame_mlp_reference,
  fun m ρ _ => Cert.InProj.Gen.frame m ρ, fun m ρ _ => Cert.InProjIdeal.Gen.frame m ρ, frame_inproj_reference,
  fun m ρ _ => Cert.RnnIn.Gen.frame m ρ, fun m ρ _ => Cert.RnnInIdeal.Gen.frame m ρ, frame_rnnin_reference,
  fun m ρ _ => Cert.AttnOut.Gen.frame m ρ, fun m ρ _ => Cert.AttnOutIdeal.Gen.frame m ρ, frame_attnout_reference,
  fun m ρ _ => Cert.SampleIn.Gen.frame m ρ, fun m ρ _ => Cert.SampleInIdeal.Gen.frame m ρ, frame_samplein_reference,
  trivial, algebraic, trivial, algebraic_mlp, trivial, algebraic_inproj,
  trivial, algebraic_rnnin, trivial, algebraic_attnout, trivial, algebraic_samplein⟩

end Cert.Proof

end
